-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_KernelMla (m : (ℓ : Loc Cert.KernelMla.nD Cert.KernelMla.τ Cert.KernelMla.sig) → Buf (Elt Bits) ℓ) : Prop :=
  True

def Pre_KernelMlaIdeal (m : (ℓ : Loc Cert.KernelMlaIdeal.nD Cert.KernelMlaIdeal.τ Cert.KernelMlaIdeal.sig) → Buf (Elt Ideal) ℓ) : Prop :=
  True

def Pre_KernelMlaIdeal_finite_qk_mla [hPre_finite_qk_mla : Cert.Pre_finite_qk_mla.Facts] (m : (ℓ : Loc Cert.KernelMlaIdeal.nD Cert.KernelMlaIdeal.τ Cert.KernelMlaIdeal.sig) → Buf (Elt Ideal) ℓ) : Prop :=
  ∀ c : Dev Cert.KernelMlaIdeal.nD,
    (Cert.Pre_finite_qk_mla.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2))).1 = (fun _ => 1#1)
    ∧ (Cert.Pre_finite_qk_mla.fn (F := Ideal) (m ((c.tc : Thread Cert.KernelMlaIdeal.nD Cert.KernelMlaIdeal.τ).loc Cert.KernelMlaIdeal.main_arg0)) (m ((c.tc : Thread Cert.KernelMlaIdeal.nD Cert.KernelMlaIdeal.τ).loc Cert.KernelMlaIdeal.main_arg1)) (m ((c.tc : Thread Cert.KernelMlaIdeal.nD Cert.KernelMlaIdeal.τ).loc Cert.KernelMlaIdeal.main_arg2))).2 = (fun _ => 1#1)

def Pre_ReferenceMlaIdeal (m : (ℓ : Loc Cert.ReferenceMlaIdeal.nD Cert.ReferenceMlaIdeal.τ Cert.ReferenceMlaIdeal.sig) → Buf (Elt Ideal) ℓ) : Prop :=
  True

def Pre_ReferenceMlaIdeal_finite_qk_mla [hPre_finite_qk_mla : Cert.Pre_finite_qk_mla.Facts] (m : (ℓ : Loc Cert.ReferenceMlaIdeal.nD Cert.ReferenceMlaIdeal.τ Cert.ReferenceMlaIdeal.sig) → Buf (Elt Ideal) ℓ) : Prop :=
  ∀ c : Dev Cert.ReferenceMlaIdeal.nD,
    (Cert.Pre_finite_qk_mla.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2))).1 = (fun _ => 1#1)
    ∧ (Cert.Pre_finite_qk_mla.fn (F := Ideal) (m ((c.tc : Thread Cert.ReferenceMlaIdeal.nD Cert.ReferenceMlaIdeal.τ).loc Cert.ReferenceMlaIdeal.main_arg0)) (m ((c.tc : Thread Cert.ReferenceMlaIdeal.nD Cert.ReferenceMlaIdeal.τ).loc Cert.ReferenceMlaIdeal.main_arg1)) (m ((c.tc : Thread Cert.ReferenceMlaIdeal.nD Cert.ReferenceMlaIdeal.τ).loc Cert.ReferenceMlaIdeal.main_arg2))).2 = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOutproj (m : (ℓ : Loc Cert.KernelOutproj.nD Cert.KernelOutproj.τ Cert.KernelOutproj.sig) → Buf (Elt Bits) ℓ) : Prop :=
  True

def Pre_KernelOutprojIdeal (m : (ℓ : Loc Cert.KernelOutprojIdeal.nD Cert.KernelOutprojIdeal.τ Cert.KernelOutprojIdeal.sig) → Buf (Elt Ideal) ℓ) : Prop :=
  True

def Pre_ReferenceOutprojIdeal (m : (ℓ : Loc Cert.ReferenceOutprojIdeal.nD Cert.ReferenceOutprojIdeal.τ Cert.ReferenceOutprojIdeal.sig) → Buf (Elt Ideal) ℓ) : Prop :=
  True

def Pre_KernelCombine (m : (ℓ : Loc Cert.KernelCombine.nD Cert.KernelCombine.τ Cert.KernelCombine.sig) → Buf (Elt Bits) ℓ) : Prop :=
  True

def Pre_KernelCombineIdeal (m : (ℓ : Loc Cert.KernelCombineIdeal.nD Cert.KernelCombineIdeal.τ Cert.KernelCombineIdeal.sig) → Buf (Elt Ideal) ℓ) : Prop :=
  True

def Pre_ReferenceCombineIdeal (m : (ℓ : Loc Cert.ReferenceCombineIdeal.nD Cert.ReferenceCombineIdeal.τ Cert.ReferenceCombineIdeal.sig) → Buf (Elt Ideal) ℓ) : Prop :=
  True

def Pre_KernelPrepare (m : (ℓ : Loc Cert.KernelPrepare.nD Cert.KernelPrepare.τ Cert.KernelPrepare.sig) → Buf (Elt Bits) ℓ) : Prop :=
  True

def Pre_KernelPrepareIdeal (m : (ℓ : Loc Cert.KernelPrepareIdeal.nD Cert.KernelPrepareIdeal.τ Cert.KernelPrepareIdeal.sig) → Buf (Elt Ideal) ℓ) : Prop :=
  True

def Pre_ReferencePrepareIdeal (m : (ℓ : Loc Cert.ReferencePrepareIdeal.nD Cert.ReferencePrepareIdeal.τ Cert.ReferencePrepareIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelMla [hKernelMla : Cert.KernelMla.Facts] : Prop :=
  ∀ (m : (ℓ : Loc Cert.KernelMla.nD Cert.KernelMla.τ Cert.KernelMla.sig) → Buf (Elt Bits) ℓ) (g : Dev Cert.KernelMla.nD → PrngReg), Pre_KernelMla m →
    θ_run (Cert.KernelMla.defs (F := Bits)) (onTc (τ := Cert.KernelMla.τ) (Cert.KernelMla.main (F := Bits))) ⟨m, fun _ => 0, g⟩ (fun r => (∀ c : Dev Cert.KernelMla.nD,
      r.2.mem ((c.tc : Thread Cert.KernelMla.nD Cert.KernelMla.τ).loc Cert.KernelMla.main_arg0) = m ((c.tc : Thread Cert.KernelMla.nD Cert.KernelMla.τ).loc Cert.KernelMla.main_arg0)
      ∧ r.2.mem ((c.tc : Thread Cert.KernelMla.nD Cert.KernelMla.τ).loc Cert.KernelMla.main_arg1) = m ((c.tc : Thread Cert.KernelMla.nD Cert.KernelMla.τ).loc Cert.KernelMla.main_arg1)
      ∧ r.2.mem ((c.tc : Thread Cert.KernelMla.nD Cert.KernelMla.τ).loc Cert.KernelMla.main_arg2) = m ((c.tc : Thread Cert.KernelMla.nD Cert.KernelMla.τ).loc Cert.KernelMla.main_arg2))
      ∧ r.2.sem = fun _ => 0)

def quiescent_KernelMlaIdeal [hKernelMlaIdeal : Cert.KernelMlaIdeal.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)

def quiescent_KernelMlaIdeal_pre_finite_qk_mla [hKernelMlaIdeal : Cert.KernelMlaIdeal.Facts] [hPre_finite_qk_mla : Cert.Pre_finite_qk_mla.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg), Pre_KernelMlaIdeal_finite_qk_mla m →
    θ_run (Cert.KernelMlaIdeal.defs (F := Ideal)) (onTc (τ := Cert.KernelMlaIdeal.τ) (Cert.KernelMlaIdeal.main (F := Ideal))) ⟨m, fun _ => 0, g⟩ (fun r => (∀ c : Dev Cert.KernelMlaIdeal.nD,
      r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
      ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
      ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ r.2.sem = fun _ => 0)

def quiescent_ReferenceMlaIdeal [hReferenceMlaIdeal : Cert.ReferenceMlaIdeal.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2))
      ∧ r.2.sem = fun _ => 0)

def quiescent_ReferenceMlaIdeal_pre_finite_qk_mla [hReferenceMlaIdeal : Cert.ReferenceMlaIdeal.Facts] [hPre_finite_qk_mla : Cert.Pre_finite_qk_mla.Facts] : Prop :=
  ∀ (m : (ℓ : Loc Cert.ReferenceMlaIdeal.nD Cert.ReferenceMlaIdeal.τ Cert.ReferenceMlaIdeal.sig) → Buf (Elt Ideal) ℓ) (g : Dev Cert.ReferenceMlaIdeal.nD → PrngReg), Pre_ReferenceMlaIdeal_finite_qk_mla m →
    θ_run (Cert.ReferenceMlaIdeal.defs (F := Ideal)) (onTc (τ := Cert.ReferenceMlaIdeal.τ) (Cert.ReferenceMlaIdeal.main (F := Ideal))) ⟨m, fun _ => 0, g⟩ (fun r => (∀ c : Dev Cert.ReferenceMlaIdeal.nD,
      r.2.mem ((c.tc : Thread Cert.ReferenceMlaIdeal.nD Cert.ReferenceMlaIdeal.τ).loc Cert.ReferenceMlaIdeal.main_arg0) = m ((c.tc : Thread Cert.ReferenceMlaIdeal.nD Cert.ReferenceMlaIdeal.τ).loc Cert.ReferenceMlaIdeal.main_arg0)
      ∧ r.2.mem ((c.tc : Thread Cert.ReferenceMlaIdeal.nD Cert.ReferenceMlaIdeal.τ).loc Cert.ReferenceMlaIdeal.main_arg1) = m ((c.tc : Thread Cert.ReferenceMlaIdeal.nD Cert.ReferenceMlaIdeal.τ).loc Cert.ReferenceMlaIdeal.main_arg1)
      ∧ r.2.mem ((c.tc : Thread Cert.ReferenceMlaIdeal.nD Cert.ReferenceMlaIdeal.τ).loc Cert.ReferenceMlaIdeal.main_arg2) = m ((c.tc : Thread Cert.ReferenceMlaIdeal.nD Cert.ReferenceMlaIdeal.τ).loc Cert.ReferenceMlaIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7))
      ∧ r.2.sem = fun _ => 0)

def quiescent_KernelOutproj [hKernelOutproj : Cert.KernelOutproj.Facts] : Prop :=
  ∀ (m : (ℓ : Loc Cert.KernelOutproj.nD Cert.KernelOutproj.τ Cert.KernelOutproj.sig) → Buf (Elt Bits) ℓ) (g : Dev Cert.KernelOutproj.nD → PrngReg), Pre_KernelOutproj m →
    θ_run (Cert.KernelOutproj.defs (F := Bits)) (onTc (τ := Cert.KernelOutproj.τ) (Cert.KernelOutproj.main (F := Bits))) ⟨m, fun _ => 0, g⟩ (fun r => (∀ c : Dev Cert.KernelOutproj.nD,
      r.2.mem ((c.tc : Thread Cert.KernelOutproj.nD Cert.KernelOutproj.τ).loc Cert.KernelOutproj.main_arg0) = m ((c.tc : Thread Cert.KernelOutproj.nD Cert.KernelOutproj.τ).loc Cert.KernelOutproj.main_arg0)
      ∧ r.2.mem ((c.tc : Thread Cert.KernelOutproj.nD Cert.KernelOutproj.τ).loc Cert.KernelOutproj.main_arg1) = m ((c.tc : Thread Cert.KernelOutproj.nD Cert.KernelOutproj.τ).loc Cert.KernelOutproj.main_arg1)
      ∧ r.2.mem ((c.tc : Thread Cert.KernelOutproj.nD Cert.KernelOutproj.τ).loc Cert.KernelOutproj.main_arg2) = m ((c.tc : Thread Cert.KernelOutproj.nD Cert.KernelOutproj.τ).loc Cert.KernelOutproj.main_arg2)
      ∧ r.2.mem ((c.tc : Thread Cert.KernelOutproj.nD Cert.KernelOutproj.τ).loc Cert.KernelOutproj.main_arg3) = m ((c.tc : Thread Cert.KernelOutproj.nD Cert.KernelOutproj.τ).loc Cert.KernelOutproj.main_arg3)
      ∧ r.2.mem ((c.tc : Thread Cert.KernelOutproj.nD Cert.KernelOutproj.τ).loc Cert.KernelOutproj.main_arg4) = m ((c.tc : Thread Cert.KernelOutproj.nD Cert.KernelOutproj.τ).loc Cert.KernelOutproj.main_arg4)
      ∧ r.2.mem ((c.tc : Thread Cert.KernelOutproj.nD Cert.KernelOutproj.τ).loc Cert.KernelOutproj.main_arg5) = m ((c.tc : Thread Cert.KernelOutproj.nD Cert.KernelOutproj.τ).loc Cert.KernelOutproj.main_arg5)
      ∧ r.2.mem ((c.tc : Thread Cert.KernelOutproj.nD Cert.KernelOutproj.τ).loc Cert.KernelOutproj.main_arg6) = m ((c.tc : Thread Cert.KernelOutproj.nD Cert.KernelOutproj.τ).loc Cert.KernelOutproj.main_arg6))
      ∧ r.2.sem = fun _ => 0)

def quiescent_KernelOutprojIdeal [hKernelOutprojIdeal : Cert.KernelOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg), Pre_KernelOutprojIdeal m →
    θ_run (Cert.KernelOutprojIdeal.defs (F := Ideal)) (onTc (τ := Cert.KernelOutprojIdeal.τ) (Cert.KernelOutprojIdeal.main (F := Ideal))) ⟨m, fun _ => 0, g⟩ (fun r => (∀ c : Dev Cert.KernelOutprojIdeal.nD,
      r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
      ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
      ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
      ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
      ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4)
      ∧ r.2.mem ((c.tc : Thread Cert.KernelOutprojIdeal.nD Cert.KernelOutprojIdeal.τ).loc Cert.KernelOutprojIdeal.main_arg5) = m ((c.tc : Thread Cert.KernelOutprojIdeal.nD Cert.KernelOutprojIdeal.τ).loc Cert.KernelOutprojIdeal.main_arg5)
      ∧ r.2.mem ((c.tc : Thread Cert.KernelOutprojIdeal.nD Cert.KernelOutprojIdeal.τ).loc Cert.KernelOutprojIdeal.main_arg6) = m ((c.tc : Thread Cert.KernelOutprojIdeal.nD Cert.KernelOutprojIdeal.τ).loc Cert.KernelOutprojIdeal.main_arg6))
      ∧ r.2.sem = fun _ => 0)

def quiescent_ReferenceOutprojIdeal [hReferenceOutprojIdeal : Cert.ReferenceOutprojIdeal.Facts] : Prop :=
  ∀ (m : (ℓ : Loc Cert.ReferenceOutprojIdeal.nD Cert.ReferenceOutprojIdeal.τ Cert.ReferenceOutprojIdeal.sig) → Buf (Elt Ideal) ℓ) (g : Dev Cert.ReferenceOutprojIdeal.nD → PrngReg), Pre_ReferenceOutprojIdeal m →
    θ_run (Cert.ReferenceOutprojIdeal.defs (F := Ideal)) (onTc (τ := Cert.ReferenceOutprojIdeal.τ) (Cert.ReferenceOutprojIdeal.main (F := Ideal))) ⟨m, fun _ => 0, g⟩ (fun r => (∀ c : Dev Cert.ReferenceOutprojIdeal.nD,
      r.2.mem ((c.tc : Thread Cert.ReferenceOutprojIdeal.nD Cert.ReferenceOutprojIdeal.τ).loc Cert.ReferenceOutprojIdeal.main_arg0) = m ((c.tc : Thread Cert.ReferenceOutprojIdeal.nD Cert.ReferenceOutprojIdeal.τ).loc Cert.ReferenceOutprojIdeal.main_arg0)
      ∧ r.2.mem ((c.tc : Thread Cert.ReferenceOutprojIdeal.nD Cert.ReferenceOutprojIdeal.τ).loc Cert.ReferenceOutprojIdeal.main_arg1) = m ((c.tc : Thread Cert.ReferenceOutprojIdeal.nD Cert.ReferenceOutprojIdeal.τ).loc Cert.ReferenceOutprojIdeal.main_arg1)
      ∧ r.2.mem ((c.tc : Thread Cert.ReferenceOutprojIdeal.nD Cert.ReferenceOutprojIdeal.τ).loc Cert.ReferenceOutprojIdeal.main_arg2) = m ((c.tc : Thread Cert.ReferenceOutprojIdeal.nD Cert.ReferenceOutprojIdeal.τ).loc Cert.ReferenceOutprojIdeal.main_arg2)
      ∧ r.2.mem ((c.tc : Thread Cert.ReferenceOutprojIdeal.nD Cert.ReferenceOutprojIdeal.τ).loc Cert.ReferenceOutprojIdeal.main_arg3) = m ((c.tc : Thread Cert.ReferenceOutprojIdeal.nD Cert.ReferenceOutprojIdeal.τ).loc Cert.ReferenceOutprojIdeal.main_arg3)
      ∧ r.2.mem ((c.tc : Thread Cert.ReferenceOutprojIdeal.nD Cert.ReferenceOutprojIdeal.τ).loc Cert.ReferenceOutprojIdeal.main_arg4) = m ((c.tc : Thread Cert.ReferenceOutprojIdeal.nD Cert.ReferenceOutprojIdeal.τ).loc Cert.ReferenceOutprojIdeal.main_arg4)
      ∧ r.2.mem ((c.tc : Thread Cert.ReferenceOutprojIdeal.nD Cert.ReferenceOutprojIdeal.τ).loc Cert.ReferenceOutprojIdeal.main_arg5) = m ((c.tc : Thread Cert.ReferenceOutprojIdeal.nD Cert.ReferenceOutprojIdeal.τ).loc Cert.ReferenceOutprojIdeal.main_arg5)
      ∧ r.2.mem ((c.tc : Thread Cert.ReferenceOutprojIdeal.nD Cert.ReferenceOutprojIdeal.τ).loc Cert.ReferenceOutprojIdeal.main_arg6) = m ((c.tc : Thread Cert.ReferenceOutprojIdeal.nD Cert.ReferenceOutprojIdeal.τ).loc Cert.ReferenceOutprojIdeal.main_arg6))
      ∧ r.2.sem = fun _ => 0)

def quiescent_KernelCombine [hKernelCombine : Cert.KernelCombine.Facts] : Prop :=
  ∀ (m : (ℓ : Loc Cert.KernelCombine.nD Cert.KernelCombine.τ Cert.KernelCombine.sig) → Buf (Elt Bits) ℓ) (g : Dev Cert.KernelCombine.nD → PrngReg), Pre_KernelCombine m →
    θ_run (Cert.KernelCombine.defs (F := Bits)) (onTc (τ := Cert.KernelCombine.τ) (Cert.KernelCombine.main (F := Bits))) ⟨m, fun _ => 0, g⟩ (fun r => (∀ c : Dev Cert.KernelCombine.nD,
      r.2.mem ((c.tc : Thread Cert.KernelCombine.nD Cert.KernelCombine.τ).loc Cert.KernelCombine.main_arg0) = m ((c.tc : Thread Cert.KernelCombine.nD Cert.KernelCombine.τ).loc Cert.KernelCombine.main_arg0)
      ∧ r.2.mem ((c.tc : Thread Cert.KernelCombine.nD Cert.KernelCombine.τ).loc Cert.KernelCombine.main_arg1) = m ((c.tc : Thread Cert.KernelCombine.nD Cert.KernelCombine.τ).loc Cert.KernelCombine.main_arg1)
      ∧ r.2.mem ((c.tc : Thread Cert.KernelCombine.nD Cert.KernelCombine.τ).loc Cert.KernelCombine.main_arg2) = m ((c.tc : Thread Cert.KernelCombine.nD Cert.KernelCombine.τ).loc Cert.KernelCombine.main_arg2)
      ∧ r.2.mem ((c.tc : Thread Cert.KernelCombine.nD Cert.KernelCombine.τ).loc Cert.KernelCombine.main_arg3) = m ((c.tc : Thread Cert.KernelCombine.nD Cert.KernelCombine.τ).loc Cert.KernelCombine.main_arg3)
      ∧ r.2.mem ((c.tc : Thread Cert.KernelCombine.nD Cert.KernelCombine.τ).loc Cert.KernelCombine.main_arg4) = m ((c.tc : Thread Cert.KernelCombine.nD Cert.KernelCombine.τ).loc Cert.KernelCombine.main_arg4)
      ∧ r.2.mem ((c.tc : Thread Cert.KernelCombine.nD Cert.KernelCombine.τ).loc Cert.KernelCombine.main_arg5) = m ((c.tc : Thread Cert.KernelCombine.nD Cert.KernelCombine.τ).loc Cert.KernelCombine.main_arg5))
      ∧ r.2.sem = fun _ => 0)

def quiescent_KernelCombineIdeal [hKernelCombineIdeal : Cert.KernelCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg), Pre_KernelCombineIdeal m →
    θ_run (Cert.KernelCombineIdeal.defs (F := Ideal)) (onTc (τ := Cert.KernelCombineIdeal.τ) (Cert.KernelCombineIdeal.main (F := Ideal))) ⟨m, fun _ => 0, g⟩ (fun r => (∀ c : Dev Cert.KernelCombineIdeal.nD,
      r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
      ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
      ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
      ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
      ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
      ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5))
      ∧ r.2.sem = fun _ => 0)

def quiescent_ReferenceCombineIdeal [hReferenceCombineIdeal : Cert.ReferenceCombineIdeal.Facts] : Prop :=
  ∀ (m : (ℓ : Loc Cert.ReferenceCombineIdeal.nD Cert.ReferenceCombineIdeal.τ Cert.ReferenceCombineIdeal.sig) → Buf (Elt Ideal) ℓ) (g : Dev Cert.ReferenceCombineIdeal.nD → PrngReg), Pre_ReferenceCombineIdeal m →
    θ_run (Cert.ReferenceCombineIdeal.defs (F := Ideal)) (onTc (τ := Cert.ReferenceCombineIdeal.τ) (Cert.ReferenceCombineIdeal.main (F := Ideal))) ⟨m, fun _ => 0, g⟩ (fun r => (∀ c : Dev Cert.ReferenceCombineIdeal.nD,
      r.2.mem ((c.tc : Thread Cert.ReferenceCombineIdeal.nD Cert.ReferenceCombineIdeal.τ).loc Cert.ReferenceCombineIdeal.main_arg0) = m ((c.tc : Thread Cert.ReferenceCombineIdeal.nD Cert.ReferenceCombineIdeal.τ).loc Cert.ReferenceCombineIdeal.main_arg0)
      ∧ r.2.mem ((c.tc : Thread Cert.ReferenceCombineIdeal.nD Cert.ReferenceCombineIdeal.τ).loc Cert.ReferenceCombineIdeal.main_arg1) = m ((c.tc : Thread Cert.ReferenceCombineIdeal.nD Cert.ReferenceCombineIdeal.τ).loc Cert.ReferenceCombineIdeal.main_arg1)
      ∧ r.2.mem ((c.tc : Thread Cert.ReferenceCombineIdeal.nD Cert.ReferenceCombineIdeal.τ).loc Cert.ReferenceCombineIdeal.main_arg2) = m ((c.tc : Thread Cert.ReferenceCombineIdeal.nD Cert.ReferenceCombineIdeal.τ).loc Cert.ReferenceCombineIdeal.main_arg2)
      ∧ r.2.mem ((c.tc : Thread Cert.ReferenceCombineIdeal.nD Cert.ReferenceCombineIdeal.τ).loc Cert.ReferenceCombineIdeal.main_arg3) = m ((c.tc : Thread Cert.ReferenceCombineIdeal.nD Cert.ReferenceCombineIdeal.τ).loc Cert.ReferenceCombineIdeal.main_arg3)
      ∧ r.2.mem ((c.tc : Thread Cert.ReferenceCombineIdeal.nD Cert.ReferenceCombineIdeal.τ).loc Cert.ReferenceCombineIdeal.main_arg4) = m ((c.tc : Thread Cert.ReferenceCombineIdeal.nD Cert.ReferenceCombineIdeal.τ).loc Cert.ReferenceCombineIdeal.main_arg4)
      ∧ r.2.mem ((c.tc : Thread Cert.ReferenceCombineIdeal.nD Cert.ReferenceCombineIdeal.τ).loc Cert.ReferenceCombineIdeal.main_arg5) = m ((c.tc : Thread Cert.ReferenceCombineIdeal.nD Cert.ReferenceCombineIdeal.τ).loc Cert.ReferenceCombineIdeal.main_arg5))
      ∧ r.2.sem = fun _ => 0)

def quiescent_KernelPrepare [hKernelPrepare : Cert.KernelPrepare.Facts] : Prop :=
  ∀ (m : (ℓ : Loc Cert.KernelPrepare.nD Cert.KernelPrepare.τ Cert.KernelPrepare.sig) → Buf (Elt Bits) ℓ) (g : Dev Cert.KernelPrepare.nD → PrngReg), Pre_KernelPrepare m →
    θ_run (Cert.KernelPrepare.defs (F := Bits)) (onTc (τ := Cert.KernelPrepare.τ) (Cert.KernelPrepare.main (F := Bits))) ⟨m, fun _ => 0, g⟩ (fun r => (∀ c : Dev Cert.KernelPrepare.nD,
      r.2.mem ((c.tc : Thread Cert.KernelPrepare.nD Cert.KernelPrepare.τ).loc Cert.KernelPrepare.main_arg0) = m ((c.tc : Thread Cert.KernelPrepare.nD Cert.KernelPrepare.τ).loc Cert.KernelPrepare.main_arg0)
      ∧ r.2.mem ((c.tc : Thread Cert.KernelPrepare.nD Cert.KernelPrepare.τ).loc Cert.KernelPrepare.main_arg1) = m ((c.tc : Thread Cert.KernelPrepare.nD Cert.KernelPrepare.τ).loc Cert.KernelPrepare.main_arg1)
      ∧ r.2.mem ((c.tc : Thread Cert.KernelPrepare.nD Cert.KernelPrepare.τ).loc Cert.KernelPrepare.main_arg2) = m ((c.tc : Thread Cert.KernelPrepare.nD Cert.KernelPrepare.τ).loc Cert.KernelPrepare.main_arg2)
      ∧ r.2.mem ((c.tc : Thread Cert.KernelPrepare.nD Cert.KernelPrepare.τ).loc Cert.KernelPrepare.main_arg3) = m ((c.tc : Thread Cert.KernelPrepare.nD Cert.KernelPrepare.τ).loc Cert.KernelPrepare.main_arg3)
      ∧ r.2.mem ((c.tc : Thread Cert.KernelPrepare.nD Cert.KernelPrepare.τ).loc Cert.KernelPrepare.main_arg4) = m ((c.tc : Thread Cert.KernelPrepare.nD Cert.KernelPrepare.τ).loc Cert.KernelPrepare.main_arg4)
      ∧ r.2.mem ((c.tc : Thread Cert.KernelPrepare.nD Cert.KernelPrepare.τ).loc Cert.KernelPrepare.main_arg5) = m ((c.tc : Thread Cert.KernelPrepare.nD Cert.KernelPrepare.τ).loc Cert.KernelPrepare.main_arg5)
      ∧ r.2.mem ((c.tc : Thread Cert.KernelPrepare.nD Cert.KernelPrepare.τ).loc Cert.KernelPrepare.main_arg6) = m ((c.tc : Thread Cert.KernelPrepare.nD Cert.KernelPrepare.τ).loc Cert.KernelPrepare.main_arg6)
      ∧ r.2.mem ((c.tc : Thread Cert.KernelPrepare.nD Cert.KernelPrepare.τ).loc Cert.KernelPrepare.main_arg7) = m ((c.tc : Thread Cert.KernelPrepare.nD Cert.KernelPrepare.τ).loc Cert.KernelPrepare.main_arg7)
      ∧ r.2.mem ((c.tc : Thread Cert.KernelPrepare.nD Cert.KernelPrepare.τ).loc Cert.KernelPrepare.main_arg8) = m ((c.tc : Thread Cert.KernelPrepare.nD Cert.KernelPrepare.τ).loc Cert.KernelPrepare.main_arg8)
      ∧ r.2.mem ((c.tc : Thread Cert.KernelPrepare.nD Cert.KernelPrepare.τ).loc Cert.KernelPrepare.main_arg9) = m ((c.tc : Thread Cert.KernelPrepare.nD Cert.KernelPrepare.τ).loc Cert.KernelPrepare.main_arg9)
      ∧ r.2.mem ((c.tc : Thread Cert.KernelPrepare.nD Cert.KernelPrepare.τ).loc Cert.KernelPrepare.main_arg10) = m ((c.tc : Thread Cert.KernelPrepare.nD Cert.KernelPrepare.τ).loc Cert.KernelPrepare.main_arg10)
      ∧ r.2.mem ((c.tc : Thread Cert.KernelPrepare.nD Cert.KernelPrepare.τ).loc Cert.KernelPrepare.main_arg11) = m ((c.tc : Thread Cert.KernelPrepare.nD Cert.KernelPrepare.τ).loc Cert.KernelPrepare.main_arg11)
      ∧ r.2.mem ((c.tc : Thread Cert.KernelPrepare.nD Cert.KernelPrepare.τ).loc Cert.KernelPrepare.main_arg12) = m ((c.tc : Thread Cert.KernelPrepare.nD Cert.KernelPrepare.τ).loc Cert.KernelPrepare.main_arg12)
      ∧ r.2.mem ((c.tc : Thread Cert.KernelPrepare.nD Cert.KernelPrepare.τ).loc Cert.KernelPrepare.main_arg13) = m ((c.tc : Thread Cert.KernelPrepare.nD Cert.KernelPrepare.τ).loc Cert.KernelPrepare.main_arg13)
      ∧ r.2.mem ((c.tc : Thread Cert.KernelPrepare.nD Cert.KernelPrepare.τ).loc Cert.KernelPrepare.main_arg14) = m ((c.tc : Thread Cert.KernelPrepare.nD Cert.KernelPrepare.τ).loc Cert.KernelPrepare.main_arg14))
      ∧ r.2.sem = fun _ => 0)

def quiescent_KernelPrepareIdeal [hKernelPrepareIdeal : Cert.KernelPrepareIdeal.Facts] : Prop :=
  ∀ (m : (ℓ : Loc Cert.KernelPrepareIdeal.nD Cert.KernelPrepareIdeal.τ Cert.KernelPrepareIdeal.sig) → Buf (Elt Ideal) ℓ) (g : Dev Cert.KernelPrepareIdeal.nD → PrngReg), Pre_KernelPrepareIdeal m →
    θ_run (Cert.KernelPrepareIdeal.defs (F := Ideal)) (onTc (τ := Cert.KernelPrepareIdeal.τ) (Cert.KernelPrepareIdeal.main (F := Ideal))) ⟨m, fun _ => 0, g⟩ (fun r => (∀ c : Dev Cert.KernelPrepareIdeal.nD,
      r.2.mem ((c.tc : Thread Cert.KernelPrepareIdeal.nD Cert.KernelPrepareIdeal.τ).loc Cert.KernelPrepareIdeal.main_arg0) = m ((c.tc : Thread Cert.KernelPrepareIdeal.nD Cert.KernelPrepareIdeal.τ).loc Cert.KernelPrepareIdeal.main_arg0)
      ∧ r.2.mem ((c.tc : Thread Cert.KernelPrepareIdeal.nD Cert.KernelPrepareIdeal.τ).loc Cert.KernelPrepareIdeal.main_arg1) = m ((c.tc : Thread Cert.KernelPrepareIdeal.nD Cert.KernelPrepareIdeal.τ).loc Cert.KernelPrepareIdeal.main_arg1)
      ∧ r.2.mem ((c.tc : Thread Cert.KernelPrepareIdeal.nD Cert.KernelPrepareIdeal.τ).loc Cert.KernelPrepareIdeal.main_arg2) = m ((c.tc : Thread Cert.KernelPrepareIdeal.nD Cert.KernelPrepareIdeal.τ).loc Cert.KernelPrepareIdeal.main_arg2)
      ∧ r.2.mem ((c.tc : Thread Cert.KernelPrepareIdeal.nD Cert.KernelPrepareIdeal.τ).loc Cert.KernelPrepareIdeal.main_arg3) = m ((c.tc : Thread Cert.KernelPrepareIdeal.nD Cert.KernelPrepareIdeal.τ).loc Cert.KernelPrepareIdeal.main_arg3)
      ∧ r.2.mem ((c.tc : Thread Cert.KernelPrepareIdeal.nD Cert.KernelPrepareIdeal.τ).loc Cert.KernelPrepareIdeal.main_arg4) = m ((c.tc : Thread Cert.KernelPrepareIdeal.nD Cert.KernelPrepareIdeal.τ).loc Cert.KernelPrepareIdeal.main_arg4)
      ∧ r.2.mem ((c.tc : Thread Cert.KernelPrepareIdeal.nD Cert.KernelPrepareIdeal.τ).loc Cert.KernelPrepareIdeal.main_arg5) = m ((c.tc : Thread Cert.KernelPrepareIdeal.nD Cert.KernelPrepareIdeal.τ).loc Cert.KernelPrepareIdeal.main_arg5)
      ∧ r.2.mem ((c.tc : Thread Cert.KernelPrepareIdeal.nD Cert.KernelPrepareIdeal.τ).loc Cert.KernelPrepareIdeal.main_arg6) = m ((c.tc : Thread Cert.KernelPrepareIdeal.nD Cert.KernelPrepareIdeal.τ).loc Cert.KernelPrepareIdeal.main_arg6)
      ∧ r.2.mem ((c.tc : Thread Cert.KernelPrepareIdeal.nD Cert.KernelPrepareIdeal.τ).loc Cert.KernelPrepareIdeal.main_arg7) = m ((c.tc : Thread Cert.KernelPrepareIdeal.nD Cert.KernelPrepareIdeal.τ).loc Cert.KernelPrepareIdeal.main_arg7)
      ∧ r.2.mem ((c.tc : Thread Cert.KernelPrepareIdeal.nD Cert.KernelPrepareIdeal.τ).loc Cert.KernelPrepareIdeal.main_arg8) = m ((c.tc : Thread Cert.KernelPrepareIdeal.nD Cert.KernelPrepareIdeal.τ).loc Cert.KernelPrepareIdeal.main_arg8)
      ∧ r.2.mem ((c.tc : Thread Cert.KernelPrepareIdeal.nD Cert.KernelPrepareIdeal.τ).loc Cert.KernelPrepareIdeal.main_arg9) = m ((c.tc : Thread Cert.KernelPrepareIdeal.nD Cert.KernelPrepareIdeal.τ).loc Cert.KernelPrepareIdeal.main_arg9)
      ∧ r.2.mem ((c.tc : Thread Cert.KernelPrepareIdeal.nD Cert.KernelPrepareIdeal.τ).loc Cert.KernelPrepareIdeal.main_arg10) = m ((c.tc : Thread Cert.KernelPrepareIdeal.nD Cert.KernelPrepareIdeal.τ).loc Cert.KernelPrepareIdeal.main_arg10)
      ∧ r.2.mem ((c.tc : Thread Cert.KernelPrepareIdeal.nD Cert.KernelPrepareIdeal.τ).loc Cert.KernelPrepareIdeal.main_arg11) = m ((c.tc : Thread Cert.KernelPrepareIdeal.nD Cert.KernelPrepareIdeal.τ).loc Cert.KernelPrepareIdeal.main_arg11)
      ∧ r.2.mem ((c.tc : Thread Cert.KernelPrepareIdeal.nD Cert.KernelPrepareIdeal.τ).loc Cert.KernelPrepareIdeal.main_arg12) = m ((c.tc : Thread Cert.KernelPrepareIdeal.nD Cert.KernelPrepareIdeal.τ).loc Cert.KernelPrepareIdeal.main_arg12)
      ∧ r.2.mem ((c.tc : Thread Cert.KernelPrepareIdeal.nD Cert.KernelPrepareIdeal.τ).loc Cert.KernelPrepareIdeal.main_arg13) = m ((c.tc : Thread Cert.KernelPrepareIdeal.nD Cert.KernelPrepareIdeal.τ).loc Cert.KernelPrepareIdeal.main_arg13)
      ∧ r.2.mem ((c.tc : Thread Cert.KernelPrepareIdeal.nD Cert.KernelPrepareIdeal.τ).loc Cert.KernelPrepareIdeal.main_arg14) = m ((c.tc : Thread Cert.KernelPrepareIdeal.nD Cert.KernelPrepareIdeal.τ).loc Cert.KernelPrepareIdeal.main_arg14))
      ∧ r.2.sem = fun _ => 0)

def quiescent_ReferencePrepareIdeal [hReferencePrepareIdeal : Cert.ReferencePrepareIdeal.Facts] : Prop :=
  ∀ (m : (ℓ : Loc Cert.ReferencePrepareIdeal.nD Cert.ReferencePrepareIdeal.τ Cert.ReferencePrepareIdeal.sig) → Buf (Elt Ideal) ℓ) (g : Dev Cert.ReferencePrepareIdeal.nD → PrngReg), Pre_ReferencePrepareIdeal m →
    θ_run (Cert.ReferencePrepareIdeal.defs (F := Ideal)) (onTc (τ := Cert.ReferencePrepareIdeal.τ) (Cert.ReferencePrepareIdeal.main (F := Ideal))) ⟨m, fun _ => 0, g⟩ (fun r => (∀ c : Dev Cert.ReferencePrepareIdeal.nD,
      r.2.mem ((c.tc : Thread Cert.ReferencePrepareIdeal.nD Cert.ReferencePrepareIdeal.τ).loc Cert.ReferencePrepareIdeal.main_arg0) = m ((c.tc : Thread Cert.ReferencePrepareIdeal.nD Cert.ReferencePrepareIdeal.τ).loc Cert.ReferencePrepareIdeal.main_arg0)
      ∧ r.2.mem ((c.tc : Thread Cert.ReferencePrepareIdeal.nD Cert.ReferencePrepareIdeal.τ).loc Cert.ReferencePrepareIdeal.main_arg1) = m ((c.tc : Thread Cert.ReferencePrepareIdeal.nD Cert.ReferencePrepareIdeal.τ).loc Cert.ReferencePrepareIdeal.main_arg1)
      ∧ r.2.mem ((c.tc : Thread Cert.ReferencePrepareIdeal.nD Cert.ReferencePrepareIdeal.τ).loc Cert.ReferencePrepareIdeal.main_arg2) = m ((c.tc : Thread Cert.ReferencePrepareIdeal.nD Cert.ReferencePrepareIdeal.τ).loc Cert.ReferencePrepareIdeal.main_arg2)
      ∧ r.2.mem ((c.tc : Thread Cert.ReferencePrepareIdeal.nD Cert.ReferencePrepareIdeal.τ).loc Cert.ReferencePrepareIdeal.main_arg3) = m ((c.tc : Thread Cert.ReferencePrepareIdeal.nD Cert.ReferencePrepareIdeal.τ).loc Cert.ReferencePrepareIdeal.main_arg3)
      ∧ r.2.mem ((c.tc : Thread Cert.ReferencePrepareIdeal.nD Cert.ReferencePrepareIdeal.τ).loc Cert.ReferencePrepareIdeal.main_arg4) = m ((c.tc : Thread Cert.ReferencePrepareIdeal.nD Cert.ReferencePrepareIdeal.τ).loc Cert.ReferencePrepareIdeal.main_arg4)
      ∧ r.2.mem ((c.tc : Thread Cert.ReferencePrepareIdeal.nD Cert.ReferencePrepareIdeal.τ).loc Cert.ReferencePrepareIdeal.main_arg5) = m ((c.tc : Thread Cert.ReferencePrepareIdeal.nD Cert.ReferencePrepareIdeal.τ).loc Cert.ReferencePrepareIdeal.main_arg5)
      ∧ r.2.mem ((c.tc : Thread Cert.ReferencePrepareIdeal.nD Cert.ReferencePrepareIdeal.τ).loc Cert.ReferencePrepareIdeal.main_arg6) = m ((c.tc : Thread Cert.ReferencePrepareIdeal.nD Cert.ReferencePrepareIdeal.τ).loc Cert.ReferencePrepareIdeal.main_arg6)
      ∧ r.2.mem ((c.tc : Thread Cert.ReferencePrepareIdeal.nD Cert.ReferencePrepareIdeal.τ).loc Cert.ReferencePrepareIdeal.main_arg7) = m ((c.tc : Thread Cert.ReferencePrepareIdeal.nD Cert.ReferencePrepareIdeal.τ).loc Cert.ReferencePrepareIdeal.main_arg7)
      ∧ r.2.mem ((c.tc : Thread Cert.ReferencePrepareIdeal.nD Cert.ReferencePrepareIdeal.τ).loc Cert.ReferencePrepareIdeal.main_arg8) = m ((c.tc : Thread Cert.ReferencePrepareIdeal.nD Cert.ReferencePrepareIdeal.τ).loc Cert.ReferencePrepareIdeal.main_arg8)
      ∧ r.2.mem ((c.tc : Thread Cert.ReferencePrepareIdeal.nD Cert.ReferencePrepareIdeal.τ).loc Cert.ReferencePrepareIdeal.main_arg9) = m ((c.tc : Thread Cert.ReferencePrepareIdeal.nD Cert.ReferencePrepareIdeal.τ).loc Cert.ReferencePrepareIdeal.main_arg9)
      ∧ r.2.mem ((c.tc : Thread Cert.ReferencePrepareIdeal.nD Cert.ReferencePrepareIdeal.τ).loc Cert.ReferencePrepareIdeal.main_arg10) = m ((c.tc : Thread Cert.ReferencePrepareIdeal.nD Cert.ReferencePrepareIdeal.τ).loc Cert.ReferencePrepareIdeal.main_arg10)
      ∧ r.2.mem ((c.tc : Thread Cert.ReferencePrepareIdeal.nD Cert.ReferencePrepareIdeal.τ).loc Cert.ReferencePrepareIdeal.main_arg11) = m ((c.tc : Thread Cert.ReferencePrepareIdeal.nD Cert.ReferencePrepareIdeal.τ).loc Cert.ReferencePrepareIdeal.main_arg11)
      ∧ r.2.mem ((c.tc : Thread Cert.ReferencePrepareIdeal.nD Cert.ReferencePrepareIdeal.τ).loc Cert.ReferencePrepareIdeal.main_arg12) = m ((c.tc : Thread Cert.ReferencePrepareIdeal.nD Cert.ReferencePrepareIdeal.τ).loc Cert.ReferencePrepareIdeal.main_arg12)
      ∧ r.2.mem ((c.tc : Thread Cert.ReferencePrepareIdeal.nD Cert.ReferencePrepareIdeal.τ).loc Cert.ReferencePrepareIdeal.main_arg13) = m ((c.tc : Thread Cert.ReferencePrepareIdeal.nD Cert.ReferencePrepareIdeal.τ).loc Cert.ReferencePrepareIdeal.main_arg13)
      ∧ r.2.mem ((c.tc : Thread Cert.ReferencePrepareIdeal.nD Cert.ReferencePrepareIdeal.τ).loc Cert.ReferencePrepareIdeal.main_arg14) = m ((c.tc : Thread Cert.ReferencePrepareIdeal.nD Cert.ReferencePrepareIdeal.τ).loc Cert.ReferencePrepareIdeal.main_arg14))
      ∧ r.2.sem = fun _ => 0)

def preserves_Kernel_KernelIdeal : Prop :=
  IdealRules.named_const.Statement Cert.KernelIdeal.κ "gqa_scale_log2e" .f32 0x3E38AA3B#32 (((8 * (Real.log 2))⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelMla_KernelMlaIdeal : Prop :=
  IdealRules.named_const.Statement Cert.KernelMlaIdeal.κ "mla_scale_log2e" .f32 0x3E16C740#32 (((3424635 / 33554432) * (Real.log 2)⁻¹ : ℝ) : EReal)

def algebraic_KernelMlaIdeal_ReferenceMlaIdeal_pre_finite_qk_mla [hKernelMlaIdeal : Cert.KernelMlaIdeal.Facts] [hReferenceMlaIdeal : Cert.ReferenceMlaIdeal.Facts] [hPre_finite_qk_mla : Cert.Pre_finite_qk_mla.Facts] : Prop :=
  ∀ (m : (ℓ : Loc Cert.KernelMlaIdeal.nD Cert.KernelMlaIdeal.τ Cert.KernelMlaIdeal.sig) → Buf (Elt Ideal) ℓ) (g : Dev Cert.KernelMlaIdeal.nD → PrngReg)
    (m' : (ℓ : Loc Cert.ReferenceMlaIdeal.nD Cert.ReferenceMlaIdeal.τ Cert.ReferenceMlaIdeal.sig) → Buf (Elt Ideal) ℓ) (g' : Dev Cert.ReferenceMlaIdeal.nD → PrngReg), Pre_KernelMlaIdeal_finite_qk_mla m →
    (∀ c : Dev Cert.KernelMlaIdeal.nD,
      m' ((c.tc : Thread Cert.ReferenceMlaIdeal.nD Cert.ReferenceMlaIdeal.τ).loc Cert.ReferenceMlaIdeal.main_arg0) = m ((c.tc : Thread Cert.KernelMlaIdeal.nD Cert.KernelMlaIdeal.τ).loc Cert.KernelMlaIdeal.main_arg0)
      ∧ m' ((c.tc : Thread Cert.ReferenceMlaIdeal.nD Cert.ReferenceMlaIdeal.τ).loc Cert.ReferenceMlaIdeal.main_arg1) = m ((c.tc : Thread Cert.KernelMlaIdeal.nD Cert.KernelMlaIdeal.τ).loc Cert.KernelMlaIdeal.main_arg1)
      ∧ m' ((c.tc : Thread Cert.ReferenceMlaIdeal.nD Cert.ReferenceMlaIdeal.τ).loc Cert.ReferenceMlaIdeal.main_arg2) = m ((c.tc : Thread Cert.KernelMlaIdeal.nD Cert.KernelMlaIdeal.τ).loc Cert.KernelMlaIdeal.main_arg2)) →
    ∃ (v0 : (c : Dev Cert.KernelMlaIdeal.nD) → Buf (Elt Ideal) ((c.tc : Thread Cert.KernelMlaIdeal.nD Cert.KernelMlaIdeal.τ).loc Cert.KernelMlaIdeal.main_v13)),
      θ_run (Cert.KernelMlaIdeal.defs (F := Ideal)) (onTc (τ := Cert.KernelMlaIdeal.τ) (Cert.KernelMlaIdeal.main (F := Ideal))) ⟨m, fun _ => 0, g⟩ (fun r => ∀ c : Dev Cert.KernelMlaIdeal.nD,
          r.2.mem ((c.tc : Thread Cert.KernelMlaIdeal.nD Cert.KernelMlaIdeal.τ).loc Cert.KernelMlaIdeal.main_v13) = v0 c
          ∧ r.2.mem ((c.tc : Thread Cert.KernelMlaIdeal.nD Cert.KernelMlaIdeal.τ).loc Cert.KernelMlaIdeal.main_arg0) = m ((c.tc : Thread Cert.KernelMlaIdeal.nD Cert.KernelMlaIdeal.τ).loc Cert.KernelMlaIdeal.main_arg0)
          ∧ r.2.mem ((c.tc : Thread Cert.KernelMlaIdeal.nD Cert.KernelMlaIdeal.τ).loc Cert.KernelMlaIdeal.main_arg1) = m ((c.tc : Thread Cert.KernelMlaIdeal.nD Cert.KernelMlaIdeal.τ).loc Cert.KernelMlaIdeal.main_arg1)
          ∧ r.2.mem ((c.tc : Thread Cert.KernelMlaIdeal.nD Cert.KernelMlaIdeal.τ).loc Cert.KernelMlaIdeal.main_arg2) = m ((c.tc : Thread Cert.KernelMlaIdeal.nD Cert.KernelMlaIdeal.τ).loc Cert.KernelMlaIdeal.main_arg2))
      ∧ θ_run (Cert.ReferenceMlaIdeal.defs (F := Ideal)) (onTc (τ := Cert.ReferenceMlaIdeal.τ) (Cert.ReferenceMlaIdeal.main (F := Ideal))) ⟨m', fun _ => 0, g'⟩ (fun r => ∀ c : Dev Cert.ReferenceMlaIdeal.nD,
          r.2.mem ((c.tc : Thread Cert.ReferenceMlaIdeal.nD Cert.ReferenceMlaIdeal.τ).loc Cert.ReferenceMlaIdeal.main_v43) = v0 c
          ∧ r.2.mem ((c.tc : Thread Cert.ReferenceMlaIdeal.nD Cert.ReferenceMlaIdeal.τ).loc Cert.ReferenceMlaIdeal.main_arg0) = m' ((c.tc : Thread Cert.ReferenceMlaIdeal.nD Cert.ReferenceMlaIdeal.τ).loc Cert.ReferenceMlaIdeal.main_arg0)
          ∧ r.2.mem ((c.tc : Thread Cert.ReferenceMlaIdeal.nD Cert.ReferenceMlaIdeal.τ).loc Cert.ReferenceMlaIdeal.main_arg1) = m' ((c.tc : Thread Cert.ReferenceMlaIdeal.nD Cert.ReferenceMlaIdeal.τ).loc Cert.ReferenceMlaIdeal.main_arg1)
          ∧ r.2.mem ((c.tc : Thread Cert.ReferenceMlaIdeal.nD Cert.ReferenceMlaIdeal.τ).loc Cert.ReferenceMlaIdeal.main_arg2) = m' ((c.tc : Thread Cert.ReferenceMlaIdeal.nD Cert.ReferenceMlaIdeal.τ).loc Cert.ReferenceMlaIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)) →
    ∃ (v0 : (c : Dev Cert.KernelMergeIdeal.nD) → Buf (Elt Ideal) ((c.tc : Thread Cert.KernelMergeIdeal.nD Cert.KernelMergeIdeal.τ).loc Cert.KernelMergeIdeal.main_v10)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v10) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v28) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7))

def preserves_KernelOutproj_KernelOutprojIdeal : Prop :=
  True

def algebraic_KernelOutprojIdeal_ReferenceOutprojIdeal [hKernelOutprojIdeal : Cert.KernelOutprojIdeal.Facts] [hReferenceOutprojIdeal : Cert.ReferenceOutprojIdeal.Facts] : Prop :=
  ∀ (m : (ℓ : Loc Cert.KernelOutprojIdeal.nD Cert.KernelOutprojIdeal.τ Cert.KernelOutprojIdeal.sig) → Buf (Elt Ideal) ℓ) (g : Dev Cert.KernelOutprojIdeal.nD → PrngReg)
    (m' : (ℓ : Loc Cert.ReferenceOutprojIdeal.nD Cert.ReferenceOutprojIdeal.τ Cert.ReferenceOutprojIdeal.sig) → Buf (Elt Ideal) ℓ) (g' : Dev Cert.ReferenceOutprojIdeal.nD → PrngReg), Pre_KernelOutprojIdeal m →
    (∀ c : Dev Cert.KernelOutprojIdeal.nD,
      m' ((c.tc : Thread Cert.ReferenceOutprojIdeal.nD Cert.ReferenceOutprojIdeal.τ).loc Cert.ReferenceOutprojIdeal.main_arg0) = m ((c.tc : Thread Cert.KernelOutprojIdeal.nD Cert.KernelOutprojIdeal.τ).loc Cert.KernelOutprojIdeal.main_arg0)
      ∧ m' ((c.tc : Thread Cert.ReferenceOutprojIdeal.nD Cert.ReferenceOutprojIdeal.τ).loc Cert.ReferenceOutprojIdeal.main_arg1) = m ((c.tc : Thread Cert.KernelOutprojIdeal.nD Cert.KernelOutprojIdeal.τ).loc Cert.KernelOutprojIdeal.main_arg1)
      ∧ m' ((c.tc : Thread Cert.ReferenceOutprojIdeal.nD Cert.ReferenceOutprojIdeal.τ).loc Cert.ReferenceOutprojIdeal.main_arg2) = m ((c.tc : Thread Cert.KernelOutprojIdeal.nD Cert.KernelOutprojIdeal.τ).loc Cert.KernelOutprojIdeal.main_arg2)
      ∧ m' ((c.tc : Thread Cert.ReferenceOutprojIdeal.nD Cert.ReferenceOutprojIdeal.τ).loc Cert.ReferenceOutprojIdeal.main_arg3) = m ((c.tc : Thread Cert.KernelOutprojIdeal.nD Cert.KernelOutprojIdeal.τ).loc Cert.KernelOutprojIdeal.main_arg3)
      ∧ m' ((c.tc : Thread Cert.ReferenceOutprojIdeal.nD Cert.ReferenceOutprojIdeal.τ).loc Cert.ReferenceOutprojIdeal.main_arg4) = m ((c.tc : Thread Cert.KernelOutprojIdeal.nD Cert.KernelOutprojIdeal.τ).loc Cert.KernelOutprojIdeal.main_arg4)
      ∧ m' ((c.tc : Thread Cert.ReferenceOutprojIdeal.nD Cert.ReferenceOutprojIdeal.τ).loc Cert.ReferenceOutprojIdeal.main_arg5) = m ((c.tc : Thread Cert.KernelOutprojIdeal.nD Cert.KernelOutprojIdeal.τ).loc Cert.KernelOutprojIdeal.main_arg5)
      ∧ m' ((c.tc : Thread Cert.ReferenceOutprojIdeal.nD Cert.ReferenceOutprojIdeal.τ).loc Cert.ReferenceOutprojIdeal.main_arg6) = m ((c.tc : Thread Cert.KernelOutprojIdeal.nD Cert.KernelOutprojIdeal.τ).loc Cert.KernelOutprojIdeal.main_arg6)) →
    ∃ (v0 : (c : Dev Cert.KernelOutprojIdeal.nD) → Buf (Elt Ideal) ((c.tc : Thread Cert.KernelOutprojIdeal.nD Cert.KernelOutprojIdeal.τ).loc Cert.KernelOutprojIdeal.main_v12_0)) (v1 : (c : Dev Cert.KernelOutprojIdeal.nD) → Buf (Elt Ideal) ((c.tc : Thread Cert.KernelOutprojIdeal.nD Cert.KernelOutprojIdeal.τ).loc Cert.KernelOutprojIdeal.main_v12_1)) (v2 : (c : Dev Cert.KernelOutprojIdeal.nD) → Buf (Elt Ideal) ((c.tc : Thread Cert.KernelOutprojIdeal.nD Cert.KernelOutprojIdeal.τ).loc Cert.KernelOutprojIdeal.main_v12_2)),
      θ_run (Cert.KernelOutprojIdeal.defs (F := Ideal)) (onTc (τ := Cert.KernelOutprojIdeal.τ) (Cert.KernelOutprojIdeal.main (F := Ideal))) ⟨m, fun _ => 0, g⟩ (fun r => ∀ c : Dev Cert.KernelOutprojIdeal.nD,
          r.2.mem ((c.tc : Thread Cert.KernelOutprojIdeal.nD Cert.KernelOutprojIdeal.τ).loc Cert.KernelOutprojIdeal.main_v12_0) = v0 c
          ∧ r.2.mem ((c.tc : Thread Cert.KernelOutprojIdeal.nD Cert.KernelOutprojIdeal.τ).loc Cert.KernelOutprojIdeal.main_v12_1) = v1 c
          ∧ r.2.mem ((c.tc : Thread Cert.KernelOutprojIdeal.nD Cert.KernelOutprojIdeal.τ).loc Cert.KernelOutprojIdeal.main_v12_2) = v2 c
          ∧ r.2.mem ((c.tc : Thread Cert.KernelOutprojIdeal.nD Cert.KernelOutprojIdeal.τ).loc Cert.KernelOutprojIdeal.main_arg0) = m ((c.tc : Thread Cert.KernelOutprojIdeal.nD Cert.KernelOutprojIdeal.τ).loc Cert.KernelOutprojIdeal.main_arg0)
          ∧ r.2.mem ((c.tc : Thread Cert.KernelOutprojIdeal.nD Cert.KernelOutprojIdeal.τ).loc Cert.KernelOutprojIdeal.main_arg1) = m ((c.tc : Thread Cert.KernelOutprojIdeal.nD Cert.KernelOutprojIdeal.τ).loc Cert.KernelOutprojIdeal.main_arg1)
          ∧ r.2.mem ((c.tc : Thread Cert.KernelOutprojIdeal.nD Cert.KernelOutprojIdeal.τ).loc Cert.KernelOutprojIdeal.main_arg2) = m ((c.tc : Thread Cert.KernelOutprojIdeal.nD Cert.KernelOutprojIdeal.τ).loc Cert.KernelOutprojIdeal.main_arg2)
          ∧ r.2.mem ((c.tc : Thread Cert.KernelOutprojIdeal.nD Cert.KernelOutprojIdeal.τ).loc Cert.KernelOutprojIdeal.main_arg3) = m ((c.tc : Thread Cert.KernelOutprojIdeal.nD Cert.KernelOutprojIdeal.τ).loc Cert.KernelOutprojIdeal.main_arg3)
          ∧ r.2.mem ((c.tc : Thread Cert.KernelOutprojIdeal.nD Cert.KernelOutprojIdeal.τ).loc Cert.KernelOutprojIdeal.main_arg4) = m ((c.tc : Thread Cert.KernelOutprojIdeal.nD Cert.KernelOutprojIdeal.τ).loc Cert.KernelOutprojIdeal.main_arg4)
          ∧ r.2.mem ((c.tc : Thread Cert.KernelOutprojIdeal.nD Cert.KernelOutprojIdeal.τ).loc Cert.KernelOutprojIdeal.main_arg5) = m ((c.tc : Thread Cert.KernelOutprojIdeal.nD Cert.KernelOutprojIdeal.τ).loc Cert.KernelOutprojIdeal.main_arg5)
          ∧ r.2.mem ((c.tc : Thread Cert.KernelOutprojIdeal.nD Cert.KernelOutprojIdeal.τ).loc Cert.KernelOutprojIdeal.main_arg6) = m ((c.tc : Thread Cert.KernelOutprojIdeal.nD Cert.KernelOutprojIdeal.τ).loc Cert.KernelOutprojIdeal.main_arg6))
      ∧ θ_run (Cert.ReferenceOutprojIdeal.defs (F := Ideal)) (onTc (τ := Cert.ReferenceOutprojIdeal.τ) (Cert.ReferenceOutprojIdeal.main (F := Ideal))) ⟨m', fun _ => 0, g'⟩ (fun r => ∀ c : Dev Cert.ReferenceOutprojIdeal.nD,
          r.2.mem ((c.tc : Thread Cert.ReferenceOutprojIdeal.nD Cert.ReferenceOutprojIdeal.τ).loc Cert.ReferenceOutprojIdeal.main_v12) = v0 c
          ∧ r.2.mem ((c.tc : Thread Cert.ReferenceOutprojIdeal.nD Cert.ReferenceOutprojIdeal.τ).loc Cert.ReferenceOutprojIdeal.main_v62) = v1 c
          ∧ r.2.mem ((c.tc : Thread Cert.ReferenceOutprojIdeal.nD Cert.ReferenceOutprojIdeal.τ).loc Cert.ReferenceOutprojIdeal.main_v63) = v2 c
          ∧ r.2.mem ((c.tc : Thread Cert.ReferenceOutprojIdeal.nD Cert.ReferenceOutprojIdeal.τ).loc Cert.ReferenceOutprojIdeal.main_arg0) = m' ((c.tc : Thread Cert.ReferenceOutprojIdeal.nD Cert.ReferenceOutprojIdeal.τ).loc Cert.ReferenceOutprojIdeal.main_arg0)
          ∧ r.2.mem ((c.tc : Thread Cert.ReferenceOutprojIdeal.nD Cert.ReferenceOutprojIdeal.τ).loc Cert.ReferenceOutprojIdeal.main_arg1) = m' ((c.tc : Thread Cert.ReferenceOutprojIdeal.nD Cert.ReferenceOutprojIdeal.τ).loc Cert.ReferenceOutprojIdeal.main_arg1)
          ∧ r.2.mem ((c.tc : Thread Cert.ReferenceOutprojIdeal.nD Cert.ReferenceOutprojIdeal.τ).loc Cert.ReferenceOutprojIdeal.main_arg2) = m' ((c.tc : Thread Cert.ReferenceOutprojIdeal.nD Cert.ReferenceOutprojIdeal.τ).loc Cert.ReferenceOutprojIdeal.main_arg2)
          ∧ r.2.mem ((c.tc : Thread Cert.ReferenceOutprojIdeal.nD Cert.ReferenceOutprojIdeal.τ).loc Cert.ReferenceOutprojIdeal.main_arg3) = m' ((c.tc : Thread Cert.ReferenceOutprojIdeal.nD Cert.ReferenceOutprojIdeal.τ).loc Cert.ReferenceOutprojIdeal.main_arg3)
          ∧ r.2.mem ((c.tc : Thread Cert.ReferenceOutprojIdeal.nD Cert.ReferenceOutprojIdeal.τ).loc Cert.ReferenceOutprojIdeal.main_arg4) = m' ((c.tc : Thread Cert.ReferenceOutprojIdeal.nD Cert.ReferenceOutprojIdeal.τ).loc Cert.ReferenceOutprojIdeal.main_arg4)
          ∧ r.2.mem ((c.tc : Thread Cert.ReferenceOutprojIdeal.nD Cert.ReferenceOutprojIdeal.τ).loc Cert.ReferenceOutprojIdeal.main_arg5) = m' ((c.tc : Thread Cert.ReferenceOutprojIdeal.nD Cert.ReferenceOutprojIdeal.τ).loc Cert.ReferenceOutprojIdeal.main_arg5)
          ∧ r.2.mem ((c.tc : Thread Cert.ReferenceOutprojIdeal.nD Cert.ReferenceOutprojIdeal.τ).loc Cert.ReferenceOutprojIdeal.main_arg6) = m' ((c.tc : Thread Cert.ReferenceOutprojIdeal.nD Cert.ReferenceOutprojIdeal.τ).loc Cert.ReferenceOutprojIdeal.main_arg6))

def preserves_KernelCombine_KernelCombineIdeal : Prop :=
  True

def algebraic_KernelCombineIdeal_ReferenceCombineIdeal [hKernelCombineIdeal : Cert.KernelCombineIdeal.Facts] [hReferenceCombineIdeal : Cert.ReferenceCombineIdeal.Facts] : Prop :=
  ∀ (m : (ℓ : Loc Cert.KernelCombineIdeal.nD Cert.KernelCombineIdeal.τ Cert.KernelCombineIdeal.sig) → Buf (Elt Ideal) ℓ) (g : Dev Cert.KernelCombineIdeal.nD → PrngReg)
    (m' : (ℓ : Loc Cert.ReferenceCombineIdeal.nD Cert.ReferenceCombineIdeal.τ Cert.ReferenceCombineIdeal.sig) → Buf (Elt Ideal) ℓ) (g' : Dev Cert.ReferenceCombineIdeal.nD → PrngReg), Pre_KernelCombineIdeal m →
    (∀ c : Dev Cert.KernelCombineIdeal.nD,
      m' ((c.tc : Thread Cert.ReferenceCombineIdeal.nD Cert.ReferenceCombineIdeal.τ).loc Cert.ReferenceCombineIdeal.main_arg0) = m ((c.tc : Thread Cert.KernelCombineIdeal.nD Cert.KernelCombineIdeal.τ).loc Cert.KernelCombineIdeal.main_arg0)
      ∧ m' ((c.tc : Thread Cert.ReferenceCombineIdeal.nD Cert.ReferenceCombineIdeal.τ).loc Cert.ReferenceCombineIdeal.main_arg1) = m ((c.tc : Thread Cert.KernelCombineIdeal.nD Cert.KernelCombineIdeal.τ).loc Cert.KernelCombineIdeal.main_arg1)
      ∧ m' ((c.tc : Thread Cert.ReferenceCombineIdeal.nD Cert.ReferenceCombineIdeal.τ).loc Cert.ReferenceCombineIdeal.main_arg2) = m ((c.tc : Thread Cert.KernelCombineIdeal.nD Cert.KernelCombineIdeal.τ).loc Cert.KernelCombineIdeal.main_arg2)
      ∧ m' ((c.tc : Thread Cert.ReferenceCombineIdeal.nD Cert.ReferenceCombineIdeal.τ).loc Cert.ReferenceCombineIdeal.main_arg3) = m ((c.tc : Thread Cert.KernelCombineIdeal.nD Cert.KernelCombineIdeal.τ).loc Cert.KernelCombineIdeal.main_arg3)
      ∧ m' ((c.tc : Thread Cert.ReferenceCombineIdeal.nD Cert.ReferenceCombineIdeal.τ).loc Cert.ReferenceCombineIdeal.main_arg4) = m ((c.tc : Thread Cert.KernelCombineIdeal.nD Cert.KernelCombineIdeal.τ).loc Cert.KernelCombineIdeal.main_arg4)
      ∧ m' ((c.tc : Thread Cert.ReferenceCombineIdeal.nD Cert.ReferenceCombineIdeal.τ).loc Cert.ReferenceCombineIdeal.main_arg5) = m ((c.tc : Thread Cert.KernelCombineIdeal.nD Cert.KernelCombineIdeal.τ).loc Cert.KernelCombineIdeal.main_arg5)) →
    ∃ (v0 : (c : Dev Cert.KernelCombineIdeal.nD) → Buf (Elt Ideal) ((c.tc : Thread Cert.KernelCombineIdeal.nD Cert.KernelCombineIdeal.τ).loc Cert.KernelCombineIdeal.main_v7)),
      θ_run (Cert.KernelCombineIdeal.defs (F := Ideal)) (onTc (τ := Cert.KernelCombineIdeal.τ) (Cert.KernelCombineIdeal.main (F := Ideal))) ⟨m, fun _ => 0, g⟩ (fun r => ∀ c : Dev Cert.KernelCombineIdeal.nD,
          r.2.mem ((c.tc : Thread Cert.KernelCombineIdeal.nD Cert.KernelCombineIdeal.τ).loc Cert.KernelCombineIdeal.main_v7) = v0 c
          ∧ r.2.mem ((c.tc : Thread Cert.KernelCombineIdeal.nD Cert.KernelCombineIdeal.τ).loc Cert.KernelCombineIdeal.main_arg0) = m ((c.tc : Thread Cert.KernelCombineIdeal.nD Cert.KernelCombineIdeal.τ).loc Cert.KernelCombineIdeal.main_arg0)
          ∧ r.2.mem ((c.tc : Thread Cert.KernelCombineIdeal.nD Cert.KernelCombineIdeal.τ).loc Cert.KernelCombineIdeal.main_arg1) = m ((c.tc : Thread Cert.KernelCombineIdeal.nD Cert.KernelCombineIdeal.τ).loc Cert.KernelCombineIdeal.main_arg1)
          ∧ r.2.mem ((c.tc : Thread Cert.KernelCombineIdeal.nD Cert.KernelCombineIdeal.τ).loc Cert.KernelCombineIdeal.main_arg2) = m ((c.tc : Thread Cert.KernelCombineIdeal.nD Cert.KernelCombineIdeal.τ).loc Cert.KernelCombineIdeal.main_arg2)
          ∧ r.2.mem ((c.tc : Thread Cert.KernelCombineIdeal.nD Cert.KernelCombineIdeal.τ).loc Cert.KernelCombineIdeal.main_arg3) = m ((c.tc : Thread Cert.KernelCombineIdeal.nD Cert.KernelCombineIdeal.τ).loc Cert.KernelCombineIdeal.main_arg3)
          ∧ r.2.mem ((c.tc : Thread Cert.KernelCombineIdeal.nD Cert.KernelCombineIdeal.τ).loc Cert.KernelCombineIdeal.main_arg4) = m ((c.tc : Thread Cert.KernelCombineIdeal.nD Cert.KernelCombineIdeal.τ).loc Cert.KernelCombineIdeal.main_arg4)
          ∧ r.2.mem ((c.tc : Thread Cert.KernelCombineIdeal.nD Cert.KernelCombineIdeal.τ).loc Cert.KernelCombineIdeal.main_arg5) = m ((c.tc : Thread Cert.KernelCombineIdeal.nD Cert.KernelCombineIdeal.τ).loc Cert.KernelCombineIdeal.main_arg5))
      ∧ θ_run (Cert.ReferenceCombineIdeal.defs (F := Ideal)) (onTc (τ := Cert.ReferenceCombineIdeal.τ) (Cert.ReferenceCombineIdeal.main (F := Ideal))) ⟨m', fun _ => 0, g'⟩ (fun r => ∀ c : Dev Cert.ReferenceCombineIdeal.nD,
          r.2.mem ((c.tc : Thread Cert.ReferenceCombineIdeal.nD Cert.ReferenceCombineIdeal.τ).loc Cert.ReferenceCombineIdeal.main_v32) = v0 c
          ∧ r.2.mem ((c.tc : Thread Cert.ReferenceCombineIdeal.nD Cert.ReferenceCombineIdeal.τ).loc Cert.ReferenceCombineIdeal.main_arg0) = m' ((c.tc : Thread Cert.ReferenceCombineIdeal.nD Cert.ReferenceCombineIdeal.τ).loc Cert.ReferenceCombineIdeal.main_arg0)
          ∧ r.2.mem ((c.tc : Thread Cert.ReferenceCombineIdeal.nD Cert.ReferenceCombineIdeal.τ).loc Cert.ReferenceCombineIdeal.main_arg1) = m' ((c.tc : Thread Cert.ReferenceCombineIdeal.nD Cert.ReferenceCombineIdeal.τ).loc Cert.ReferenceCombineIdeal.main_arg1)
          ∧ r.2.mem ((c.tc : Thread Cert.ReferenceCombineIdeal.nD Cert.ReferenceCombineIdeal.τ).loc Cert.ReferenceCombineIdeal.main_arg2) = m' ((c.tc : Thread Cert.ReferenceCombineIdeal.nD Cert.ReferenceCombineIdeal.τ).loc Cert.ReferenceCombineIdeal.main_arg2)
          ∧ r.2.mem ((c.tc : Thread Cert.ReferenceCombineIdeal.nD Cert.ReferenceCombineIdeal.τ).loc Cert.ReferenceCombineIdeal.main_arg3) = m' ((c.tc : Thread Cert.ReferenceCombineIdeal.nD Cert.ReferenceCombineIdeal.τ).loc Cert.ReferenceCombineIdeal.main_arg3)
          ∧ r.2.mem ((c.tc : Thread Cert.ReferenceCombineIdeal.nD Cert.ReferenceCombineIdeal.τ).loc Cert.ReferenceCombineIdeal.main_arg4) = m' ((c.tc : Thread Cert.ReferenceCombineIdeal.nD Cert.ReferenceCombineIdeal.τ).loc Cert.ReferenceCombineIdeal.main_arg4)
          ∧ r.2.mem ((c.tc : Thread Cert.ReferenceCombineIdeal.nD Cert.ReferenceCombineIdeal.τ).loc Cert.ReferenceCombineIdeal.main_arg5) = m' ((c.tc : Thread Cert.ReferenceCombineIdeal.nD Cert.ReferenceCombineIdeal.τ).loc Cert.ReferenceCombineIdeal.main_arg5))

def preserves_KernelPrepare_KernelPrepareIdeal : Prop :=
  True

def algebraic_KernelPrepareIdeal_ReferencePrepareIdeal [hKernelPrepareIdeal : Cert.KernelPrepareIdeal.Facts] [hReferencePrepareIdeal : Cert.ReferencePrepareIdeal.Facts] : Prop :=
  ∀ (m : (ℓ : Loc Cert.KernelPrepareIdeal.nD Cert.KernelPrepareIdeal.τ Cert.KernelPrepareIdeal.sig) → Buf (Elt Ideal) ℓ) (g : Dev Cert.KernelPrepareIdeal.nD → PrngReg)
    (m' : (ℓ : Loc Cert.ReferencePrepareIdeal.nD Cert.ReferencePrepareIdeal.τ Cert.ReferencePrepareIdeal.sig) → Buf (Elt Ideal) ℓ) (g' : Dev Cert.ReferencePrepareIdeal.nD → PrngReg), Pre_KernelPrepareIdeal m →
    (∀ c : Dev Cert.KernelPrepareIdeal.nD,
      m' ((c.tc : Thread Cert.ReferencePrepareIdeal.nD Cert.ReferencePrepareIdeal.τ).loc Cert.ReferencePrepareIdeal.main_arg0) = m ((c.tc : Thread Cert.KernelPrepareIdeal.nD Cert.KernelPrepareIdeal.τ).loc Cert.KernelPrepareIdeal.main_arg0)
      ∧ m' ((c.tc : Thread Cert.ReferencePrepareIdeal.nD Cert.ReferencePrepareIdeal.τ).loc Cert.ReferencePrepareIdeal.main_arg1) = m ((c.tc : Thread Cert.KernelPrepareIdeal.nD Cert.KernelPrepareIdeal.τ).loc Cert.KernelPrepareIdeal.main_arg1)
      ∧ m' ((c.tc : Thread Cert.ReferencePrepareIdeal.nD Cert.ReferencePrepareIdeal.τ).loc Cert.ReferencePrepareIdeal.main_arg2) = m ((c.tc : Thread Cert.KernelPrepareIdeal.nD Cert.KernelPrepareIdeal.τ).loc Cert.KernelPrepareIdeal.main_arg2)
      ∧ m' ((c.tc : Thread Cert.ReferencePrepareIdeal.nD Cert.ReferencePrepareIdeal.τ).loc Cert.ReferencePrepareIdeal.main_arg3) = m ((c.tc : Thread Cert.KernelPrepareIdeal.nD Cert.KernelPrepareIdeal.τ).loc Cert.KernelPrepareIdeal.main_arg3)
      ∧ m' ((c.tc : Thread Cert.ReferencePrepareIdeal.nD Cert.ReferencePrepareIdeal.τ).loc Cert.ReferencePrepareIdeal.main_arg4) = m ((c.tc : Thread Cert.KernelPrepareIdeal.nD Cert.KernelPrepareIdeal.τ).loc Cert.KernelPrepareIdeal.main_arg4)
      ∧ m' ((c.tc : Thread Cert.ReferencePrepareIdeal.nD Cert.ReferencePrepareIdeal.τ).loc Cert.ReferencePrepareIdeal.main_arg5) = m ((c.tc : Thread Cert.KernelPrepareIdeal.nD Cert.KernelPrepareIdeal.τ).loc Cert.KernelPrepareIdeal.main_arg5)
      ∧ m' ((c.tc : Thread Cert.ReferencePrepareIdeal.nD Cert.ReferencePrepareIdeal.τ).loc Cert.ReferencePrepareIdeal.main_arg6) = m ((c.tc : Thread Cert.KernelPrepareIdeal.nD Cert.KernelPrepareIdeal.τ).loc Cert.KernelPrepareIdeal.main_arg6)
      ∧ m' ((c.tc : Thread Cert.ReferencePrepareIdeal.nD Cert.ReferencePrepareIdeal.τ).loc Cert.ReferencePrepareIdeal.main_arg7) = m ((c.tc : Thread Cert.KernelPrepareIdeal.nD Cert.KernelPrepareIdeal.τ).loc Cert.KernelPrepareIdeal.main_arg7)
      ∧ m' ((c.tc : Thread Cert.ReferencePrepareIdeal.nD Cert.ReferencePrepareIdeal.τ).loc Cert.ReferencePrepareIdeal.main_arg8) = m ((c.tc : Thread Cert.KernelPrepareIdeal.nD Cert.KernelPrepareIdeal.τ).loc Cert.KernelPrepareIdeal.main_arg8)
      ∧ m' ((c.tc : Thread Cert.ReferencePrepareIdeal.nD Cert.ReferencePrepareIdeal.τ).loc Cert.ReferencePrepareIdeal.main_arg9) = m ((c.tc : Thread Cert.KernelPrepareIdeal.nD Cert.KernelPrepareIdeal.τ).loc Cert.KernelPrepareIdeal.main_arg9)
      ∧ m' ((c.tc : Thread Cert.ReferencePrepareIdeal.nD Cert.ReferencePrepareIdeal.τ).loc Cert.ReferencePrepareIdeal.main_arg10) = m ((c.tc : Thread Cert.KernelPrepareIdeal.nD Cert.KernelPrepareIdeal.τ).loc Cert.KernelPrepareIdeal.main_arg10)
      ∧ m' ((c.tc : Thread Cert.ReferencePrepareIdeal.nD Cert.ReferencePrepareIdeal.τ).loc Cert.ReferencePrepareIdeal.main_arg11) = m ((c.tc : Thread Cert.KernelPrepareIdeal.nD Cert.KernelPrepareIdeal.τ).loc Cert.KernelPrepareIdeal.main_arg11)
      ∧ m' ((c.tc : Thread Cert.ReferencePrepareIdeal.nD Cert.ReferencePrepareIdeal.τ).loc Cert.ReferencePrepareIdeal.main_arg12) = m ((c.tc : Thread Cert.KernelPrepareIdeal.nD Cert.KernelPrepareIdeal.τ).loc Cert.KernelPrepareIdeal.main_arg12)
      ∧ m' ((c.tc : Thread Cert.ReferencePrepareIdeal.nD Cert.ReferencePrepareIdeal.τ).loc Cert.ReferencePrepareIdeal.main_arg13) = m ((c.tc : Thread Cert.KernelPrepareIdeal.nD Cert.KernelPrepareIdeal.τ).loc Cert.KernelPrepareIdeal.main_arg13)
      ∧ m' ((c.tc : Thread Cert.ReferencePrepareIdeal.nD Cert.ReferencePrepareIdeal.τ).loc Cert.ReferencePrepareIdeal.main_arg14) = m ((c.tc : Thread Cert.KernelPrepareIdeal.nD Cert.KernelPrepareIdeal.τ).loc Cert.KernelPrepareIdeal.main_arg14)) →
    ∃ (v0 : (c : Dev Cert.KernelPrepareIdeal.nD) → Buf (Elt Ideal) ((c.tc : Thread Cert.KernelPrepareIdeal.nD Cert.KernelPrepareIdeal.τ).loc Cert.KernelPrepareIdeal.main_v124_0)) (v1 : (c : Dev Cert.KernelPrepareIdeal.nD) → Buf (Elt Ideal) ((c.tc : Thread Cert.KernelPrepareIdeal.nD Cert.KernelPrepareIdeal.τ).loc Cert.KernelPrepareIdeal.main_v124_1)) (v2 : (c : Dev Cert.KernelPrepareIdeal.nD) → Buf (Elt Ideal) ((c.tc : Thread Cert.KernelPrepareIdeal.nD Cert.KernelPrepareIdeal.τ).loc Cert.KernelPrepareIdeal.main_v124_2)),
      θ_run (Cert.KernelPrepareIdeal.defs (F := Ideal)) (onTc (τ := Cert.KernelPrepareIdeal.τ) (Cert.KernelPrepareIdeal.main (F := Ideal))) ⟨m, fun _ => 0, g⟩ (fun r => ∀ c : Dev Cert.KernelPrepareIdeal.nD,
          r.2.mem ((c.tc : Thread Cert.KernelPrepareIdeal.nD Cert.KernelPrepareIdeal.τ).loc Cert.KernelPrepareIdeal.main_v124_0) = v0 c
          ∧ r.2.mem ((c.tc : Thread Cert.KernelPrepareIdeal.nD Cert.KernelPrepareIdeal.τ).loc Cert.KernelPrepareIdeal.main_v124_1) = v1 c
          ∧ r.2.mem ((c.tc : Thread Cert.KernelPrepareIdeal.nD Cert.KernelPrepareIdeal.τ).loc Cert.KernelPrepareIdeal.main_v124_2) = v2 c
          ∧ r.2.mem ((c.tc : Thread Cert.KernelPrepareIdeal.nD Cert.KernelPrepareIdeal.τ).loc Cert.KernelPrepareIdeal.main_arg0) = m ((c.tc : Thread Cert.KernelPrepareIdeal.nD Cert.KernelPrepareIdeal.τ).loc Cert.KernelPrepareIdeal.main_arg0)
          ∧ r.2.mem ((c.tc : Thread Cert.KernelPrepareIdeal.nD Cert.KernelPrepareIdeal.τ).loc Cert.KernelPrepareIdeal.main_arg1) = m ((c.tc : Thread Cert.KernelPrepareIdeal.nD Cert.KernelPrepareIdeal.τ).loc Cert.KernelPrepareIdeal.main_arg1)
          ∧ r.2.mem ((c.tc : Thread Cert.KernelPrepareIdeal.nD Cert.KernelPrepareIdeal.τ).loc Cert.KernelPrepareIdeal.main_arg2) = m ((c.tc : Thread Cert.KernelPrepareIdeal.nD Cert.KernelPrepareIdeal.τ).loc Cert.KernelPrepareIdeal.main_arg2)
          ∧ r.2.mem ((c.tc : Thread Cert.KernelPrepareIdeal.nD Cert.KernelPrepareIdeal.τ).loc Cert.KernelPrepareIdeal.main_arg3) = m ((c.tc : Thread Cert.KernelPrepareIdeal.nD Cert.KernelPrepareIdeal.τ).loc Cert.KernelPrepareIdeal.main_arg3)
          ∧ r.2.mem ((c.tc : Thread Cert.KernelPrepareIdeal.nD Cert.KernelPrepareIdeal.τ).loc Cert.KernelPrepareIdeal.main_arg4) = m ((c.tc : Thread Cert.KernelPrepareIdeal.nD Cert.KernelPrepareIdeal.τ).loc Cert.KernelPrepareIdeal.main_arg4)
          ∧ r.2.mem ((c.tc : Thread Cert.KernelPrepareIdeal.nD Cert.KernelPrepareIdeal.τ).loc Cert.KernelPrepareIdeal.main_arg5) = m ((c.tc : Thread Cert.KernelPrepareIdeal.nD Cert.KernelPrepareIdeal.τ).loc Cert.KernelPrepareIdeal.main_arg5)
          ∧ r.2.mem ((c.tc : Thread Cert.KernelPrepareIdeal.nD Cert.KernelPrepareIdeal.τ).loc Cert.KernelPrepareIdeal.main_arg6) = m ((c.tc : Thread Cert.KernelPrepareIdeal.nD Cert.KernelPrepareIdeal.τ).loc Cert.KernelPrepareIdeal.main_arg6)
          ∧ r.2.mem ((c.tc : Thread Cert.KernelPrepareIdeal.nD Cert.KernelPrepareIdeal.τ).loc Cert.KernelPrepareIdeal.main_arg7) = m ((c.tc : Thread Cert.KernelPrepareIdeal.nD Cert.KernelPrepareIdeal.τ).loc Cert.KernelPrepareIdeal.main_arg7)
          ∧ r.2.mem ((c.tc : Thread Cert.KernelPrepareIdeal.nD Cert.KernelPrepareIdeal.τ).loc Cert.KernelPrepareIdeal.main_arg8) = m ((c.tc : Thread Cert.KernelPrepareIdeal.nD Cert.KernelPrepareIdeal.τ).loc Cert.KernelPrepareIdeal.main_arg8)
          ∧ r.2.mem ((c.tc : Thread Cert.KernelPrepareIdeal.nD Cert.KernelPrepareIdeal.τ).loc Cert.KernelPrepareIdeal.main_arg9) = m ((c.tc : Thread Cert.KernelPrepareIdeal.nD Cert.KernelPrepareIdeal.τ).loc Cert.KernelPrepareIdeal.main_arg9)
          ∧ r.2.mem ((c.tc : Thread Cert.KernelPrepareIdeal.nD Cert.KernelPrepareIdeal.τ).loc Cert.KernelPrepareIdeal.main_arg10) = m ((c.tc : Thread Cert.KernelPrepareIdeal.nD Cert.KernelPrepareIdeal.τ).loc Cert.KernelPrepareIdeal.main_arg10)
          ∧ r.2.mem ((c.tc : Thread Cert.KernelPrepareIdeal.nD Cert.KernelPrepareIdeal.τ).loc Cert.KernelPrepareIdeal.main_arg11) = m ((c.tc : Thread Cert.KernelPrepareIdeal.nD Cert.KernelPrepareIdeal.τ).loc Cert.KernelPrepareIdeal.main_arg11)
          ∧ r.2.mem ((c.tc : Thread Cert.KernelPrepareIdeal.nD Cert.KernelPrepareIdeal.τ).loc Cert.KernelPrepareIdeal.main_arg12) = m ((c.tc : Thread Cert.KernelPrepareIdeal.nD Cert.KernelPrepareIdeal.τ).loc Cert.KernelPrepareIdeal.main_arg12)
          ∧ r.2.mem ((c.tc : Thread Cert.KernelPrepareIdeal.nD Cert.KernelPrepareIdeal.τ).loc Cert.KernelPrepareIdeal.main_arg13) = m ((c.tc : Thread Cert.KernelPrepareIdeal.nD Cert.KernelPrepareIdeal.τ).loc Cert.KernelPrepareIdeal.main_arg13)
          ∧ r.2.mem ((c.tc : Thread Cert.KernelPrepareIdeal.nD Cert.KernelPrepareIdeal.τ).loc Cert.KernelPrepareIdeal.main_arg14) = m ((c.tc : Thread Cert.KernelPrepareIdeal.nD Cert.KernelPrepareIdeal.τ).loc Cert.KernelPrepareIdeal.main_arg14))
      ∧ θ_run (Cert.ReferencePrepareIdeal.defs (F := Ideal)) (onTc (τ := Cert.ReferencePrepareIdeal.τ) (Cert.ReferencePrepareIdeal.main (F := Ideal))) ⟨m', fun _ => 0, g'⟩ (fun r => ∀ c : Dev Cert.ReferencePrepareIdeal.nD,
          r.2.mem ((c.tc : Thread Cert.ReferencePrepareIdeal.nD Cert.ReferencePrepareIdeal.τ).loc Cert.ReferencePrepareIdeal.main_v38) = v0 c
          ∧ r.2.mem ((c.tc : Thread Cert.ReferencePrepareIdeal.nD Cert.ReferencePrepareIdeal.τ).loc Cert.ReferencePrepareIdeal.main_v45) = v1 c
          ∧ r.2.mem ((c.tc : Thread Cert.ReferencePrepareIdeal.nD Cert.ReferencePrepareIdeal.τ).loc Cert.ReferencePrepareIdeal.main_v52) = v2 c
          ∧ r.2.mem ((c.tc : Thread Cert.ReferencePrepareIdeal.nD Cert.ReferencePrepareIdeal.τ).loc Cert.ReferencePrepareIdeal.main_arg0) = m' ((c.tc : Thread Cert.ReferencePrepareIdeal.nD Cert.ReferencePrepareIdeal.τ).loc Cert.ReferencePrepareIdeal.main_arg0)
          ∧ r.2.mem ((c.tc : Thread Cert.ReferencePrepareIdeal.nD Cert.ReferencePrepareIdeal.τ).loc Cert.ReferencePrepareIdeal.main_arg1) = m' ((c.tc : Thread Cert.ReferencePrepareIdeal.nD Cert.ReferencePrepareIdeal.τ).loc Cert.ReferencePrepareIdeal.main_arg1)
          ∧ r.2.mem ((c.tc : Thread Cert.ReferencePrepareIdeal.nD Cert.ReferencePrepareIdeal.τ).loc Cert.ReferencePrepareIdeal.main_arg2) = m' ((c.tc : Thread Cert.ReferencePrepareIdeal.nD Cert.ReferencePrepareIdeal.τ).loc Cert.ReferencePrepareIdeal.main_arg2)
          ∧ r.2.mem ((c.tc : Thread Cert.ReferencePrepareIdeal.nD Cert.ReferencePrepareIdeal.τ).loc Cert.ReferencePrepareIdeal.main_arg3) = m' ((c.tc : Thread Cert.ReferencePrepareIdeal.nD Cert.ReferencePrepareIdeal.τ).loc Cert.ReferencePrepareIdeal.main_arg3)
          ∧ r.2.mem ((c.tc : Thread Cert.ReferencePrepareIdeal.nD Cert.ReferencePrepareIdeal.τ).loc Cert.ReferencePrepareIdeal.main_arg4) = m' ((c.tc : Thread Cert.ReferencePrepareIdeal.nD Cert.ReferencePrepareIdeal.τ).loc Cert.ReferencePrepareIdeal.main_arg4)
          ∧ r.2.mem ((c.tc : Thread Cert.ReferencePrepareIdeal.nD Cert.ReferencePrepareIdeal.τ).loc Cert.ReferencePrepareIdeal.main_arg5) = m' ((c.tc : Thread Cert.ReferencePrepareIdeal.nD Cert.ReferencePrepareIdeal.τ).loc Cert.ReferencePrepareIdeal.main_arg5)
          ∧ r.2.mem ((c.tc : Thread Cert.ReferencePrepareIdeal.nD Cert.ReferencePrepareIdeal.τ).loc Cert.ReferencePrepareIdeal.main_arg6) = m' ((c.tc : Thread Cert.ReferencePrepareIdeal.nD Cert.ReferencePrepareIdeal.τ).loc Cert.ReferencePrepareIdeal.main_arg6)
          ∧ r.2.mem ((c.tc : Thread Cert.ReferencePrepareIdeal.nD Cert.ReferencePrepareIdeal.τ).loc Cert.ReferencePrepareIdeal.main_arg7) = m' ((c.tc : Thread Cert.ReferencePrepareIdeal.nD Cert.ReferencePrepareIdeal.τ).loc Cert.ReferencePrepareIdeal.main_arg7)
          ∧ r.2.mem ((c.tc : Thread Cert.ReferencePrepareIdeal.nD Cert.ReferencePrepareIdeal.τ).loc Cert.ReferencePrepareIdeal.main_arg8) = m' ((c.tc : Thread Cert.ReferencePrepareIdeal.nD Cert.ReferencePrepareIdeal.τ).loc Cert.ReferencePrepareIdeal.main_arg8)
          ∧ r.2.mem ((c.tc : Thread Cert.ReferencePrepareIdeal.nD Cert.ReferencePrepareIdeal.τ).loc Cert.ReferencePrepareIdeal.main_arg9) = m' ((c.tc : Thread Cert.ReferencePrepareIdeal.nD Cert.ReferencePrepareIdeal.τ).loc Cert.ReferencePrepareIdeal.main_arg9)
          ∧ r.2.mem ((c.tc : Thread Cert.ReferencePrepareIdeal.nD Cert.ReferencePrepareIdeal.τ).loc Cert.ReferencePrepareIdeal.main_arg10) = m' ((c.tc : Thread Cert.ReferencePrepareIdeal.nD Cert.ReferencePrepareIdeal.τ).loc Cert.ReferencePrepareIdeal.main_arg10)
          ∧ r.2.mem ((c.tc : Thread Cert.ReferencePrepareIdeal.nD Cert.ReferencePrepareIdeal.τ).loc Cert.ReferencePrepareIdeal.main_arg11) = m' ((c.tc : Thread Cert.ReferencePrepareIdeal.nD Cert.ReferencePrepareIdeal.τ).loc Cert.ReferencePrepareIdeal.main_arg11)
          ∧ r.2.mem ((c.tc : Thread Cert.ReferencePrepareIdeal.nD Cert.ReferencePrepareIdeal.τ).loc Cert.ReferencePrepareIdeal.main_arg12) = m' ((c.tc : Thread Cert.ReferencePrepareIdeal.nD Cert.ReferencePrepareIdeal.τ).loc Cert.ReferencePrepareIdeal.main_arg12)
          ∧ r.2.mem ((c.tc : Thread Cert.ReferencePrepareIdeal.nD Cert.ReferencePrepareIdeal.τ).loc Cert.ReferencePrepareIdeal.main_arg13) = m' ((c.tc : Thread Cert.ReferencePrepareIdeal.nD Cert.ReferencePrepareIdeal.τ).loc Cert.ReferencePrepareIdeal.main_arg13)
          ∧ r.2.mem ((c.tc : Thread Cert.ReferencePrepareIdeal.nD Cert.ReferencePrepareIdeal.τ).loc Cert.ReferencePrepareIdeal.main_arg14) = m' ((c.tc : Thread Cert.ReferencePrepareIdeal.nD Cert.ReferencePrepareIdeal.τ).loc Cert.ReferencePrepareIdeal.main_arg14))

def Claim : Prop :=
  ∃ (hKernel : Cert.Kernel.Facts) (hKernelIdeal : Cert.KernelIdeal.Facts) (hReferenceIdeal : Cert.ReferenceIdeal.Facts) (hKernelMla : Cert.KernelMla.Facts) (hKernelMlaIdeal : Cert.KernelMlaIdeal.Facts) (hReferenceMlaIdeal : Cert.ReferenceMlaIdeal.Facts) (hKernelMerge : Cert.KernelMerge.Facts) (hKernelMergeIdeal : Cert.KernelMergeIdeal.Facts) (hReferenceMergeIdeal : Cert.ReferenceMergeIdeal.Facts) (hKernelOutproj : Cert.KernelOutproj.Facts) (hKernelOutprojIdeal : Cert.KernelOutprojIdeal.Facts) (hReferenceOutprojIdeal : Cert.ReferenceOutprojIdeal.Facts) (hKernelCombine : Cert.KernelCombine.Facts) (hKernelCombineIdeal : Cert.KernelCombineIdeal.Facts) (hReferenceCombineIdeal : Cert.ReferenceCombineIdeal.Facts) (hKernelPrepare : Cert.KernelPrepare.Facts) (hKernelPrepareIdeal : Cert.KernelPrepareIdeal.Facts) (hReferencePrepareIdeal : Cert.ReferencePrepareIdeal.Facts) (hPre_finite_qk : Cert.Pre_finite_qk.Facts) (hPre_finite_qk_mla : Cert.Pre_finite_qk_mla.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelMla (hKernelMla := hKernelMla)
    ∧ quiescent_KernelMlaIdeal (hKernelMlaIdeal := hKernelMlaIdeal)
    ∧ quiescent_KernelMlaIdeal_pre_finite_qk_mla (hKernelMlaIdeal := hKernelMlaIdeal) (hPre_finite_qk_mla := hPre_finite_qk_mla)
    ∧ quiescent_ReferenceMlaIdeal (hReferenceMlaIdeal := hReferenceMlaIdeal)
    ∧ quiescent_ReferenceMlaIdeal_pre_finite_qk_mla (hReferenceMlaIdeal := hReferenceMlaIdeal) (hPre_finite_qk_mla := hPre_finite_qk_mla)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOutproj (hKernelOutproj := hKernelOutproj)
    ∧ quiescent_KernelOutprojIdeal (hKernelOutprojIdeal := hKernelOutprojIdeal)
    ∧ quiescent_ReferenceOutprojIdeal (hReferenceOutprojIdeal := hReferenceOutprojIdeal)
    ∧ quiescent_KernelCombine (hKernelCombine := hKernelCombine)
    ∧ quiescent_KernelCombineIdeal (hKernelCombineIdeal := hKernelCombineIdeal)
    ∧ quiescent_ReferenceCombineIdeal (hReferenceCombineIdeal := hReferenceCombineIdeal)
    ∧ quiescent_KernelPrepare (hKernelPrepare := hKernelPrepare)
    ∧ quiescent_KernelPrepareIdeal (hKernelPrepareIdeal := hKernelPrepareIdeal)
    ∧ quiescent_ReferencePrepareIdeal (hReferencePrepareIdeal := hReferencePrepareIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelMla_KernelMlaIdeal
    ∧ algebraic_KernelMlaIdeal_ReferenceMlaIdeal_pre_finite_qk_mla (hKernelMlaIdeal := hKernelMlaIdeal) (hReferenceMlaIdeal := hReferenceMlaIdeal) (hPre_finite_qk_mla := hPre_finite_qk_mla)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOutproj_KernelOutprojIdeal
    ∧ algebraic_KernelOutprojIdeal_ReferenceOutprojIdeal (hKernelOutprojIdeal := hKernelOutprojIdeal) (hReferenceOutprojIdeal := hReferenceOutprojIdeal)
    ∧ preserves_KernelCombine_KernelCombineIdeal
    ∧ algebraic_KernelCombineIdeal_ReferenceCombineIdeal (hKernelCombineIdeal := hKernelCombineIdeal) (hReferenceCombineIdeal := hReferenceCombineIdeal)
    ∧ preserves_KernelPrepare_KernelPrepareIdeal
    ∧ algebraic_KernelPrepareIdeal_ReferencePrepareIdeal (hKernelPrepareIdeal := hKernelPrepareIdeal) (hReferencePrepareIdeal := hReferencePrepareIdeal)
-- ==== Pre_finite_qk.lean ====
abbrev S4x2304x8x64 : Shape := ⟨4, ![4, 2304, 8, 64]⟩
abbrev S4x2304x2x64 : Shape := ⟨4, ![4, 2304, 2, 64]⟩
abbrev S_ : Shape := ⟨0, ![]⟩

class Facts : Prop where
  bcast_S_S4x2304x8x64 : S_.BroadcastsInDim S4x2304x8x64 (![] : Fin 0 → Fin S4x2304x8x64.rank)
  bcast_S_S4x2304x2x64 : S_.BroadcastsInDim S4x2304x2x64 (![] : Fin 0 → Fin S4x2304x2x64.rank)

variable [Facts]

def fn {F : FTy → Type} [FloatOps F] (main_arg0 : FVec F S4x2304x8x64 .f32) (main_arg1 : FVec F S4x2304x2x64 .f32) (main_arg2 : FVec F S4x2304x2x64 .f32) : IVec S4x2304x8x64 1 × IVec S4x2304x2x64 1 :=
  let main_v0 : FVec F S4x2304x8x64 .f32 := Host.absf main_arg0
  let main_cst : FVec F S_ .f32 := constant S_ .f32 0x7F800000#32
  let main_v1 : FVec F S4x2304x8x64 .f32 := broadcastInDim S4x2304x8x64 ![] bcast_S_S4x2304x8x64 main_cst
  let main_v2 : IVec S4x2304x8x64 1 := cmpf .olt main_v0 main_v1
  let main_v3 : FVec F S4x2304x2x64 .f32 := Host.absf main_arg1
  let main_cst_0 : FVec F S_ .f32 := constant S_ .f32 0x7F800000#32
  let main_v4 : FVec F S4x2304x2x64 .f32 := broadcastInDim S4x2304x2x64 ![] bcast_S_S4x2304x2x64 main_cst_0
  let main_v5 : IVec S4x2304x2x64 1 := cmpf .olt main_v3 main_v4
  (main_v2, main_v5)
-- ==== Pre_finite_qk_mla.lean ====
abbrev S4x2304x8x96 : Shape := ⟨4, ![4, 2304, 8, 96]⟩
abbrev S4x2304x8x64 : Shape := ⟨4, ![4, 2304, 8, 64]⟩
abbrev S_ : Shape := ⟨0, ![]⟩

class Facts : Prop where
  bcast_S_S4x2304x8x96 : S_.BroadcastsInDim S4x2304x8x96 (![] : Fin 0 → Fin S4x2304x8x96.rank)

variable [Facts]

def fn {F : FTy → Type} [FloatOps F] (main_arg0 : FVec F S4x2304x8x96 .f32) (main_arg1 : FVec F S4x2304x8x96 .f32) (main_arg2 : FVec F S4x2304x8x64 .f32) : IVec S4x2304x8x96 1 × IVec S4x2304x8x96 1 :=
  let main_v0 : FVec F S4x2304x8x96 .f32 := Host.absf main_arg0
  let main_cst : FVec F S_ .f32 := constant S_ .f32 0x7F800000#32
  let main_v1 : FVec F S4x2304x8x96 .f32 := broadcastInDim S4x2304x8x96 ![] bcast_S_S4x2304x8x96 main_cst
  let main_v2 : IVec S4x2304x8x96 1 := cmpf .olt main_v0 main_v1
  let main_v3 : FVec F S4x2304x8x96 .f32 := Host.absf main_arg1
  let main_cst_0 : FVec F S_ .f32 := constant S_ .f32 0x7F800000#32
  let main_v4 : FVec F S4x2304x8x96 .f32 := broadcastInDim S4x2304x8x96 ![] bcast_S_S4x2304x8x96 main_cst_0
  let main_v5 : IVec S4x2304x8x96 1 := cmpf .olt main_v3 main_v4
  (main_v2, main_v5)
-- ==== Kernel.lean ====
abbrev S4x2304x8x64 : Shape := ⟨4, ![4, 2304, 8, 64]⟩
abbrev S4x2304x2x64 : Shape := ⟨4, ![4, 2304, 2, 64]⟩
abbrev S4x8x2304x64 : Shape := ⟨4, ![4, 8, 2304, 64]⟩
abbrev S4x2x2304x64 : Shape := ⟨4, ![4, 2, 2304, 64]⟩
abbrev S4x2x64x2304 : Shape := ⟨4, ![4, 2, 64, 2304]⟩
abbrev S_ : Shape := ⟨0, ![]⟩
abbrev S4x2x1x2304 : Shape := ⟨4, ![4, 2, 1, 2304]⟩
abbrev S4x2x15x2304 : Shape := ⟨4, ![4, 2, 15, 2304]⟩
abbrev S4x2x16x2304 : Shape := ⟨4, ![4, 2, 16, 2304]⟩
abbrev S4x2x80x2304 : Shape := ⟨4, ![4, 2, 80, 2304]⟩
abbrev S4x2304x512 : Shape := ⟨3, ![4, 2304, 512]⟩
abbrev S1x8x256x64 : Shape := ⟨4, ![1, 8, 256, 64]⟩
abbrev S1x2x2304x64 : Shape := ⟨4, ![1, 2, 2304, 64]⟩
abbrev S1x2x80x2304 : Shape := ⟨4, ![1, 2, 80, 2304]⟩
abbrev S1x256x512 : Shape := ⟨3, ![1, 256, 512]⟩
abbrev S2x2304x256 : Shape := ⟨3, ![2, 2304, 256]⟩
abbrev S1x1x256x64 : Shape := ⟨4, ![1, 1, 256, 64]⟩
abbrev S256x64 : Shape := ⟨2, ![256, 64]⟩
abbrev S256x256 : Shape := ⟨2, ![256, 256]⟩
abbrev S1x256x256 : Shape := ⟨3, ![1, 256, 256]⟩
abbrev S4x64x256 : Shape := ⟨3, ![4, 64, 256]⟩
abbrev S64x256 : Shape := ⟨2, ![64, 256]⟩
abbrev S256 : Shape := ⟨1, ![256]⟩
abbrev S1x256 : Shape := ⟨2, ![1, 256]⟩
abbrev S1x1x80x256 : Shape := ⟨4, ![1, 1, 80, 256]⟩
abbrev S80x256 : Shape := ⟨2, ![80, 256]⟩
abbrev S128x256 : Shape := ⟨2, ![128, 256]⟩
abbrev S256x128 : Shape := ⟨2, ![256, 128]⟩
abbrev S1x256x128 : Shape := ⟨3, ![1, 256, 128]⟩
abbrev S1x1x2304x64 : Shape := ⟨4, ![1, 1, 2304, 64]⟩
abbrev S2304x64 : Shape := ⟨2, ![2304, 64]⟩
abbrev S2304x256 : Shape := ⟨2, ![2304, 256]⟩
abbrev S1x2304x256 : Shape := ⟨3, ![1, 2304, 256]⟩
abbrev S36x64x256 : Shape := ⟨3, ![36, 64, 256]⟩
abbrev S1x1x80x2304 : Shape := ⟨4, ![1, 1, 80, 2304]⟩
abbrev S80x2304 : Shape := ⟨2, ![80, 2304]⟩

abbrev nBuf : Space → Nat
  | .hbm => 15
  | .vmem => 9
  | .smem => 0
  | _ => 0

abbrev bufTy : (tb : Table) → Fin (tcTables nBuf tb) → BufTy
  | .hbm, ⟨0, _⟩ => ⟨S4x2304x8x64, .f32⟩
  | .hbm, ⟨1, _⟩ => ⟨S4x2304x2x64, .f32⟩
  | .hbm, ⟨2, _⟩ => ⟨S4x2304x2x64, .f32⟩
  | .hbm, ⟨3, _⟩ => ⟨S4x8x2304x64, .f32⟩
  | .hbm, ⟨4, _⟩ => ⟨S4x2x2304x64, .f32⟩
  | .hbm, ⟨5, _⟩ => ⟨S4x2x2304x64, .bf16⟩
  | .hbm, ⟨6, _⟩ => ⟨S4x2x64x2304, .f32⟩
  | .hbm, ⟨7, _⟩ => ⟨S4x2x64x2304, .bf16⟩
  | .hbm, ⟨8, _⟩ => ⟨S_, .bf16⟩
  | .hbm, ⟨9, _⟩ => ⟨S4x2x1x2304, .bf16⟩
  | .hbm, ⟨10, _⟩ => ⟨S_, .bf16⟩
  | .hbm, ⟨11, _⟩ => ⟨S4x2x15x2304, .bf16⟩
  | .hbm, ⟨12, _⟩ => ⟨S4x2x16x2304, .bf16⟩
  | .hbm, ⟨13, _⟩ => ⟨S4x2x80x2304, .bf16⟩
  | .hbm, ⟨14, _⟩ => ⟨S4x2304x512, .bf16⟩
  | .local _ .vmem, ⟨0, _⟩ => ⟨S1x8x256x64, .f32⟩
  | .local _ .vmem, ⟨1, _⟩ => ⟨S1x8x256x64, .f32⟩
  | .local _ .vmem, ⟨2, _⟩ => ⟨S1x2x2304x64, .bf16⟩
  | .local _ .vmem, ⟨3, _⟩ => ⟨S1x2x2304x64, .bf16⟩
  | .local _ .vmem, ⟨4, _⟩ => ⟨S1x2x80x2304, .bf16⟩
  | .local _ .vmem, ⟨5, _⟩ => ⟨S1x2x80x2304, .bf16⟩
  | .local _ .vmem, ⟨6, _⟩ => ⟨S1x256x512, .bf16⟩
  | .local _ .vmem, ⟨7, _⟩ => ⟨S1x256x512, .bf16⟩
  | .local _ .vmem, ⟨8, _⟩ => ⟨S2x2304x256, .f32⟩
  | _, _ => ⟨S4x2304x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2304x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x80x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "gqa_scale_log2e" => some (((8 * (Real.log 2))⁻¹ : ℝ) : EReal)
  | _ => none
-- ==== ReferenceIdeal.lean ====
abbrev S4x2304x8x64 : Shape := ⟨4, ![4, 2304, 8, 64]⟩
abbrev S4x2304x2x64 : Shape := ⟨4, ![4, 2304, 2, 64]⟩
abbrev S4x256x8x64 : Shape := ⟨4, ![4, 256, 8, 64]⟩
abbrev S4x256x2x64 : Shape := ⟨4, ![4, 256, 2, 64]⟩
abbrev S4x256x2x4x64 : Shape := ⟨5, ![4, 256, 2, 4, 64]⟩
abbrev S4x2x256x256x4 : Shape := ⟨5, ![4, 2, 256, 256, 4]⟩
abbrev S4x2x4x256x256 : Shape := ⟨5, ![4, 2, 4, 256, 256]⟩
abbrev S_ : Shape := ⟨0, ![]⟩
abbrev S4x2x4x256 : Shape := ⟨4, ![4, 2, 4, 256]⟩
abbrev S4x2x4x256x1 : Shape := ⟨5, ![4, 2, 4, 256, 1]⟩
abbrev S4x2x64x4x256 : Shape := ⟨5, ![4, 2, 64, 4, 256]⟩
abbrev S4x256x512 : Shape := ⟨3, ![4, 256, 512]⟩
abbrev S4x2048x8x64 : Shape := ⟨4, ![4, 2048, 8, 64]⟩
abbrev S4x2048x2x4x64 : Shape := ⟨5, ![4, 2048, 2, 4, 64]⟩
abbrev S4x2x2304x2048x4 : Shape := ⟨5, ![4, 2, 2304, 2048, 4]⟩
abbrev S4x2x4x2048x2304 : Shape := ⟨5, ![4, 2, 4, 2048, 2304]⟩
abbrev S4x2x4x2048 : Shape := ⟨4, ![4, 2, 4, 2048]⟩
abbrev S4x2x4x2048x1 : Shape := ⟨5, ![4, 2, 4, 2048, 1]⟩
abbrev S4x2x64x4x2048 : Shape := ⟨5, ![4, 2, 64, 4, 2048]⟩
abbrev S4x2048x512 : Shape := ⟨3, ![4, 2048, 512]⟩
abbrev S4x2304x512 : Shape := ⟨3, ![4, 2304, 512]⟩

abbrev nBuf : Space → Nat
  | .hbm => 55
  | .vmem => 0
  | .smem => 0
  | _ => 0

abbrev bufTy : (tb : Table) → Fin (tcTables nBuf tb) → BufTy
  | .hbm, ⟨0, _⟩ => ⟨S4x2304x8x64, .f32⟩
  | .hbm, ⟨1, _⟩ => ⟨S4x2304x2x64, .f32⟩
  | .hbm, ⟨2, _⟩ => ⟨S4x2304x2x64, .f32⟩
  | .hbm, ⟨3, _⟩ => ⟨S4x256x8x64, .f32⟩
  | .hbm, ⟨4, _⟩ => ⟨S4x256x2x64, .f32⟩
  | .hbm, ⟨5, _⟩ => ⟨S4x256x2x64, .f32⟩
  | .hbm, ⟨6, _⟩ => ⟨S4x256x2x4x64, .f32⟩
  | .hbm, ⟨7, _⟩ => ⟨S4x2x256x256x4, .f32⟩
  | .hbm, ⟨8, _⟩ => ⟨S4x2x4x256x256, .f32⟩
  | .hbm, ⟨9, _⟩ => ⟨S_, .f32⟩
  | .hbm, ⟨10, _⟩ => ⟨S4x2x4x256x256, .f32⟩
  | .hbm, ⟨11, _⟩ => ⟨S4x2x4x256x256, .f32⟩
  | .hbm, ⟨12, _⟩ => ⟨S_, .f32⟩
  | .hbm, ⟨13, _⟩ => ⟨S4x2x4x256, .f32⟩
  | .hbm, ⟨14, _⟩ => ⟨S_, .f32⟩
  | .hbm, ⟨15, _⟩ => ⟨S4x2x4x256, .f32⟩
  | .hbm, ⟨16, _⟩ => ⟨S4x2x4x256, .f32⟩
  | .hbm, ⟨17, _⟩ => ⟨S4x2x4x256x1, .f32⟩
  | .hbm, ⟨18, _⟩ => ⟨S4x2x4x256x256, .f32⟩
  | .hbm, ⟨19, _⟩ => ⟨S4x2x4x256x256, .f32⟩
  | .hbm, ⟨20, _⟩ => ⟨S4x2x4x256x256, .f32⟩
  | .hbm, ⟨21, _⟩ => ⟨S_, .f32⟩
  | .hbm, ⟨22, _⟩ => ⟨S4x2x4x256, .f32⟩
  | .hbm, ⟨23, _⟩ => ⟨S4x2x4x256x1, .f32⟩
  | .hbm, ⟨24, _⟩ => ⟨S4x2x4x256x256, .f32⟩
  | .hbm, ⟨25, _⟩ => ⟨S4x2x4x256x256, .f32⟩
  | .hbm, ⟨26, _⟩ => ⟨S4x2x64x4x256, .f32⟩
  | .hbm, ⟨27, _⟩ => ⟨S4x256x2x4x64, .f32⟩
  | .hbm, ⟨28, _⟩ => ⟨S4x256x512, .f32⟩
  | .hbm, ⟨29, _⟩ => ⟨S4x2048x8x64, .f32⟩
  | .hbm, ⟨30, _⟩ => ⟨S4x2048x2x4x64, .f32⟩
  | .hbm, ⟨31, _⟩ => ⟨S4x2x2304x2048x4, .f32⟩
  | .hbm, ⟨32, _⟩ => ⟨S4x2x4x2048x2304, .f32⟩
  | .hbm, ⟨33, _⟩ => ⟨S_, .f32⟩
  | .hbm, ⟨34, _⟩ => ⟨S4x2x4x2048x2304, .f32⟩
  | .hbm, ⟨35, _⟩ => ⟨S4x2x4x2048x2304, .f32⟩
  | .hbm, ⟨36, _⟩ => ⟨S_, .f32⟩
  | .hbm, ⟨37, _⟩ => ⟨S4x2x4x2048, .f32⟩
  | .hbm, ⟨38, _⟩ => ⟨S_, .f32⟩
  | .hbm, ⟨39, _⟩ => ⟨S4x2x4x2048, .f32⟩
  | .hbm, ⟨40, _⟩ => ⟨S4x2x4x2048, .f32⟩
  | .hbm, ⟨41, _⟩ => ⟨S4x2x4x2048x1, .f32⟩
  | .hbm, ⟨42, _⟩ => ⟨S4x2x4x2048x2304, .f32⟩
  | .hbm, ⟨43, _⟩ => ⟨S4x2x4x2048x2304, .f32⟩
  | .hbm, ⟨44, _⟩ => ⟨S4x2x4x2048x2304, .f32⟩
  | .hbm, ⟨45, _⟩ => ⟨S_, .f32⟩
  | .hbm, ⟨46, _⟩ => ⟨S4x2x4x2048, .f32⟩
  | .hbm, ⟨47, _⟩ => ⟨S4x2x4x2048x1, .f32⟩
  | .hbm, ⟨48, _⟩ => ⟨S4x2x4x2048x2304, .f32⟩
  | .hbm, ⟨49, _⟩ => ⟨S4x2x4x2048x2304, .f32⟩
  | .hbm, ⟨50, _⟩ => ⟨S4x2x64x4x2048, .f32⟩
  | .hbm, ⟨51, _⟩ => ⟨S4x2048x2x4x64, .f32⟩
  | .hbm, ⟨52, _⟩ => ⟨S4x2048x512, .f32⟩
  | .hbm, ⟨53, _⟩ => ⟨S4x2304x512, .f32⟩
  | .hbm, ⟨54, _⟩ => ⟨S4x2304x512, .bf16⟩
  | _, _ => ⟨S4x2304x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== KernelMla.lean ====
abbrev S4x2304x8x96 : Shape := ⟨4, ![4, 2304, 8, 96]⟩
abbrev S4x2304x8x64 : Shape := ⟨4, ![4, 2304, 8, 64]⟩
abbrev S_ : Shape := ⟨0, ![]⟩
abbrev S4x2304x8x32 : Shape := ⟨4, ![4, 2304, 8, 32]⟩
abbrev S4x2304x8x128 : Shape := ⟨4, ![4, 2304, 8, 128]⟩
abbrev S4x8x2304x128 : Shape := ⟨4, ![4, 8, 2304, 128]⟩
abbrev S4x8x64x2304 : Shape := ⟨4, ![4, 8, 64, 2304]⟩
abbrev S4x8x1x2304 : Shape := ⟨4, ![4, 8, 1, 2304]⟩
abbrev S4x8x15x2304 : Shape := ⟨4, ![4, 8, 15, 2304]⟩
abbrev S4x8x16x2304 : Shape := ⟨4, ![4, 8, 16, 2304]⟩
abbrev S4x8x80x2304 : Shape := ⟨4, ![4, 8, 80, 2304]⟩
abbrev S4x2304x512 : Shape := ⟨3, ![4, 2304, 512]⟩
abbrev S1x8x256x128 : Shape := ⟨4, ![1, 8, 256, 128]⟩
abbrev S1x8x2304x128 : Shape := ⟨4, ![1, 8, 2304, 128]⟩
abbrev S1x8x80x2304 : Shape := ⟨4, ![1, 8, 80, 2304]⟩
abbrev S1x256x512 : Shape := ⟨3, ![1, 256, 512]⟩
abbrev S2x2304x256 : Shape := ⟨3, ![2, 2304, 256]⟩
abbrev S1x1x256x128 : Shape := ⟨4, ![1, 1, 256, 128]⟩
abbrev S256x128 : Shape := ⟨2, ![256, 128]⟩
abbrev S256x256 : Shape := ⟨2, ![256, 256]⟩
abbrev S1x256x256 : Shape := ⟨3, ![1, 256, 256]⟩
abbrev S4x64x256 : Shape := ⟨3, ![4, 64, 256]⟩
abbrev S64x256 : Shape := ⟨2, ![64, 256]⟩
abbrev S256 : Shape := ⟨1, ![256]⟩
abbrev S1x256 : Shape := ⟨2, ![1, 256]⟩
abbrev S1x1x80x256 : Shape := ⟨4, ![1, 1, 80, 256]⟩
abbrev S80x256 : Shape := ⟨2, ![80, 256]⟩
abbrev S128x256 : Shape := ⟨2, ![128, 256]⟩
abbrev S1x256x128 : Shape := ⟨3, ![1, 256, 128]⟩
abbrev S1x1x2304x128 : Shape := ⟨4, ![1, 1, 2304, 128]⟩
abbrev S2304x128 : Shape := ⟨2, ![2304, 128]⟩
abbrev S2304x256 : Shape := ⟨2, ![2304, 256]⟩
abbrev S1x2304x256 : Shape := ⟨3, ![1, 2304, 256]⟩
abbrev S36x64x256 : Shape := ⟨3, ![36, 64, 256]⟩
abbrev S1x1x80x2304 : Shape := ⟨4, ![1, 1, 80, 2304]⟩
abbrev S80x2304 : Shape := ⟨2, ![80, 2304]⟩

abbrev nBuf : Space → Nat
  | .hbm => 21
  | .vmem => 9
  | .smem => 0
  | _ => 0

abbrev bufTy : (tb : Table) → Fin (tcTables nBuf tb) → BufTy
  | .hbm, ⟨0, _⟩ => ⟨S4x2304x8x96, .f32⟩
  | .hbm, ⟨1, _⟩ => ⟨S4x2304x8x96, .f32⟩
  | .hbm, ⟨2, _⟩ => ⟨S4x2304x8x64, .f32⟩
  | .hbm, ⟨3, _⟩ => ⟨S_, .f32⟩
  | .hbm, ⟨4, _⟩ => ⟨S4x2304x8x32, .f32⟩
  | .hbm, ⟨5, _⟩ => ⟨S4x2304x8x128, .f32⟩
  | .hbm, ⟨6, _⟩ => ⟨S4x8x2304x128, .f32⟩
  | .hbm, ⟨7, _⟩ => ⟨S_, .f32⟩
  | .hbm, ⟨8, _⟩ => ⟨S4x2304x8x32, .f32⟩
  | .hbm, ⟨9, _⟩ => ⟨S4x2304x8x128, .f32⟩
  | .hbm, ⟨10, _⟩ => ⟨S4x8x2304x128, .f32⟩
  | .hbm, ⟨11, _⟩ => ⟨S4x8x2304x128, .bf16⟩
  | .hbm, ⟨12, _⟩ => ⟨S4x8x64x2304, .f32⟩
  | .hbm, ⟨13, _⟩ => ⟨S4x8x64x2304, .bf16⟩
  | .hbm, ⟨14, _⟩ => ⟨S_, .bf16⟩
  | .hbm, ⟨15, _⟩ => ⟨S4x8x1x2304, .bf16⟩
  | .hbm, ⟨16, _⟩ => ⟨S_, .bf16⟩
  | .hbm, ⟨17, _⟩ => ⟨S4x8x15x2304, .bf16⟩
  | .hbm, ⟨18, _⟩ => ⟨S4x8x16x2304, .bf16⟩
  | .hbm, ⟨19, _⟩ => ⟨S4x8x80x2304, .bf16⟩
  | .hbm, ⟨20, _⟩ => ⟨S4x2304x512, .bf16⟩
  | .local _ .vmem, ⟨0, _⟩ => ⟨S1x8x256x128, .f32⟩
  | .local _ .vmem, ⟨1, _⟩ => ⟨S1x8x256x128, .f32⟩
  | .local _ .vmem, ⟨2, _⟩ => ⟨S1x8x2304x128, .bf16⟩
  | .local _ .vmem, ⟨3, _⟩ => ⟨S1x8x2304x128, .bf16⟩
  | .local _ .vmem, ⟨4, _⟩ => ⟨S1x8x80x2304, .bf16⟩
  | .local _ .vmem, ⟨5, _⟩ => ⟨S1x8x80x2304, .bf16⟩
  | .local _ .vmem, ⟨6, _⟩ => ⟨S1x256x512, .bf16⟩
  | .local _ .vmem, ⟨7, _⟩ => ⟨S1x256x512, .bf16⟩
  | .local _ .vmem, ⟨8, _⟩ => ⟨S2x2304x256, .f32⟩
  | _, _ => ⟨S4x2304x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x80x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelMlaIdeal.lean ====
variable {F : FTy → Type} [FloatOps F] [Named F]
def κ : String → Option EReal := fun
  | "mla_scale_log2e" => some (((3424635 / 33554432) * (Real.log 2)⁻¹ : ℝ) : EReal)
  | _ => none
-- ==== ReferenceMlaIdeal.lean ====
abbrev S4x2304x8x96 : Shape := ⟨4, ![4, 2304, 8, 96]⟩
abbrev S4x2304x8x64 : Shape := ⟨4, ![4, 2304, 8, 64]⟩
abbrev S4x256x8x96 : Shape := ⟨4, ![4, 256, 8, 96]⟩
abbrev S4x256x8x64 : Shape := ⟨4, ![4, 256, 8, 64]⟩
abbrev S4x256x8x1x96 : Shape := ⟨5, ![4, 256, 8, 1, 96]⟩
abbrev S4x8x256x256x1 : Shape := ⟨5, ![4, 8, 256, 256, 1]⟩
abbrev S4x8x1x256x256 : Shape := ⟨5, ![4, 8, 1, 256, 256]⟩
abbrev S_ : Shape := ⟨0, ![]⟩
abbrev S4x8x1x256 : Shape := ⟨4, ![4, 8, 1, 256]⟩
abbrev S4x8x1x256x1 : Shape := ⟨5, ![4, 8, 1, 256, 1]⟩
abbrev S4x8x64x1x256 : Shape := ⟨5, ![4, 8, 64, 1, 256]⟩
abbrev S4x256x8x1x64 : Shape := ⟨5, ![4, 256, 8, 1, 64]⟩
abbrev S4x256x512 : Shape := ⟨3, ![4, 256, 512]⟩
abbrev S4x2048x8x96 : Shape := ⟨4, ![4, 2048, 8, 96]⟩
abbrev S4x2048x8x1x96 : Shape := ⟨5, ![4, 2048, 8, 1, 96]⟩
abbrev S4x8x2304x2048x1 : Shape := ⟨5, ![4, 8, 2304, 2048, 1]⟩
abbrev S4x8x1x2048x2304 : Shape := ⟨5, ![4, 8, 1, 2048, 2304]⟩
abbrev S4x8x1x2048 : Shape := ⟨4, ![4, 8, 1, 2048]⟩
abbrev S4x8x1x2048x1 : Shape := ⟨5, ![4, 8, 1, 2048, 1]⟩
abbrev S4x8x64x1x2048 : Shape := ⟨5, ![4, 8, 64, 1, 2048]⟩
abbrev S4x2048x8x1x64 : Shape := ⟨5, ![4, 2048, 8, 1, 64]⟩
abbrev S4x2048x512 : Shape := ⟨3, ![4, 2048, 512]⟩
abbrev S4x2304x512 : Shape := ⟨3, ![4, 2304, 512]⟩

abbrev nBuf : Space → Nat
  | .hbm => 55
  | .vmem => 0
  | .smem => 0
  | _ => 0

abbrev bufTy : (tb : Table) → Fin (tcTables nBuf tb) → BufTy
  | .hbm, ⟨0, _⟩ => ⟨S4x2304x8x96, .f32⟩
  | .hbm, ⟨1, _⟩ => ⟨S4x2304x8x96, .f32⟩
  | .hbm, ⟨2, _⟩ => ⟨S4x2304x8x64, .f32⟩
  | .hbm, ⟨3, _⟩ => ⟨S4x256x8x96, .f32⟩
  | .hbm, ⟨4, _⟩ => ⟨S4x256x8x96, .f32⟩
  | .hbm, ⟨5, _⟩ => ⟨S4x256x8x64, .f32⟩
  | .hbm, ⟨6, _⟩ => ⟨S4x256x8x1x96, .f32⟩
  | .hbm, ⟨7, _⟩ => ⟨S4x8x256x256x1, .f32⟩
  | .hbm, ⟨8, _⟩ => ⟨S4x8x1x256x256, .f32⟩
  | .hbm, ⟨9, _⟩ => ⟨S_, .f32⟩
  | .hbm, ⟨10, _⟩ => ⟨S4x8x1x256x256, .f32⟩
  | .hbm, ⟨11, _⟩ => ⟨S4x8x1x256x256, .f32⟩
  | .hbm, ⟨12, _⟩ => ⟨S_, .f32⟩
  | .hbm, ⟨13, _⟩ => ⟨S4x8x1x256, .f32⟩
  | .hbm, ⟨14, _⟩ => ⟨S_, .f32⟩
  | .hbm, ⟨15, _⟩ => ⟨S4x8x1x256, .f32⟩
  | .hbm, ⟨16, _⟩ => ⟨S4x8x1x256, .f32⟩
  | .hbm, ⟨17, _⟩ => ⟨S4x8x1x256x1, .f32⟩
  | .hbm, ⟨18, _⟩ => ⟨S4x8x1x256x256, .f32⟩
  | .hbm, ⟨19, _⟩ => ⟨S4x8x1x256x256, .f32⟩
  | .hbm, ⟨20, _⟩ => ⟨S4x8x1x256x256, .f32⟩
  | .hbm, ⟨21, _⟩ => ⟨S_, .f32⟩
  | .hbm, ⟨22, _⟩ => ⟨S4x8x1x256, .f32⟩
  | .hbm, ⟨23, _⟩ => ⟨S4x8x1x256x1, .f32⟩
  | .hbm, ⟨24, _⟩ => ⟨S4x8x1x256x256, .f32⟩
  | .hbm, ⟨25, _⟩ => ⟨S4x8x1x256x256, .f32⟩
  | .hbm, ⟨26, _⟩ => ⟨S4x8x64x1x256, .f32⟩
  | .hbm, ⟨27, _⟩ => ⟨S4x256x8x1x64, .f32⟩
  | .hbm, ⟨28, _⟩ => ⟨S4x256x512, .f32⟩
  | .hbm, ⟨29, _⟩ => ⟨S4x2048x8x96, .f32⟩
  | .hbm, ⟨30, _⟩ => ⟨S4x2048x8x1x96, .f32⟩
  | .hbm, ⟨31, _⟩ => ⟨S4x8x2304x2048x1, .f32⟩
  | .hbm, ⟨32, _⟩ => ⟨S4x8x1x2048x2304, .f32⟩
  | .hbm, ⟨33, _⟩ => ⟨S_, .f32⟩
  | .hbm, ⟨34, _⟩ => ⟨S4x8x1x2048x2304, .f32⟩
  | .hbm, ⟨35, _⟩ => ⟨S4x8x1x2048x2304, .f32⟩
  | .hbm, ⟨36, _⟩ => ⟨S_, .f32⟩
  | .hbm, ⟨37, _⟩ => ⟨S4x8x1x2048, .f32⟩
  | .hbm, ⟨38, _⟩ => ⟨S_, .f32⟩
  | .hbm, ⟨39, _⟩ => ⟨S4x8x1x2048, .f32⟩
  | .hbm, ⟨40, _⟩ => ⟨S4x8x1x2048, .f32⟩
  | .hbm, ⟨41, _⟩ => ⟨S4x8x1x2048x1, .f32⟩
  | .hbm, ⟨42, _⟩ => ⟨S4x8x1x2048x2304, .f32⟩
  | .hbm, ⟨43, _⟩ => ⟨S4x8x1x2048x2304, .f32⟩
  | .hbm, ⟨44, _⟩ => ⟨S4x8x1x2048x2304, .f32⟩
  | .hbm, ⟨45, _⟩ => ⟨S_, .f32⟩
  | .hbm, ⟨46, _⟩ => ⟨S4x8x1x2048, .f32⟩
  | .hbm, ⟨47, _⟩ => ⟨S4x8x1x2048x1, .f32⟩
  | .hbm, ⟨48, _⟩ => ⟨S4x8x1x2048x2304, .f32⟩
  | .hbm, ⟨49, _⟩ => ⟨S4x8x1x2048x2304, .f32⟩
  | .hbm, ⟨50, _⟩ => ⟨S4x8x64x1x2048, .f32⟩
  | .hbm, ⟨51, _⟩ => ⟨S4x2048x8x1x64, .f32⟩
  | .hbm, ⟨52, _⟩ => ⟨S4x2048x512, .f32⟩
  | .hbm, ⟨53, _⟩ => ⟨S4x2304x512, .f32⟩
  | .hbm, ⟨54, _⟩ => ⟨S4x2304x512, .bf16⟩
  | _, _ => ⟨S4x2304x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== KernelMerge.lean ====
abbrev S4x2304x2048 : Shape := ⟨3, ![4, 2304, 2048]⟩
abbrev S4x2048x9248 : Shape := ⟨3, ![4, 2048, 9248]⟩
abbrev S4x2304x512 : Shape := ⟨3, ![4, 2304, 512]⟩
abbrev S4x512x2048 : Shape := ⟨3, ![4, 512, 2048]⟩
abbrev S4x2048x6144 : Shape := ⟨3, ![4, 2048, 6144]⟩
abbrev S9216x2048 : Shape := ⟨2, ![9216, 2048]⟩
abbrev S9216x512 : Shape := ⟨2, ![9216, 512]⟩
abbrev S1152x2048 : Shape := ⟨2, ![1152, 2048]⟩
abbrev S1x2048x512 : Shape := ⟨3, ![1, 2048, 512]⟩
abbrev S1152x512 : Shape := ⟨2, ![1152, 512]⟩
abbrev S1x512x512 : Shape := ⟨3, ![1, 512, 512]⟩
abbrev S2048x512 : Shape := ⟨2, ![2048, 512]⟩
abbrev S512x512 : Shape := ⟨2, ![512, 512]⟩

abbrev nBuf : Space → Nat
  | .hbm => 19
  | .vmem => 22
  | .smem => 0
  | _ => 0

abbrev bufTy : (tb : Table) → Fin (tcTables nBuf tb) → BufTy
  | .hbm, ⟨0, _⟩ => ⟨S4x2304x2048, .f32⟩
  | .hbm, ⟨1, _⟩ => ⟨S4x2048x9248, .f32⟩
  | .hbm, ⟨2, _⟩ => ⟨S4x2304x512, .f32⟩
  | .hbm, ⟨3, _⟩ => ⟨S4x2304x512, .f32⟩
  | .hbm, ⟨4, _⟩ => ⟨S4x2304x512, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x2048x6144, .f32⟩
  | .hbm, ⟨9, _⟩ => ⟨S4x2048x6144, .bf16⟩
  | .hbm, ⟨10, _⟩ => ⟨S9216x2048, .f32⟩
  | .hbm, ⟨11, _⟩ => ⟨S9216x2048, .bf16⟩
  | .hbm, ⟨12, _⟩ => ⟨S9216x512, .f32⟩
  | .hbm, ⟨13, _⟩ => ⟨S9216x512, .bf16⟩
  | .hbm, ⟨14, _⟩ => ⟨S9216x512, .f32⟩
  | .hbm, ⟨15, _⟩ => ⟨S9216x512, .bf16⟩
  | .hbm, ⟨16, _⟩ => ⟨S9216x512, .f32⟩
  | .hbm, ⟨17, _⟩ => ⟨S9216x512, .bf16⟩
  | .hbm, ⟨18, _⟩ => ⟨S9216x2048, .bf16⟩
  | .local _ .vmem, ⟨0, _⟩ => ⟨S1152x2048, .bf16⟩
  | .local _ .vmem, ⟨1, _⟩ => ⟨S1152x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1152x512, .bf16⟩
  | .local _ .vmem, ⟨9, _⟩ => ⟨S1152x512, .bf16⟩
  | .local _ .vmem, ⟨10, _⟩ => ⟨S1152x512, .bf16⟩
  | .local _ .vmem, ⟨11, _⟩ => ⟨S1152x512, .bf16⟩
  | .local _ .vmem, ⟨12, _⟩ => ⟨S1152x512, .bf16⟩
  | .local _ .vmem, ⟨13, _⟩ => ⟨S1152x512, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1152x512, .bf16⟩
  | .local _ .vmem, ⟨21, _⟩ => ⟨S1152x512, .bf16⟩
  | _, _ => ⟨S4x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1152x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1152x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1152x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceMergeIdeal.lean ====
abbrev S4x2304x2048 : Shape := ⟨3, ![4, 2304, 2048]⟩
abbrev S4x2048x9248 : Shape := ⟨3, ![4, 2048, 9248]⟩
abbrev S4x2304x512 : Shape := ⟨3, ![4, 2304, 512]⟩
abbrev S4x512x2048 : Shape := ⟨3, ![4, 512, 2048]⟩
abbrev S1x2048x9248 : Shape := ⟨3, ![1, 2048, 9248]⟩
abbrev S2048x9248 : Shape := ⟨2, ![2048, 9248]⟩
abbrev S2048x6144 : Shape := ⟨2, ![2048, 6144]⟩
abbrev S4x2304x6144 : Shape := ⟨3, ![4, 2304, 6144]⟩
abbrev S_ : Shape := ⟨0, ![]⟩
abbrev S1x512x2048 : Shape := ⟨3, ![1, 512, 2048]⟩
abbrev S512x2048 : Shape := ⟨2, ![512, 2048]⟩
abbrev S9216x2048 : Shape := ⟨2, ![9216, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4x2304x2048, .f32⟩
  | .hbm, ⟨1, _⟩ => ⟨S4x2048x9248, .f32⟩
  | .hbm, ⟨2, _⟩ => ⟨S4x2304x512, .f32⟩
  | .hbm, ⟨3, _⟩ => ⟨S4x2304x512, .f32⟩
  | .hbm, ⟨4, _⟩ => ⟨S4x2304x512, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S1x2048x9248, .f32⟩
  | .hbm, ⟨9, _⟩ => ⟨S2048x9248, .f32⟩
  | .hbm, ⟨10, _⟩ => ⟨S2048x6144, .f32⟩
  | .hbm, ⟨11, _⟩ => ⟨S4x2304x6144, .f32⟩
  | .hbm, ⟨12, _⟩ => ⟨S4x2304x6144, .f32⟩
  | .hbm, ⟨13, _⟩ => ⟨S4x2304x6144, .f32⟩
  | .hbm, ⟨14, _⟩ => ⟨S_, .f32⟩
  | .hbm, ⟨15, _⟩ => ⟨S4x2304x6144, .f32⟩
  | .hbm, ⟨16, _⟩ => ⟨S4x2304x6144, .f32⟩
  | .hbm, ⟨17, _⟩ => ⟨S_, .f32⟩
  | .hbm, ⟨18, _⟩ => ⟨S4x2304x6144, .f32⟩
  | .hbm, ⟨19, _⟩ => ⟨S4x2304x6144, .f32⟩
  | .hbm, ⟨20, _⟩ => ⟨S4x2304x2048, .f32⟩
  | .hbm, ⟨21, _⟩ => ⟨S4x2304x2048, .f32⟩
  | .hbm, ⟨22, _⟩ => ⟨S4x2304x2048, .f32⟩
  | .hbm, ⟨23, _⟩ => ⟨S1x512x2048, .f32⟩
  | .hbm, ⟨24, _⟩ => ⟨S512x2048, .f32⟩
  | .hbm, ⟨25, _⟩ => ⟨S4x2304x2048, .f32⟩
  | .hbm, ⟨26, _⟩ => ⟨S4x2304x2048, .f32⟩
  | .hbm, ⟨27, _⟩ => ⟨S1x512x2048, .f32⟩
  | .hbm, ⟨28, _⟩ => ⟨S512x2048, .f32⟩
  | .hbm, ⟨29, _⟩ => ⟨S4x2304x2048, .f32⟩
  | .hbm, ⟨30, _⟩ => ⟨S4x2304x2048, .f32⟩
  | .hbm, ⟨31, _⟩ => ⟨S4x2304x2048, .f32⟩
  | .hbm, ⟨32, _⟩ => ⟨S1x512x2048, .f32⟩
  | .hbm, ⟨33, _⟩ => ⟨S512x2048, .f32⟩
  | .hbm, ⟨34, _⟩ => ⟨S4x2304x2048, .f32⟩
  | .hbm, ⟨35, _⟩ => ⟨S4x2304x2048, .f32⟩
  | .hbm, ⟨36, _⟩ => ⟨S4x2304x2048, .f32⟩
  | .hbm, ⟨37, _⟩ => ⟨S9216x2048, .f32⟩
  | .hbm, ⟨38, _⟩ => ⟨S9216x2048, .bf16⟩
  | _, _ => ⟨S4x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== KernelOutproj.lean ====
abbrev S4x2304x2048 : Shape := ⟨3, ![4, 2304, 2048]⟩
abbrev S4x2048x2048 : Shape := ⟨3, ![4, 2048, 2048]⟩
abbrev S4x2048 : Shape := ⟨2, ![4, 2048]⟩
abbrev S4x6x2048 : Shape := ⟨3, ![4, 6, 2048]⟩
abbrev S6x2048 : Shape := ⟨2, ![6, 2048]⟩
abbrev S4x2048x16 : Shape := ⟨3, ![4, 2048, 16]⟩
abbrev S1x2048 : Shape := ⟨2, ![1, 2048]⟩
abbrev S2048 : Shape := ⟨1, ![2048]⟩
abbrev S1x6x2048 : Shape := ⟨3, ![1, 6, 2048]⟩
abbrev S4x12x2048 : Shape := ⟨3, ![4, 12, 2048]⟩
abbrev S1x2048x16 : Shape := ⟨3, ![1, 2048, 16]⟩
abbrev S2048x16 : Shape := ⟨2, ![2048, 16]⟩
abbrev S16x2048 : Shape := ⟨2, ![16, 2048]⟩
abbrev S4x16x2304 : Shape := ⟨3, ![4, 16, 2304]⟩
abbrev S1x256x2048 : Shape := ⟨3, ![1, 256, 2048]⟩
abbrev S1x2048x2048 : Shape := ⟨3, ![1, 2048, 2048]⟩
abbrev S1x12x2048 : Shape := ⟨3, ![1, 12, 2048]⟩
abbrev S1x16x256 : Shape := ⟨3, ![1, 16, 256]⟩
abbrev S256x2048 : Shape := ⟨2, ![256, 2048]⟩
abbrev S2048x2048 : Shape := ⟨2, ![2048, 2048]⟩
abbrev S1x1x2048 : Shape := ⟨3, ![1, 1, 2048]⟩
abbrev S256 : Shape := ⟨1, ![256]⟩
abbrev S256x1 : Shape := ⟨2, ![256, 1]⟩
abbrev S16x256 : Shape := ⟨2, ![16, 256]⟩
abbrev S1x256 : Shape := ⟨2, ![1, 256]⟩

abbrev nBuf : Space → Nat
  | .hbm => 22
  | .vmem => 15
  | .smem => 0
  | _ => 0

abbrev bufTy : (tb : Table) → Fin (tcTables nBuf tb) → BufTy
  | .hbm, ⟨0, _⟩ => ⟨S4x2304x2048, .f32⟩
  | .hbm, ⟨1, _⟩ => ⟨S4x2048x2048, .f32⟩
  | .hbm, ⟨2, _⟩ => ⟨S4x2304x2048, .f32⟩
  | .hbm, ⟨3, _⟩ => ⟨S4x2048, .f32⟩
  | .hbm, ⟨4, _⟩ => ⟨S4x6x2048, .f32⟩
  | .hbm, ⟨5, _⟩ => ⟨S6x2048, .f32⟩
  | .hbm, ⟨6, _⟩ => ⟨S4x2048x16, .f32⟩
  | .hbm, ⟨7, _⟩ => ⟨S4x2304x2048, .bf16⟩
  | .hbm, ⟨8, _⟩ => ⟨S4x2048x2048, .bf16⟩
  | .hbm, ⟨9, _⟩ => ⟨S1x2048, .f32⟩
  | .hbm, ⟨10, _⟩ => ⟨S2048, .f32⟩
  | .hbm, ⟨11, _⟩ => ⟨S1x6x2048, .f32⟩
  | .hbm, ⟨12, _⟩ => ⟨S4x6x2048, .f32⟩
  | .hbm, ⟨13, _⟩ => ⟨S4x12x2048, .f32⟩
  | .hbm, ⟨14, _⟩ => ⟨S1x2048x16, .f32⟩
  | .hbm, ⟨15, _⟩ => ⟨S2048x16, .f32⟩
  | .hbm, ⟨16, _⟩ => ⟨S16x2048, .f32⟩
  | .hbm, ⟨17, _⟩ => ⟨S16x2048, .bf16⟩
  | .hbm, ⟨18, _⟩ => ⟨S1x2048, .f32⟩
  | .hbm, ⟨19, _⟩ => ⟨S4x2304x2048, .f32⟩
  | .hbm, ⟨20, _⟩ => ⟨S4x2304x2048, .bf16⟩
  | .hbm, ⟨21, _⟩ => ⟨S4x16x2304, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x2048, .f32⟩
  | .local _ .vmem, ⟨6, _⟩ => ⟨S1x12x2048, .f32⟩
  | .local _ .vmem, ⟨7, _⟩ => ⟨S1x12x2048, .f32⟩
  | .local _ .vmem, ⟨8, _⟩ => ⟨S16x2048, .bf16⟩
  | .local _ .vmem, ⟨9, _⟩ => ⟨S1x256x2048, .f32⟩
  | .local _ .vmem, ⟨10, _⟩ => ⟨S1x256x2048, .f32⟩
  | .local _ .vmem, ⟨11, _⟩ => ⟨S1x256x2048, .bf16⟩
  | .local _ .vmem, ⟨12, _⟩ => ⟨S1x256x2048, .bf16⟩
  | .local _ .vmem, ⟨13, _⟩ => ⟨S1x16x256, .f32⟩
  | .local _ .vmem, ⟨14, _⟩ => ⟨S1x16x256, .f32⟩
  | _, _ => ⟨S4x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 9], ![false, false]⟩

def k0_off1 (i : grid0.Coords) (c2_i32 : BitVec 32) : Fin 3 → Nat :=
  let c0_5 : Index := 0#32
  let arg1 : BitVec 32 := BitVec.ofNat 32 (i 1).val
  let c1_i32 : BitVec 32 := 1#32
  let v5 : BitVec 32 := Scalar.minsi arg1 c1_i32
  let c6_i32 : BitVec 32 := 6#32
  let v6 : BitVec 32 := Scalar.muli v5 c6_i32
  let v7 : BitVec 32 := Scalar.addi v6 c2_i32
  let v8 : Index := Scalar.indexCast v7
  let c0_6 : Index := 0#32
  ![0, v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x12x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S16x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceOutprojIdeal.lean ====
abbrev S4x2304x2048 : Shape := ⟨3, ![4, 2304, 2048]⟩
abbrev S4x2048x2048 : Shape := ⟨3, ![4, 2048, 2048]⟩
abbrev S4x2048 : Shape := ⟨2, ![4, 2048]⟩
abbrev S4x6x2048 : Shape := ⟨3, ![4, 6, 2048]⟩
abbrev S6x2048 : Shape := ⟨2, ![6, 2048]⟩
abbrev S4x2048x16 : Shape := ⟨3, ![4, 2048, 16]⟩
abbrev S1x2048 : Shape := ⟨2, ![1, 2048]⟩
abbrev S2048 : Shape := ⟨1, ![2048]⟩
abbrev S4x256x2048 : Shape := ⟨3, ![4, 256, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S_ : Shape := ⟨0, ![]⟩
abbrev S4x2304 : Shape := ⟨2, ![4, 2304]⟩
abbrev S4x2304x1 : Shape := ⟨3, ![4, 2304, 1]⟩
abbrev S1x1x2048 : Shape := ⟨3, ![1, 1, 2048]⟩
abbrev S1x2048x16 : Shape := ⟨3, ![1, 2048, 16]⟩
abbrev S2048x16 : Shape := ⟨2, ![2048, 16]⟩
abbrev S4x2304x16 : Shape := ⟨3, ![4, 2304, 16]⟩
abbrev S4x16x2304 : Shape := ⟨3, ![4, 16, 2304]⟩

abbrev nBuf : Space → Nat
  | .hbm => 78
  | .vmem => 0
  | .smem => 0
  | _ => 0

abbrev bufTy : (tb : Table) → Fin (tcTables nBuf tb) → BufTy
  | .hbm, ⟨0, _⟩ => ⟨S4x2304x2048, .f32⟩
  | .hbm, ⟨1, _⟩ => ⟨S4x2048x2048, .f32⟩
  | .hbm, ⟨2, _⟩ => ⟨S4x2304x2048, .f32⟩
  | .hbm, ⟨3, _⟩ => ⟨S4x2048, .f32⟩
  | .hbm, ⟨4, _⟩ => ⟨S4x6x2048, .f32⟩
  | .hbm, ⟨5, _⟩ => ⟨S6x2048, .f32⟩
  | .hbm, ⟨6, _⟩ => ⟨S4x2048x16, .f32⟩
  | .hbm, ⟨7, _⟩ => ⟨S1x2048, .f32⟩
  | .hbm, ⟨8, _⟩ => ⟨S2048, .f32⟩
  | .hbm, ⟨9, _⟩ => ⟨S4x256x2048, .f32⟩
  | .hbm, ⟨10, _⟩ => ⟨S4x1x2048, .f32⟩
  | .hbm, ⟨11, _⟩ => ⟨S4x2048, .f32⟩
  | .hbm, ⟨12, _⟩ => ⟨S4x1x2048, .f32⟩
  | .hbm, ⟨13, _⟩ => ⟨S4x2048x2048, .f32⟩
  | .hbm, ⟨14, _⟩ => ⟨S4x2304x2048, .f32⟩
  | .hbm, ⟨15, _⟩ => ⟨S1x2048x2048, .f32⟩
  | .hbm, ⟨16, _⟩ => ⟨S2048x2048, .f32⟩
  | .hbm, ⟨17, _⟩ => ⟨S4x2304x2048, .f32⟩
  | .hbm, ⟨18, _⟩ => ⟨S4x2304x2048, .f32⟩
  | .hbm, ⟨19, _⟩ => ⟨S4x2304x2048, .f32⟩
  | .hbm, ⟨20, _⟩ => ⟨S4x2304x2048, .f32⟩
  | .hbm, ⟨21, _⟩ => ⟨S_, .f32⟩
  | .hbm, ⟨22, _⟩ => ⟨S4x2304, .f32⟩
  | .hbm, ⟨23, _⟩ => ⟨S4x2304x1, .f32⟩
  | .hbm, ⟨24, _⟩ => ⟨S_, .f32⟩
  | .hbm, ⟨25, _⟩ => ⟨S4x2304x1, .f32⟩
  | .hbm, ⟨26, _⟩ => ⟨S4x2304x1, .f32⟩
  | .hbm, ⟨27, _⟩ => ⟨S_, .f32⟩
  | .hbm, ⟨28, _⟩ => ⟨S4x2304x1, .f32⟩
  | .hbm, ⟨29, _⟩ => ⟨S4x2304x1, .f32⟩
  | .hbm, ⟨30, _⟩ => ⟨S4x2304x1, .f32⟩
  | .hbm, ⟨31, _⟩ => ⟨S4x2304x2048, .f32⟩
  | .hbm, ⟨32, _⟩ => ⟨S4x2304x2048, .f32⟩
  | .hbm, ⟨33, _⟩ => ⟨S1x2048, .f32⟩
  | .hbm, ⟨34, _⟩ => ⟨S2048, .f32⟩
  | .hbm, ⟨35, _⟩ => ⟨S1x1x2048, .f32⟩
  | .hbm, ⟨36, _⟩ => ⟨S4x2304x2048, .f32⟩
  | .hbm, ⟨37, _⟩ => ⟨S4x2304x2048, .f32⟩
  | .hbm, ⟨38, _⟩ => ⟨S1x2048, .f32⟩
  | .hbm, ⟨39, _⟩ => ⟨S2048, .f32⟩
  | .hbm, ⟨40, _⟩ => ⟨S4x256x2048, .f32⟩
  | .hbm, ⟨41, _⟩ => ⟨S4x1x2048, .f32⟩
  | .hbm, ⟨42, _⟩ => ⟨S4x2048, .f32⟩
  | .hbm, ⟨43, _⟩ => ⟨S4x1x2048, .f32⟩
  | .hbm, ⟨44, _⟩ => ⟨S4x2048x2048, .f32⟩
  | .hbm, ⟨45, _⟩ => ⟨S4x2304x2048, .f32⟩
  | .hbm, ⟨46, _⟩ => ⟨S_, .f32⟩
  | .hbm, ⟨47, _⟩ => ⟨S4x2304x2048, .f32⟩
  | .hbm, ⟨48, _⟩ => ⟨S4x2304x2048, .f32⟩
  | .hbm, ⟨49, _⟩ => ⟨S4x2304x2048, .f32⟩
  | .hbm, ⟨50, _⟩ => ⟨S1x2048, .f32⟩
  | .hbm, ⟨51, _⟩ => ⟨S2048, .f32⟩
  | .hbm, ⟨52, _⟩ => ⟨S4x256x2048, .f32⟩
  | .hbm, ⟨53, _⟩ => ⟨S4x1x2048, .f32⟩
  | .hbm, ⟨54, _⟩ => ⟨S4x2048, .f32⟩
  | .hbm, ⟨55, _⟩ => ⟨S4x1x2048, .f32⟩
  | .hbm, ⟨56, _⟩ => ⟨S4x2048x2048, .f32⟩
  | .hbm, ⟨57, _⟩ => ⟨S4x2304x2048, .f32⟩
  | .hbm, ⟨58, _⟩ => ⟨S4x2304x2048, .f32⟩
  | .hbm, ⟨59, _⟩ => ⟨S1x2048x16, .f32⟩
  | .hbm, ⟨60, _⟩ => ⟨S2048x16, .f32⟩
  | .hbm, ⟨61, _⟩ => ⟨S4x2304x16, .f32⟩
  | .hbm, ⟨62, _⟩ => ⟨S_, .f32⟩
  | .hbm, ⟨63, _⟩ => ⟨S4x2304, .f32⟩
  | .hbm, ⟨64, _⟩ => ⟨S_, .f32⟩
  | .hbm, ⟨65, _⟩ => ⟨S4x2304, .f32⟩
  | .hbm, ⟨66, _⟩ => ⟨S4x2304, .f32⟩
  | .hbm, ⟨67, _⟩ => ⟨S4x2304x1, .f32⟩
  | .hbm, ⟨68, _⟩ => ⟨S4x2304x16, .f32⟩
  | .hbm, ⟨69, _⟩ => ⟨S4x2304x16, .f32⟩
  | .hbm, ⟨70, _⟩ => ⟨S4x2304x16, .f32⟩
  | .hbm, ⟨71, _⟩ => ⟨S_, .f32⟩
  | .hbm, ⟨72, _⟩ => ⟨S4x2304, .f32⟩
  | .hbm, ⟨73, _⟩ => ⟨S4x2304x1, .f32⟩
  | .hbm, ⟨74, _⟩ => ⟨S4x2304x16, .f32⟩
  | .hbm, ⟨75, _⟩ => ⟨S4x2304x16, .f32⟩
  | .hbm, ⟨76, _⟩ => ⟨S4x2304x2048, .bf16⟩
  | .hbm, ⟨77, _⟩ => ⟨S4x16x2304, .f32⟩
  | _, _ => ⟨S4x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_5 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== KernelCombine.lean ====
abbrev S4x16x2304 : Shape := ⟨3, ![4, 16, 2304]⟩
abbrev S16x1024x2048 : Shape := ⟨3, ![16, 1024, 2048]⟩
abbrev S16x128x2048 : Shape := ⟨3, ![16, 128, 2048]⟩
abbrev S4x2304x2048 : Shape := ⟨3, ![4, 2304, 2048]⟩
abbrev S4x6x2048 : Shape := ⟨3, ![4, 6, 2048]⟩
abbrev S6x2048 : Shape := ⟨2, ![6, 2048]⟩
abbrev S4x2304x16 : Shape := ⟨3, ![4, 2304, 16]⟩
abbrev S1x6x2048 : Shape := ⟨3, ![1, 6, 2048]⟩
abbrev S4x12x2048 : Shape := ⟨3, ![4, 12, 2048]⟩
abbrev S4x2048x2048 : Shape := ⟨3, ![4, 2048, 2048]⟩
abbrev S1x2304x16 : Shape := ⟨3, ![1, 2304, 16]⟩
abbrev S16x256x512 : Shape := ⟨3, ![16, 256, 512]⟩
abbrev S16x32x512 : Shape := ⟨3, ![16, 32, 512]⟩
abbrev S1x2304x512 : Shape := ⟨3, ![1, 2304, 512]⟩
abbrev S1x12x512 : Shape := ⟨3, ![1, 12, 512]⟩
abbrev S1x2048x512 : Shape := ⟨3, ![1, 2048, 512]⟩
abbrev S2048x4096 : Shape := ⟨2, ![2048, 4096]⟩
abbrev S256x512 : Shape := ⟨2, ![256, 512]⟩
abbrev S1x128x16 : Shape := ⟨3, ![1, 128, 16]⟩
abbrev S128x16 : Shape := ⟨2, ![128, 16]⟩
abbrev S16x4096 : Shape := ⟨2, ![16, 4096]⟩
abbrev S128x4096 : Shape := ⟨2, ![128, 4096]⟩
abbrev S1x1x512 : Shape := ⟨3, ![1, 1, 512]⟩
abbrev S1x512 : Shape := ⟨2, ![1, 512]⟩
abbrev S4096x512 : Shape := ⟨2, ![4096, 512]⟩
abbrev S512x4096 : Shape := ⟨2, ![512, 4096]⟩
abbrev S512x512 : Shape := ⟨2, ![512, 512]⟩
abbrev S1x512x512 : Shape := ⟨3, ![1, 512, 512]⟩

abbrev nBuf : Space → Nat
  | .hbm => 14
  | .vmem => 14
  | .smem => 0
  | _ => 0

abbrev bufTy : (tb : Table) → Fin (tcTables nBuf tb) → BufTy
  | .hbm, ⟨0, _⟩ => ⟨S4x16x2304, .i32⟩
  | .hbm, ⟨1, _⟩ => ⟨S16x1024x2048, .f32⟩
  | .hbm, ⟨2, _⟩ => ⟨S16x128x2048, .f32⟩
  | .hbm, ⟨3, _⟩ => ⟨S4x2304x2048, .f32⟩
  | .hbm, ⟨4, _⟩ => ⟨S4x6x2048, .f32⟩
  | .hbm, ⟨5, _⟩ => ⟨S6x2048, .f32⟩
  | .hbm, ⟨6, _⟩ => ⟨S4x2304x16, .i32⟩
  | .hbm, ⟨7, _⟩ => ⟨S4x2304x16, .f32⟩
  | .hbm, ⟨8, _⟩ => ⟨S16x1024x2048, .bf16⟩
  | .hbm, ⟨9, _⟩ => ⟨S16x128x2048, .bf16⟩
  | .hbm, ⟨10, _⟩ => ⟨S1x6x2048, .f32⟩
  | .hbm, ⟨11, _⟩ => ⟨S4x6x2048, .f32⟩
  | .hbm, ⟨12, _⟩ => ⟨S4x12x2048, .f32⟩
  | .hbm, ⟨13, _⟩ => ⟨S4x2048x2048, .f32⟩
  | .local _ .vmem, ⟨0, _⟩ => ⟨S1x2304x16, .f32⟩
  | .local _ .vmem, ⟨1, _⟩ => ⟨S1x2304x16, .f32⟩
  | .local _ .vmem, ⟨2, _⟩ => ⟨S16x256x512, .bf16⟩
  | .local _ .vmem, ⟨3, _⟩ => ⟨S16x256x512, .bf16⟩
  | .local _ .vmem, ⟨4, _⟩ => ⟨S16x32x512, .bf16⟩
  | .local _ .vmem, ⟨5, _⟩ => ⟨S16x32x512, .bf16⟩
  | .local _ .vmem, ⟨6, _⟩ => ⟨S1x2304x512, .f32⟩
  | .local _ .vmem, ⟨7, _⟩ => ⟨S1x2304x512, .f32⟩
  | .local _ .vmem, ⟨8, _⟩ => ⟨S1x12x512, .f32⟩
  | .local _ .vmem, ⟨9, _⟩ => ⟨S1x12x512, .f32⟩
  | .local _ .vmem, ⟨10, _⟩ => ⟨S1x2048x512, .f32⟩
  | .local _ .vmem, ⟨11, _⟩ => ⟨S1x2048x512, .f32⟩
  | .local _ .vmem, ⟨12, _⟩ => ⟨S2048x4096, .bf16⟩
  | .local _ .vmem, ⟨13, _⟩ => ⟨S256x512, .bf16⟩
  | _, _ => ⟨S4x16x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x12x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceCombineIdeal.lean ====
abbrev S4x16x2304 : Shape := ⟨3, ![4, 16, 2304]⟩
abbrev S16x1024x2048 : Shape := ⟨3, ![16, 1024, 2048]⟩
abbrev S16x128x2048 : Shape := ⟨3, ![16, 128, 2048]⟩
abbrev S4x2304x2048 : Shape := ⟨3, ![4, 2304, 2048]⟩
abbrev S4x6x2048 : Shape := ⟨3, ![4, 6, 2048]⟩
abbrev S6x2048 : Shape := ⟨2, ![6, 2048]⟩
abbrev S4x16x2048 : Shape := ⟨3, ![4, 16, 2048]⟩
abbrev S4x2048x16 : Shape := ⟨3, ![4, 2048, 16]⟩
abbrev S_ : Shape := ⟨0, ![]⟩
abbrev S16 : Shape := ⟨1, ![16]⟩
abbrev S1x1x16 : Shape := ⟨3, ![1, 1, 16]⟩
abbrev S4 : Shape := ⟨1, ![4]⟩
abbrev S4x1x1 : Shape := ⟨3, ![4, 1, 1]⟩
abbrev S4x1x16 : Shape := ⟨3, ![4, 1, 16]⟩
abbrev S16384x2048 : Shape := ⟨2, ![16384, 2048]⟩
abbrev S4x2048x16x1 : Shape := ⟨4, ![4, 2048, 16, 1]⟩
abbrev S4x2048x16x2048 : Shape := ⟨4, ![4, 2048, 16, 2048]⟩
abbrev S4x2048x2048 : Shape := ⟨3, ![4, 2048, 2048]⟩
abbrev S4x1x2048 : Shape := ⟨3, ![4, 1, 2048]⟩
abbrev S4x2048 : Shape := ⟨2, ![4, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x16x2304, .i32⟩
  | .hbm, ⟨1, _⟩ => ⟨S16x1024x2048, .f32⟩
  | .hbm, ⟨2, _⟩ => ⟨S16x128x2048, .f32⟩
  | .hbm, ⟨3, _⟩ => ⟨S4x2304x2048, .f32⟩
  | .hbm, ⟨4, _⟩ => ⟨S4x6x2048, .f32⟩
  | .hbm, ⟨5, _⟩ => ⟨S6x2048, .f32⟩
  | .hbm, ⟨6, _⟩ => ⟨S4x16x2048, .i32⟩
  | .hbm, ⟨7, _⟩ => ⟨S4x2048x16, .i32⟩
  | .hbm, ⟨8, _⟩ => ⟨S_, .i32⟩
  | .hbm, ⟨9, _⟩ => ⟨S4x2048x16, .i32⟩
  | .hbm, ⟨10, _⟩ => ⟨S4x2048x16, .i1⟩
  | .hbm, ⟨11, _⟩ => ⟨S_, .i32⟩
  | .hbm, ⟨12, _⟩ => ⟨S4x2048x16, .i32⟩
  | .hbm, ⟨13, _⟩ => ⟨S4x2048x16, .i1⟩
  | .hbm, ⟨14, _⟩ => ⟨S4x2048x16, .i1⟩
  | .hbm, ⟨15, _⟩ => ⟨S16, .i32⟩
  | .hbm, ⟨16, _⟩ => ⟨S1x1x16, .i32⟩
  | .hbm, ⟨17, _⟩ => ⟨S_, .i32⟩
  | .hbm, ⟨18, _⟩ => ⟨S1x1x16, .i32⟩
  | .hbm, ⟨19, _⟩ => ⟨S1x1x16, .i32⟩
  | .hbm, ⟨20, _⟩ => ⟨S4, .i32⟩
  | .hbm, ⟨21, _⟩ => ⟨S4x1x1, .i32⟩
  | .hbm, ⟨22, _⟩ => ⟨S_, .i32⟩
  | .hbm, ⟨23, _⟩ => ⟨S4x1x1, .i32⟩
  | .hbm, ⟨24, _⟩ => ⟨S4x1x1, .i32⟩
  | .hbm, ⟨25, _⟩ => ⟨S4x1x16, .i32⟩
  | .hbm, ⟨26, _⟩ => ⟨S4x1x16, .i32⟩
  | .hbm, ⟨27, _⟩ => ⟨S4x1x16, .i32⟩
  | .hbm, ⟨28, _⟩ => ⟨S16384x2048, .f32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S4x2048x16, .i32⟩
  | .hbm, ⟨33, _⟩ => ⟨S4x2048x16, .i32⟩
  | .hbm, ⟨34, _⟩ => ⟨S_, .i32⟩
  | .hbm, ⟨35, _⟩ => ⟨S4x2048x16, .i32⟩
  | .hbm, ⟨36, _⟩ => ⟨S4x2048x16, .i32⟩
  | .hbm, ⟨37, _⟩ => ⟨S4x2048x16, .i32⟩
  | .hbm, ⟨38, _⟩ => ⟨S4x2048x16, .i32⟩
  | .hbm, ⟨39, _⟩ => ⟨S4x2048x16x1, .i32⟩
  | .hbm, ⟨40, _⟩ => ⟨S4x2048x16x2048, .f32⟩
  | .hbm, ⟨41, _⟩ => ⟨S4x2048x16x1, .i1⟩
  | .hbm, ⟨42, _⟩ => ⟨S_, .f32⟩
  | .hbm, ⟨43, _⟩ => ⟨S_, .f32⟩
  | .hbm, ⟨44, _⟩ => ⟨S4x2048x16x2048, .i1⟩
  | .hbm, ⟨45, _⟩ => ⟨S4x2048x16x2048, .f32⟩
  | .hbm, ⟨46, _⟩ => ⟨S4x2048x16x2048, .f32⟩
  | .hbm, ⟨47, _⟩ => ⟨S_, .f32⟩
  | .hbm, ⟨48, _⟩ => ⟨S4x2048x2048, .f32⟩
  | .hbm, ⟨49, _⟩ => ⟨S4x2048x2048, .f32⟩
  | .hbm, ⟨50, _⟩ => ⟨S4x1x2048, .f32⟩
  | .hbm, ⟨51, _⟩ => ⟨S4x2048, .f32⟩
  | .hbm, ⟨52, _⟩ => ⟨S4x1x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | _, _ => ⟨S4x16x2304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_c_4 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== KernelPrepare.lean ====
abbrev S4x2304x2048 : Shape := ⟨3, ![4, 2304, 2048]⟩
abbrev S4x2048 : Shape := ⟨2, ![4, 2048]⟩
abbrev S4x6x2048 : Shape := ⟨3, ![4, 6, 2048]⟩
abbrev S6x2048 : Shape := ⟨2, ![6, 2048]⟩
abbrev S4x2048x9248 : Shape := ⟨3, ![4, 2048, 9248]⟩
abbrev S64 : Shape := ⟨1, ![64]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S96 : Shape := ⟨1, ![96]⟩
abbrev S2048 : Shape := ⟨1, ![2048]⟩
abbrev S4x2048x512 : Shape := ⟨3, ![4, 2048, 512]⟩
abbrev S4x2048x256 : Shape := ⟨3, ![4, 2048, 256]⟩
abbrev S4x2048x128 : Shape := ⟨3, ![4, 2048, 128]⟩
abbrev S4x2048x32 : Shape := ⟨3, ![4, 2048, 32]⟩
abbrev S_ : Shape := ⟨0, ![]⟩
abbrev S4x2048x96 : Shape := ⟨3, ![4, 2048, 96]⟩
abbrev S4x2048x2560 : Shape := ⟨3, ![4, 2048, 2560]⟩
abbrev S4x2048x640 : Shape := ⟨3, ![4, 2048, 640]⟩
abbrev S4x640x2048 : Shape := ⟨3, ![4, 640, 2048]⟩
abbrev S512x8x96 : Shape := ⟨3, ![512, 8, 96]⟩
abbrev S512x8x128 : Shape := ⟨3, ![512, 8, 128]⟩
abbrev S512x1024 : Shape := ⟨2, ![512, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x512 : Shape := ⟨2, ![1, 512]⟩
abbrev S1x256 : Shape := ⟨2, ![1, 256]⟩
abbrev S1x2048 : Shape := ⟨2, ![1, 2048]⟩
abbrev S1x6x2048 : Shape := ⟨3, ![1, 6, 2048]⟩
abbrev S4x12x2048 : Shape := ⟨3, ![4, 12, 2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S2048x2x1x16 : Shape := ⟨4, ![2048, 2, 1, 16]⟩
abbrev S2048x2x2x16 : Shape := ⟨4, ![2048, 2, 2, 16]⟩
abbrev S2048x64 : Shape := ⟨2, ![2048, 64]⟩
abbrev S2304x64 : Shape := ⟨2, ![2304, 64]⟩
abbrev S1x2304x1x64 : Shape := ⟨4, ![1, 2304, 1, 64]⟩
abbrev S1x2304x2x64 : Shape := ⟨4, ![1, 2304, 2, 64]⟩
abbrev S2304x128 : Shape := ⟨2, ![2304, 128]⟩
abbrev S8 : Shape := ⟨1, ![8]⟩
abbrev S1x8 : Shape := ⟨2, ![1, 8]⟩
abbrev S2048x8 : Shape := ⟨2, ![2048, 8]⟩
abbrev S2048x1x8 : Shape := ⟨3, ![2048, 1, 8]⟩
abbrev S2048x2x8 : Shape := ⟨3, ![2048, 2, 8]⟩
abbrev S2048x2x1x8 : Shape := ⟨4, ![2048, 2, 1, 8]⟩
abbrev S2048x2x2x8 : Shape := ⟨4, ![2048, 2, 2, 8]⟩
abbrev S2048x32 : Shape := ⟨2, ![2048, 32]⟩
abbrev S4x8x80x2304 : Shape := ⟨4, ![4, 8, 80, 2304]⟩
abbrev S4x2x80x2304 : Shape := ⟨4, ![4, 2, 80, 2304]⟩
abbrev S4x8x2304x64 : Shape := ⟨4, ![4, 8, 2304, 64]⟩
abbrev S4x8x2304x128 : Shape := ⟨4, ![4, 8, 2304, 128]⟩
abbrev S4x2x2304x64 : Shape := ⟨4, ![4, 2, 2304, 64]⟩
abbrev S1x256x2048 : Shape := ⟨3, ![1, 256, 2048]⟩
abbrev S1x12x2048 : Shape := ⟨3, ![1, 12, 2048]⟩
abbrev S1x2048x2560 : Shape := ⟨3, ![1, 2048, 2560]⟩
abbrev S1x640x2048 : Shape := ⟨3, ![1, 640, 2048]⟩
abbrev S256x128 : Shape := ⟨2, ![256, 128]⟩
abbrev S1x8x80x256 : Shape := ⟨4, ![1, 8, 80, 256]⟩
abbrev S1x2x80x256 : Shape := ⟨4, ![1, 2, 80, 256]⟩
abbrev S1x8x256x64 : Shape := ⟨4, ![1, 8, 256, 64]⟩
abbrev S1x8x256x128 : Shape := ⟨4, ![1, 8, 256, 128]⟩
abbrev S1x2x256x64 : Shape := ⟨4, ![1, 2, 256, 64]⟩
abbrev S2x256x2560 : Shape := ⟨3, ![2, 256, 2560]⟩
abbrev S256x2048 : Shape := ⟨2, ![256, 2048]⟩
abbrev S256x2560 : Shape := ⟨2, ![256, 2560]⟩
abbrev S1x256x2560 : Shape := ⟨3, ![1, 256, 2560]⟩
abbrev S256x1 : Shape := ⟨2, ![256, 1]⟩
abbrev S1x1x2048 : Shape := ⟨3, ![1, 1, 2048]⟩
abbrev S2048x2560 : Shape := ⟨2, ![2048, 2560]⟩
abbrev S640x2048 : Shape := ⟨2, ![640, 2048]⟩
abbrev S640x256 : Shape := ⟨2, ![640, 256]⟩
abbrev S8x64x256 : Shape := ⟨3, ![8, 64, 256]⟩
abbrev S1x8x64x256 : Shape := ⟨4, ![1, 8, 64, 256]⟩
abbrev S8x16x256 : Shape := ⟨3, ![8, 16, 256]⟩
abbrev S1x8x16x256 : Shape := ⟨4, ![1, 8, 16, 256]⟩
abbrev S128x256 : Shape := ⟨2, ![128, 256]⟩
abbrev S2x64x256 : Shape := ⟨3, ![2, 64, 256]⟩
abbrev S1x2x64x256 : Shape := ⟨4, ![1, 2, 64, 256]⟩
abbrev S2x16x256 : Shape := ⟨3, ![2, 16, 256]⟩
abbrev S1x2x16x256 : Shape := ⟨4, ![1, 2, 16, 256]⟩
abbrev S64x128 : Shape := ⟨2, ![64, 128]⟩
abbrev S256x256 : Shape := ⟨2, ![256, 256]⟩
abbrev S64x256 : Shape := ⟨2, ![64, 256]⟩
abbrev S448x256 : Shape := ⟨2, ![448, 256]⟩
abbrev S64x64 : Shape := ⟨2, ![64, 64]⟩
abbrev S1x1x64x64 : Shape := ⟨4, ![1, 1, 64, 64]⟩
abbrev S576x256 : Shape := ⟨2, ![576, 256]⟩
abbrev S1x1x64x128 : Shape := ⟨4, ![1, 1, 64, 128]⟩

abbrev nBuf : Space → Nat
  | .hbm => 172
  | .vmem => 48
  | .smem => 0
  | _ => 0

abbrev hbmTy0_0 (i : Nat) : BufTy := match i % 128 with
  | 0 => ⟨S4x2304x2048, .f32⟩
  | 1 => ⟨S4x2048, .f32⟩
  | 2 => ⟨S4x6x2048, .f32⟩
  | 3 => ⟨S6x2048, .f32⟩
  | 4 => ⟨S4x2048x9248, .f32⟩
  | 5 => ⟨S64, .f32⟩
  | 6 => ⟨S64, .f32⟩
  | 7 => ⟨S512, .f32⟩
  | 8 => ⟨S512x768, .f32⟩
  | 9 => ⟨S256, .f32⟩
  | 10 => ⟨S256x1024, .f32⟩
  | 11 => ⟨S96, .f32⟩
  | 12 => ⟨S96, .f32⟩
  | 13 => ⟨S64, .f32⟩
  | 14 => ⟨S64, .f32⟩
  | 15 => ⟨S2048, .f32⟩
  | 16 => ⟨S2048, .f32⟩
  | 17 => ⟨S4x2048x512, .f32⟩
  | 18 => ⟨S4x2048x512, .f32⟩
  | 19 => ⟨S4x2048x512, .f32⟩
  | 20 => ⟨S4x2048x256, .f32⟩
  | 21 => ⟨S4x2048x512, .f32⟩
  | 22 => ⟨S4x2048x128, .f32⟩
  | 23 => ⟨S4x2048x32, .f32⟩
  | 24 => ⟨S_, .f32⟩
  | 25 => ⟨S4x2048x96, .f32⟩
  | 26 => ⟨S4x2048x2560, .f32⟩
  | 27 => ⟨S4x2048x2560, .bf16⟩
  | 28 => ⟨S4x2048x512, .f32⟩
  | 29 => ⟨S4x2048x128, .f32⟩
  | 30 => ⟨S4x2048x640, .f32⟩
  | 31 => ⟨S4x640x2048, .f32⟩
  | 32 => ⟨S4x640x2048, .bf16⟩
  | 33 => ⟨S512x8x96, .f32⟩
  | 34 => ⟨S_, .i32⟩
  | 35 => ⟨S_, .f32⟩
  | 36 => ⟨S512x8x128, .f32⟩
  | 37 => ⟨S512x1024, .f32⟩
  | 38 => ⟨S512x1024, .bf16⟩
  | 39 => ⟨S256x8x128, .f32⟩
  | 40 => ⟨S256x8x64, .f32⟩
  | 41 => ⟨S_, .i32⟩
  | 42 => ⟨S_, .f32⟩
  | 43 => ⟨S256x8x128, .f32⟩
  | 44 => ⟨S256x1024, .f32⟩
  | 45 => ⟨S256x1024, .bf16⟩
  | 46 => ⟨S256x8x64, .f32⟩
  | 47 => ⟨S256x512, .f32⟩
  | 48 => ⟨S512x256, .f32⟩
  | 49 => ⟨S512x256, .bf16⟩
  | 50 => ⟨S1x64, .f32⟩
  | 51 => ⟨S2x64, .f32⟩
  | 52 => ⟨S128, .f32⟩
  | 53 => ⟨S1x128, .f32⟩
  | 54 => ⟨S1x64, .f32⟩
  | 55 => ⟨S2x64, .f32⟩
  | 56 => ⟨S128, .f32⟩
  | 57 => ⟨S1x128, .f32⟩
  | 58 => ⟨S1x64, .f32⟩
  | 59 => ⟨S2x64, .f32⟩
  | 60 => ⟨S128, .f32⟩
  | 61 => ⟨S1x128, .f32⟩
  | 62 => ⟨S1x64, .f32⟩
  | 63 => ⟨S2x64, .f32⟩
  | 64 => ⟨S128, .f32⟩
  | 65 => ⟨S1x128, .f32⟩
  | 66 => ⟨S1x512, .f32⟩
  | 67 => ⟨S1x256, .f32⟩
  | 68 => ⟨S_, .i32⟩
  | 69 => ⟨S_, .f32⟩
  | 70 => ⟨S128, .f32⟩
  | 71 => ⟨S1x128, .f32⟩
  | 72 => ⟨S_, .i32⟩
  | 73 => ⟨S_, .f32⟩
  | 74 => ⟨S128, .f32⟩
  | 75 => ⟨S1x128, .f32⟩
  | 76 => ⟨S1x2048, .f32⟩
  | 77 => ⟨S2048, .f32⟩
  | 78 => ⟨S1x6x2048, .f32⟩
  | 79 => ⟨S4x6x2048, .f32⟩
  | 80 => ⟨S4x12x2048, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S2048x1, .f32⟩
  | 90 => ⟨S1x16, .f32⟩
  | 91 => ⟨S2048x16, .f32⟩
  | 92 => ⟨S2048x16, .f32⟩
  | 93 => ⟨S2048x16, .f32⟩
  | 94 => ⟨S2048x1, .f32⟩
  | 95 => ⟨S1x16, .f32⟩
  | 96 => ⟨S2048x16, .f32⟩
  | 97 => ⟨S2048x16, .f32⟩
  | 98 => ⟨S2048x16, .f32⟩
  | 99 => ⟨S2048x1x16, .f32⟩
  | 100 => ⟨S2048x1x16, .f32⟩
  | 101 => ⟨S2048x2x16, .f32⟩
  | 102 => ⟨S2048x2x16, .f32⟩
  | 103 => ⟨S2048x2x1x16, .f32⟩
  | 104 => ⟨S2048x2x2x16, .f32⟩
  | 105 => ⟨S2048x64, .f32⟩
  | 106 => ⟨S2048x2x16, .f32⟩
  | 107 => ⟨S2048x2x16, .f32⟩
  | 108 => ⟨S2048x2x1x16, .f32⟩
  | 109 => ⟨S2048x2x1x16, .f32⟩
  | 110 => ⟨S2048x2x2x16, .f32⟩
  | 111 => ⟨S2048x64, .f32⟩
  | 112 => ⟨S_, .f32⟩
  | 113 => ⟨S_, .f32⟩
  | 114 => ⟨S2304x64, .f32⟩
  | 115 => ⟨S_, .i32⟩
  | 116 => ⟨S_, .f32⟩
  | 117 => ⟨S2304x64, .f32⟩
  | 118 => ⟨S1x2304x1x64, .f32⟩
  | 119 => ⟨S1x2304x2x64, .f32⟩
  | 120 => ⟨S2304x128, .f32⟩
  | 121 => ⟨S1x2304x1x64, .f32⟩
  | 122 => ⟨S1x2304x2x64, .f32⟩
  | 123 => ⟨S2304x128, .f32⟩
  | 124 => ⟨S8, .f32⟩
  | 125 => ⟨S8, .f32⟩
  | 126 => ⟨S_, .f32⟩
  | 127 => ⟨S8, .f32⟩
  | _ => ⟨S4x2304x2048, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S2048x1, .f32⟩
  | 5 => ⟨S1x8, .f32⟩
  | 6 => ⟨S2048x8, .f32⟩
  | 7 => ⟨S2048x8, .f32⟩
  | 8 => ⟨S2048x8, .f32⟩
  | 9 => ⟨S2048x1, .f32⟩
  | 10 => ⟨S1x8, .f32⟩
  | 11 => ⟨S2048x8, .f32⟩
  | 12 => ⟨S2048x8, .f32⟩
  | 13 => ⟨S2048x8, .f32⟩
  | 14 => ⟨S2048x1x8, .f32⟩
  | 15 => ⟨S2048x1x8, .f32⟩
  | 16 => ⟨S2048x2x8, .f32⟩
  | 17 => ⟨S2048x2x8, .f32⟩
  | 18 => ⟨S2048x2x1x8, .f32⟩
  | 19 => ⟨S2048x2x2x8, .f32⟩
  | 20 => ⟨S2048x32, .f32⟩
  | 21 => ⟨S2048x2x8, .f32⟩
  | 22 => ⟨S2048x2x8, .f32⟩
  | 23 => ⟨S2048x2x1x8, .f32⟩
  | 24 => ⟨S2048x2x1x8, .f32⟩
  | 25 => ⟨S2048x2x2x8, .f32⟩
  | 26 => ⟨S2048x32, .f32⟩
  | 27 => ⟨S_, .f32⟩
  | 28 => ⟨S_, .f32⟩
  | 29 => ⟨S2304x128, .f32⟩
  | 30 => ⟨S_, .i32⟩
  | 31 => ⟨S_, .f32⟩
  | 32 => ⟨S2304x128, .f32⟩
  | 33 => ⟨S1x2048, .f32⟩
  | 34 => ⟨S4x2304x2048, .bf16⟩
  | 35 => ⟨S4x8x80x2304, .bf16⟩
  | 36 => ⟨S4x2x80x2304, .bf16⟩
  | 37 => ⟨S4x8x2304x64, .bf16⟩
  | 38 => ⟨S4x8x2304x64, .bf16⟩
  | 39 => ⟨S4x8x2304x128, .bf16⟩
  | 40 => ⟨S4x8x2304x128, .bf16⟩
  | 41 => ⟨S4x8x80x2304, .bf16⟩
  | 42 => ⟨S4x8x2304x64, .bf16⟩
  | 43 => ⟨S4x2x2304x64, .bf16⟩
  | _ => ⟨S4x2304x2048, .f32⟩

abbrev hbmTy (i : Nat) : BufTy := match i / 128 with
  | 0 => hbmTy0_0 i
  | 1 => hbmTy0_1 i
  | _ => ⟨S4x2304x2048, .f32⟩

abbrev bufTy : (tb : Table) → Fin (tcTables nBuf tb) → BufTy
  | .hbm, ⟨i, _⟩ => hbmTy i
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x12x2048, .f32⟩
  | .local _ .vmem, ⟨4, _⟩ => ⟨S1x12x2048, .f32⟩
  | .local _ .vmem, ⟨5, _⟩ => ⟨S1x2048x2560, .bf16⟩
  | .local _ .vmem, ⟨6, _⟩ => ⟨S1x640x2048, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x512, .f32⟩
  | .local _ .vmem, ⟨20, _⟩ => ⟨S1x256, .f32⟩
  | .local _ .vmem, ⟨21, _⟩ => ⟨S1x128, .f32⟩
  | .local _ .vmem, ⟨22, _⟩ => ⟨S1x128, .f32⟩
  | .local _ .vmem, ⟨23, _⟩ => ⟨S512x1024, .bf16⟩
  | .local _ .vmem, ⟨24, _⟩ => ⟨S256x1024, .bf16⟩
  | .local _ .vmem, ⟨25, _⟩ => ⟨S512x256, .bf16⟩
  | .local _ .vmem, ⟨26, _⟩ => ⟨S1x256x2048, .bf16⟩
  | .local _ .vmem, ⟨27, _⟩ => ⟨S1x256x2048, .bf16⟩
  | .local _ .vmem, ⟨28, _⟩ => ⟨S1x8x80x256, .bf16⟩
  | .local _ .vmem, ⟨29, _⟩ => ⟨S1x8x80x256, .bf16⟩
  | .local _ .vmem, ⟨30, _⟩ => ⟨S1x2x80x256, .bf16⟩
  | .local _ .vmem, ⟨31, _⟩ => ⟨S1x2x80x256, .bf16⟩
  | .local _ .vmem, ⟨32, _⟩ => ⟨S1x8x256x64, .bf16⟩
  | .local _ .vmem, ⟨33, _⟩ => ⟨S1x8x256x64, .bf16⟩
  | .local _ .vmem, ⟨34, _⟩ => ⟨S1x8x256x64, .bf16⟩
  | .local _ .vmem, ⟨35, _⟩ => ⟨S1x8x256x64, .bf16⟩
  | .local _ .vmem, ⟨36, _⟩ => ⟨S1x8x256x128, .bf16⟩
  | .local _ .vmem, ⟨37, _⟩ => ⟨S1x8x256x128, .bf16⟩
  | .local _ .vmem, ⟨38, _⟩ => ⟨S1x8x256x128, .bf16⟩
  | .local _ .vmem, ⟨39, _⟩ => ⟨S1x8x256x128, .bf16⟩
  | .local _ .vmem, ⟨40, _⟩ => ⟨S1x8x80x256, .bf16⟩
  | .local _ .vmem, ⟨41, _⟩ => ⟨S1x8x80x256, .bf16⟩
  | .local _ .vmem, ⟨42, _⟩ => ⟨S1x8x256x64, .bf16⟩
  | .local _ .vmem, ⟨43, _⟩ => ⟨S1x8x256x64, .bf16⟩
  | .local _ .vmem, ⟨44, _⟩ => ⟨S1x2x256x64, .bf16⟩
  | .local _ .vmem, ⟨45, _⟩ => ⟨S1x2x256x64, .bf16⟩
  | .local _ .vmem, ⟨46, _⟩ => ⟨S2x256x2560, .f32⟩
  | .local _ .vmem, ⟨47, _⟩ => ⟨S256x2048, .f32⟩
  | _, _ => ⟨S4x2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_cst_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_call0_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_call1_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_3 : Ref sig .tc := ⟨.hbm, 68, rfl⟩
abbrev main_call2_v0 : Ref sig .tc := ⟨.hbm, 69, rfl⟩
abbrev main_v46 : Ref sig .tc := ⟨.hbm, 70, rfl⟩
abbrev main_v47 : Ref sig .tc := ⟨.hbm, 71, rfl⟩
abbrev main_c_4 : Ref sig .tc := ⟨.hbm, 72, rfl⟩
abbrev main_call3_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_7 : Ref sig .tc := ⟨.hbm, 112, rfl⟩
abbrev main_call4_v0 : Ref sig .tc := ⟨.hbm, 113, rfl⟩
abbrev main_v84 : Ref sig .tc := ⟨.hbm, 114, rfl⟩
abbrev main_c_8 : Ref sig .tc := ⟨.hbm, 115, rfl⟩
abbrev main_call5_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_9 : Ref sig .tc := ⟨.hbm, 126, rfl⟩
abbrev main_v94 : Ref sig .tc := ⟨.hbm, 127, rfl⟩
abbrev main_v95 : Ref sig .tc := ⟨.hbm, 128, rfl⟩
abbrev main_cst_10 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_11 : Ref sig .tc := ⟨.hbm, 155, rfl⟩
abbrev main_call6_v0 : Ref sig .tc := ⟨.hbm, 156, rfl⟩
abbrev main_v121 : Ref sig .tc := ⟨.hbm, 157, rfl⟩
abbrev main_c_12 : Ref sig .tc := ⟨.hbm, 158, rfl⟩
abbrev main_call7_v0 : Ref sig .tc := ⟨.hbm, 159, rfl⟩
abbrev main_v122 : Ref sig .tc := ⟨.hbm, 160, rfl⟩
abbrev main_v123 : Ref sig .tc := ⟨.hbm, 161, rfl⟩
abbrev main_v124_0 : Ref sig .tc := ⟨.hbm, 162, rfl⟩
abbrev main_v124_1 : Ref sig .tc := ⟨.hbm, 163, rfl⟩
abbrev main_v124_2 : Ref sig .tc := ⟨.hbm, 164, rfl⟩
abbrev main_v124_3 : Ref sig .tc := ⟨.hbm, 165, rfl⟩
abbrev main_v124_4 : Ref sig .tc := ⟨.hbm, 166, rfl⟩
abbrev main_v124_5 : Ref sig .tc := ⟨.hbm, 167, rfl⟩
abbrev main_v124_6 : Ref sig .tc := ⟨.hbm, 168, rfl⟩
abbrev main_v124_7 : Ref sig .tc := ⟨.hbm, 169, rfl⟩
abbrev main_v124_8 : Ref sig .tc := ⟨.hbm, 170, rfl⟩
abbrev main_v124_9 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_stg27_0 : Ref sig .tc := ⟨.vmem, 40, rfl⟩
abbrev cc0_stg27_1 : Ref sig .tc := ⟨.vmem, 41, rfl⟩
abbrev cc0_stg28_0 : Ref sig .tc := ⟨.vmem, 42, rfl⟩
abbrev cc0_stg28_1 : Ref sig .tc := ⟨.vmem, 43, rfl⟩
abbrev cc0_stg29_0 : Ref sig .tc := ⟨.vmem, 44, rfl⟩
abbrev cc0_stg29_1 : Ref sig .tc := ⟨.vmem, 45, rfl⟩
abbrev cc0_scratch0 : Ref sig .tc := ⟨.vmem, 46, rfl⟩
abbrev cc0_scratch1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45

abbrev nD : Nat := 1
abbrev τ : Topo := Topo.v7x

variable {F : FTy → Type} [FloatOps F]

abbrev grid0 : Pipeline.Grid := ⟨1, ![37], ![false]⟩

def k0_off1 (i : grid0.Coords) (c1_i32_12 : BitVec 32) : Fin 3 → Nat :=
  let c0_13 : Index := 0#32
  let arg0 : BitVec 32 := BitVec.ofNat 32 (i 0).val
  let c35_i32 : BitVec 32 := 35#32
  let v3 : BitVec 32 := Scalar.minsi arg0 c35_i32
  let c9_i32 : BitVec 32 := 9#32
  let c0_i32_1 : BitVec 32 := 0#32
  let v4 : BitVec 1 := Scalar.cmpi .eq c9_i32 c0_i32_1
  let c1_i32 : BitVec 32 := 1#32
  let v5 : BitVec 32 := Scalar.select v4 c1_i32 c9_i32
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c1_i32_11 : BitVec 32 := 1#32
  let v30 : BitVec 32 := Scalar.minsi v13 c1_i32_11
  let c6_i32 : BitVec 32 := 6#32
  let v31 : BitVec 32 := Scalar.muli v30 c6_i32
  let v32 : BitVec 32 := Scalar.addi v31 c1_i32_12
  let v33 : Index := Scalar.indexCast v32
  let c0_14 : Index := 0#32
  ![0, v33.toNat, 0]
def k0_off2 (i : grid0.Coords) : Fin 3 → Nat :=
  let arg0 : BitVec 32 := BitVec.ofNat 32 (i 0).val
  let c2_i32 : BitVec 32 := 2#32
  let v53 : BitVec 32 := Scalar.remsi arg0 c2_i32
  let v54 : Index := Scalar.indexCast v53
  let c0_26 : Index := 0#32
  let c0_27 : Index := 0#32
  ![v54.toNat, 0, 0]
def k0_off3 (i : grid0.Coords) : Fin 3 → Nat :=
  let arg0 : BitVec 32 := BitVec.ofNat 32 (i 0).val
  let c1_i32_53 : BitVec 32 := 1#32
  let v92 : BitVec 32 := Scalar.addi arg0 c1_i32_53
  let c2_i32_54 : BitVec 32 := 2#32
  let v93 : BitVec 32 := Scalar.remsi v92 c2_i32_54
  let c0_i32_62 : BitVec 32 := 0#32
  let c0_i32_63 : BitVec 32 := 0#32
  ![v93.toNat, 0, 0]
def cc0_transform_0 (i : grid0.Coords) : Fin 3 → Nat :=
  let arg0 : BitVec 32 := BitVec.ofNat 32 (i 0).val
  let c35_i32 : BitVec 32 := 35#32
  let v0 : BitVec 32 := Scalar.minsi arg0 c35_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c35_i32 : BitVec 32 := 35#32
  let v0 : BitVec 32 := Scalar.minsi arg0 c35_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  let v2 : BitVec 1 := Scalar.cmpi .eq c9_i32 c0_i32_0
  let c1_i32_1 : BitVec 32 := 1#32
  let v3 : BitVec 32 := Scalar.select v2 c1_i32_1 c9_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  let v2 : BitVec 1 := Scalar.cmpi .eq c9_i32 c0_i32_0
  let c1_i32_1 : BitVec 32 := 1#32
  let v3 : BitVec 32 := Scalar.select v2 c1_i32_1 c9_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  let v2 : BitVec 1 := Scalar.cmpi .eq c9_i32 c0_i32_0
  let c1_i32_1 : BitVec 32 := 1#32
  let v3 : BitVec 32 := Scalar.select v2 c1_i32_1 c9_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let c0_i32_0 : BitVec 32 := 0#32
  let v2 : BitVec 1 := Scalar.cmpi .eq c9_i32 c0_i32_0
  let c1_i32_1 : BitVec 32 := 1#32
  let v3 : BitVec 32 := Scalar.select v2 c1_i32_1 c9_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c35_i32 : BitVec 32 := 35#32
  let v0 : BitVec 32 := Scalar.minsi arg0 c35_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_21 (i : grid0.Coords) : Fin 4 → Nat :=
  let arg0 : BitVec 32 := BitVec.ofNat 32 (i 0).val
  let c35_i32 : BitVec 32 := 35#32
  let v0 : BitVec 32 := Scalar.minsi arg0 c35_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_22 (i : grid0.Coords) : Fin 4 → Nat :=
  let arg0 : BitVec 32 := BitVec.ofNat 32 (i 0).val
  let c35_i32 : BitVec 32 := 35#32
  let v0 : BitVec 32 := Scalar.minsi arg0 c35_i32
  let c9_i32 : BitVec 32 := 9#32
  let v1 : BitVec 32 := Scalar.divsi v0 c9_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c9_i32 c0_i32_1
  let v8 : BitVec 32 := Scalar.extui v7
  let c0_i32_2 : BitVec 32 := 0#32
  let v9 : BitVec 1 := Scalar.cmpi .slt c9_i32 c0_i32_2
  let v10 : BitVec 32 := Scalar.extui v9
  let v11 : BitVec 32 := Scalar.subi v8 v10
  let v12 : BitVec 1 := Scalar.cmpi .ne v6 v11
  let v13 : BitVec 32 := Scalar.remsi v0 c9_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c35_i32_4 : BitVec 32 := 35#32
  let v18 : BitVec 32 := Scalar.minsi arg0 c35_i32_4
  let c9_i32_5 : BitVec 32 := 9#32
  let c0_i32_6 : BitVec 32 := 0#32
  let v19 : BitVec 1 := Scalar.cmpi .eq c9_i32_5 c0_i32_6
  let c1_i32_7 : BitVec 32 := 1#32
  let v20 : BitVec 32 := Scalar.select v19 c1_i32_7 c9_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  let c0_i32_13 : BitVec 32 := 0#32
  ![v17.toNat, c0_i32_11.toNat, c0_i32_12.toNat, v28.toNat]

def cc0_transform_23 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_24 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_25 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_26 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_27 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, c0_i32_15.toNat, v30.toNat]

def cc0_transform_28 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_29 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c9_i32 : BitVec 32 := 9#32
  let v2 : BitVec 32 := Scalar.divsi v1 c9_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c9_i32 c0_i32_2
  let v9 : BitVec 32 := Scalar.extui v8
  let c0_i32_3 : BitVec 32 := 0#32
  let v10 : BitVec 1 := Scalar.cmpi .slt c9_i32 c0_i32_3
  let v11 : BitVec 32 := Scalar.extui v10
  let v12 : BitVec 32 := Scalar.subi v9 v11
  let v13 : BitVec 1 := Scalar.cmpi .ne v7 v12
  let v14 : BitVec 32 := Scalar.remsi v1 c9_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c9_i32_8 : BitVec 32 := 9#32
  let c0_i32_9 : BitVec 32 := 0#32
  let v21 : BitVec 1 := Scalar.cmpi .eq c9_i32_8 c0_i32_9
  let c1_i32_10 : BitVec 32 := 1#32
  let v22 : BitVec 32 := Scalar.select v21 c1_i32_10 c9_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x12x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S1x256x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x8x80x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x2x80x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x8x256x64 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x8x256x64 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x8x256x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x8x256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x8x80x256 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x8x256x64 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x2x256x64 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== ReferencePrepareIdeal.lean ====
abbrev S4x2304x2048 : Shape := ⟨3, ![4, 2304, 2048]⟩
abbrev S4x2048 : Shape := ⟨2, ![4, 2048]⟩
abbrev S4x6x2048 : Shape := ⟨3, ![4, 6, 2048]⟩
abbrev S6x2048 : Shape := ⟨2, ![6, 2048]⟩
abbrev S4x2048x9248 : Shape := ⟨3, ![4, 2048, 9248]⟩
abbrev S64 : Shape := ⟨1, ![64]⟩
abbrev S512 : Shape := ⟨1, ![512]⟩
abbrev S512x768 : Shape := ⟨2, ![512, 768]⟩
abbrev S256 : Shape := ⟨1, ![256]⟩
abbrev S256x1024 : Shape := ⟨2, ![256, 1024]⟩
abbrev S96 : Shape := ⟨1, ![96]⟩
abbrev S_ : Shape := ⟨0, ![]⟩
abbrev S4x2304 : Shape := ⟨2, ![4, 2304]⟩
abbrev S4x2304x1 : Shape := ⟨3, ![4, 2304, 1]⟩
abbrev S1x2048 : Shape := ⟨2, ![1, 2048]⟩
abbrev S2048 : Shape := ⟨1, ![2048]⟩
abbrev S1x1x2048 : Shape := ⟨3, ![1, 1, 2048]⟩
abbrev S4x256x2048 : Shape := ⟨3, ![4, 256, 2048]⟩
abbrev S4x1x2048 : Shape := ⟨3, ![4, 1, 2048]⟩
abbrev S4x2048x2048 : Shape := ⟨3, ![4, 2048, 2048]⟩
abbrev S1x2048x9248 : Shape := ⟨3, ![1, 2048, 9248]⟩
abbrev S2048x9248 : Shape := ⟨2, ![2048, 9248]⟩
abbrev S4x2304x9248 : Shape := ⟨3, ![4, 2304, 9248]⟩
abbrev S4x2304x512 : Shape := ⟨3, ![4, 2304, 512]⟩
abbrev S4x2304x8x64 : Shape := ⟨4, ![4, 2304, 8, 64]⟩
abbrev S4x8x64x2304 : Shape := ⟨4, ![4, 8, 64, 2304]⟩
abbrev S4x8x1x2304 : Shape := ⟨4, ![4, 8, 1, 2304]⟩
abbrev S4x8x15x2304 : Shape := ⟨4, ![4, 8, 15, 2304]⟩
abbrev S4x8x80x2304 : Shape := ⟨4, ![4, 8, 80, 2304]⟩
abbrev S4x2304x128 : Shape := ⟨3, ![4, 2304, 128]⟩
abbrev S4x2304x2x64 : Shape := ⟨4, ![4, 2304, 2, 64]⟩
abbrev S4x2x64x2304 : Shape := ⟨4, ![4, 2, 64, 2304]⟩
abbrev S4x2x1x2304 : Shape := ⟨4, ![4, 2, 1, 2304]⟩
abbrev S4x2x15x2304 : Shape := ⟨4, ![4, 2, 15, 2304]⟩
abbrev S4x2x80x2304 : Shape := ⟨4, ![4, 2, 80, 2304]⟩

abbrev nBuf : Space → Nat
  | .hbm => 76
  | .vmem => 0
  | .smem => 0
  | _ => 0

abbrev bufTy : (tb : Table) → Fin (tcTables nBuf tb) → BufTy
  | .hbm, ⟨0, _⟩ => ⟨S4x2304x2048, .f32⟩
  | .hbm, ⟨1, _⟩ => ⟨S4x2048, .f32⟩
  | .hbm, ⟨2, _⟩ => ⟨S4x6x2048, .f32⟩
  | .hbm, ⟨3, _⟩ => ⟨S6x2048, .f32⟩
  | .hbm, ⟨4, _⟩ => ⟨S4x2048x9248, .f32⟩
  | .hbm, ⟨5, _⟩ => ⟨S64, .f32⟩
  | .hbm, ⟨6, _⟩ => ⟨S64, .f32⟩
  | .hbm, ⟨7, _⟩ => ⟨S512, .f32⟩
  | .hbm, ⟨8, _⟩ => ⟨S512x768, .f32⟩
  | .hbm, ⟨9, _⟩ => ⟨S256, .f32⟩
  | .hbm, ⟨10, _⟩ => ⟨S256x1024, .f32⟩
  | .hbm, ⟨11, _⟩ => ⟨S96, .f32⟩
  | .hbm, ⟨12, _⟩ => ⟨S96, .f32⟩
  | .hbm, ⟨13, _⟩ => ⟨S64, .f32⟩
  | .hbm, ⟨14, _⟩ => ⟨S64, .f32⟩
  | .hbm, ⟨15, _⟩ => ⟨S4x2304x2048, .f32⟩
  | .hbm, ⟨16, _⟩ => ⟨S_, .f32⟩
  | .hbm, ⟨17, _⟩ => ⟨S4x2304, .f32⟩
  | .hbm, ⟨18, _⟩ => ⟨S4x2304x1, .f32⟩
  | .hbm, ⟨19, _⟩ => ⟨S_, .f32⟩
  | .hbm, ⟨20, _⟩ => ⟨S4x2304x1, .f32⟩
  | .hbm, ⟨21, _⟩ => ⟨S4x2304x1, .f32⟩
  | .hbm, ⟨22, _⟩ => ⟨S_, .f32⟩
  | .hbm, ⟨23, _⟩ => ⟨S4x2304x1, .f32⟩
  | .hbm, ⟨24, _⟩ => ⟨S4x2304x1, .f32⟩
  | .hbm, ⟨25, _⟩ => ⟨S4x2304x1, .f32⟩
  | .hbm, ⟨26, _⟩ => ⟨S4x2304x2048, .f32⟩
  | .hbm, ⟨27, _⟩ => ⟨S4x2304x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S4x2304x2048, .f32⟩
  | .hbm, ⟨32, _⟩ => ⟨S4x2304x2048, .f32⟩
  | .hbm, ⟨33, _⟩ => ⟨S1x2048, .f32⟩
  | .hbm, ⟨34, _⟩ => ⟨S2048, .f32⟩
  | .hbm, ⟨35, _⟩ => ⟨S4x256x2048, .f32⟩
  | .hbm, ⟨36, _⟩ => ⟨S4x1x2048, .f32⟩
  | .hbm, ⟨37, _⟩ => ⟨S4x2048, .f32⟩
  | .hbm, ⟨38, _⟩ => ⟨S4x1x2048, .f32⟩
  | .hbm, ⟨39, _⟩ => ⟨S4x2048x2048, .f32⟩
  | .hbm, ⟨40, _⟩ => ⟨S4x2304x2048, .f32⟩
  | .hbm, ⟨41, _⟩ => ⟨S_, .f32⟩
  | .hbm, ⟨42, _⟩ => ⟨S4x2304x2048, .f32⟩
  | .hbm, ⟨43, _⟩ => ⟨S4x2304x2048, .f32⟩
  | .hbm, ⟨44, _⟩ => ⟨S4x2304x2048, .f32⟩
  | .hbm, ⟨45, _⟩ => ⟨S1x2048, .f32⟩
  | .hbm, ⟨46, _⟩ => ⟨S2048, .f32⟩
  | .hbm, ⟨47, _⟩ => ⟨S4x256x2048, .f32⟩
  | .hbm, ⟨48, _⟩ => ⟨S4x1x2048, .f32⟩
  | .hbm, ⟨49, _⟩ => ⟨S4x2048, .f32⟩
  | .hbm, ⟨50, _⟩ => ⟨S4x1x2048, .f32⟩
  | .hbm, ⟨51, _⟩ => ⟨S4x2048x2048, .f32⟩
  | .hbm, ⟨52, _⟩ => ⟨S4x2304x2048, .f32⟩
  | .hbm, ⟨53, _⟩ => ⟨S4x2304x2048, .f32⟩
  | .hbm, ⟨54, _⟩ => ⟨S1x2048x9248, .f32⟩
  | .hbm, ⟨55, _⟩ => ⟨S2048x9248, .f32⟩
  | .hbm, ⟨56, _⟩ => ⟨S4x2304x9248, .f32⟩
  | .hbm, ⟨57, _⟩ => ⟨S4x2304x2048, .bf16⟩
  | .hbm, ⟨58, _⟩ => ⟨S4x2304x512, .f32⟩
  | .hbm, ⟨59, _⟩ => ⟨S4x2304x8x64, .f32⟩
  | .hbm, ⟨60, _⟩ => ⟨S4x8x64x2304, .f32⟩
  | .hbm, ⟨61, _⟩ => ⟨S_, .f32⟩
  | .hbm, ⟨62, _⟩ => ⟨S4x8x1x2304, .f32⟩
  | .hbm, ⟨63, _⟩ => ⟨S_, .f32⟩
  | .hbm, ⟨64, _⟩ => ⟨S4x8x15x2304, .f32⟩
  | .hbm, ⟨65, _⟩ => ⟨S4x8x80x2304, .f32⟩
  | .hbm, ⟨66, _⟩ => ⟨S4x8x80x2304, .bf16⟩
  | .hbm, ⟨67, _⟩ => ⟨S4x2304x128, .f32⟩
  | .hbm, ⟨68, _⟩ => ⟨S4x2304x2x64, .f32⟩
  | .hbm, ⟨69, _⟩ => ⟨S4x2x64x2304, .f32⟩
  | .hbm, ⟨70, _⟩ => ⟨S_, .f32⟩
  | .hbm, ⟨71, _⟩ => ⟨S4x2x1x2304, .f32⟩
  | .hbm, ⟨72, _⟩ => ⟨S_, .f32⟩
  | .hbm, ⟨73, _⟩ => ⟨S4x2x15x2304, .f32⟩
  | .hbm, ⟨74, _⟩ => ⟨S4x2x80x2304, .f32⟩
  | .hbm, ⟨75, _⟩ => ⟨S4x2x80x2304, .bf16⟩
  | _, _ => ⟨S4x2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Proof.Claims.lean ====
module

public import proofs.«01_k».proof.Defs
public import proofs.«01_k».proof.Proof.Gen.ReferenceIdeal.Run
public import proofs.«01_k».proof.Proof.Gen.ReferenceMlaIdeal.Run
public import Idealize.ShloMosaic.Lib.Quiescent

/-!
The attention calls' claims that no run is needed for: what their idealizations rename, and that their references
leave their arguments.
-/

@[expose] public section

noncomputable section

namespace Cert.Proof.AttentionClaims

open Idealize.ShloMosaic Idealize.SL.Sem

/-- The grouped-query scale is the one constant that is named. -/
theorem preserves_gqa : Cert.preserves_Kernel_KernelIdeal :=
  IdealRules.named_const.statement Cert.KernelIdeal.κ "gqa_scale_log2e" .f32 0x3E38AA3B#32 _ rfl

/-- The latent attention's scale is the one constant that is named. -/
theorem preserves_mla : Cert.preserves_KernelMla_KernelMlaIdeal :=
  IdealRules.named_const.statement Cert.KernelMlaIdeal.κ "mla_scale_log2e" .f32 _ _ rfl

/-- The grouped-query reference leaves its arguments and holds no semaphore. -/
theorem frame_gqa_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The latent attention's reference leaves its arguments and holds no semaphore. -/
theorem frame_mla_reference : Cert.quiescent_ReferenceMlaIdeal := fun m ρ _ =>
  (θ_run Cert.ReferenceMlaIdeal.defs _ _).mono (fun r h => ⟨fun c => (h c).2,
      Idealize.ShloMosaic.sem_eq_zero_of_no_sems (by decide) r.2⟩)
    (Cert.ReferenceMlaIdeal.Value.run (F := Ideal) m ρ)

end Cert.Proof.AttentionClaims

end
-- ==== Proof.Merge.lean ====
module

public import proofs.«01_k».proof.Defs
public import proofs.«01_k».proof.Proof.Gen.KernelMergeIdeal.Value
public import proofs.«01_k».proof.Proof.Gen.ReferenceMergeIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelMergeIdeal.Merged

open Cert.KernelMergeIdeal Cert.KernelMergeIdeal.Gen

variable (m : (ℓ : Loc nD τ sig) → Buf (Elt Ideal) ℓ)

/-- One gate at token `b`, `s` and gate column `n`: the logistic function of the token's row times layer 1's gate column. -/
def gate (x0 : Vec Ideal S4x2304x2048 .f32) (x1 : Vec Ideal S4x2048x9248 .f32) (b : Fin 4) (s : Fin 2304) (n : Fin 9248) : EReal :=
  Ideal.logistic (∑ k : Fin 2048, x0 (ix3 b s k) * x1 (ix3 1 k n))

/-- One branch at token `b`, `s` and column `n`: the branch's row times layer 1's weight column. -/
def branch (x : Vec Ideal S4x2304x512 .f32) (w : Vec Ideal S4x512x2048 .f32) (b : Fin 4) (s : Fin 2304) (n : Fin 2048) : EReal :=
  ∑ k : Fin 512, x (ix3 b s k) * w (ix3 1 k n)

/-- The merged rows: token `r / 2304`, `r % 2304`, column `n`, the three gated branches added. -/
def merged (x0 : Vec Ideal S4x2304x2048 .f32) (x1 : Vec Ideal S4x2048x9248 .f32) (x2 x3 x4 : Vec Ideal S4x2304x512 .f32)
    (x5 x6 x7 : Vec Ideal S4x512x2048 .f32) : Vec Ideal S9216x2048 .bf16 := fun i =>
  have h0 : (i 0 : Nat) < 9216 := (i 0).isLt
  have h1 : (i 1 : Nat) < 2048 := (i 1).isLt
  let b : Fin 4 := ⟨(i 0 : Nat) / 2304, by omega⟩
  let s : Fin 2304 := ⟨(i 0 : Nat) % 2304, by omega⟩
  (gate x0 x1 b s ⟨3104 + (i 1 : Nat), by omega⟩ * branch x2 x5 b s (i 1)
    + gate x0 x1 b s ⟨3104 + (2048 + (i 1 : Nat)), by omega⟩ * branch x3 x6 b s (i 1)
    + gate x0 x1 b s ⟨3104 + (4096 + (i 1 : Nat)), by omega⟩ * branch x4 x7 b s (i 1) : EReal)

open Cert.ReferenceMergeIdeal in
/-- The reference's result, read at an index, is the merged rows. -/
theorem reference_eq (x0 : Vec Ideal S4x2304x2048 .f32) (x1 : Vec Ideal S4x2048x9248 .f32) (x2 x3 x4 : Vec Ideal S4x2304x512 .f32)
    (x5 x6 x7 : Vec Ideal S4x512x2048 .f32) :
    Cert.ReferenceMergeIdeal.Read.val_main_v28 (F := Ideal) x0 x1 x2 x3 x4 x5 x6 x7 = merged x0 x1 x2 x3 x4 x5 x6 x7 := by
  funext i
  simp only [Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, merged, gate, branch]
  pointwise
  rfl

/-- Where each window's block stands: the row tile moves with the grid's first axis, the column tile with its second; the three
    gates' blocks are a third of the gate columns apart. -/
theorem idx (t : Fin cfg0.N) : win0_0.index t = ![(grid0.coords t 0).val, 0] ∧ win0_1.index t = ![1, 0, (grid0.coords t 1).val]
    ∧ win0_2.index t = ![1, 0, 4 + (grid0.coords t 1).val] ∧ win0_3.index t = ![1, 0, 8 + (grid0.coords t 1).val]
    ∧ win0_4.index t = ![(grid0.coords t 0).val, 0] ∧ win0_5.index t = ![(grid0.coords t 0).val, 0]
    ∧ win0_6.index t = ![(grid0.coords t 0).val, 0] ∧ win0_7.index t = ![1, 0, (grid0.coords t 1).val]
    ∧ win0_8.index t = ![1, 0, (grid0.coords t 1).val] ∧ win0_9.index t = ![1, 0, (grid0.coords t 1).val]
    ∧ win0_10.index t = ![(grid0.coords t 0).val, (grid0.coords t 1).val] :=
  by
  revert t; show ∀ t : Fin grid0.N, _; decide +kernel

/-- The kernel's tile at a row and a column, from the blocks it was handed. -/
theorem tile_apply (x0 : Vec Ideal S1152x2048 .bf16) (x1 x2 x3 : Vec Ideal S1x2048x512 .bf16) (x4 x5 x6 : Vec Ideal S1152x512 .bf16)
    (x7 x8 x9 : Vec Ideal S1x512x512 .f32) (y : S1152x512.Idx) :
    out0_10 x0 x1 x2 x3 x4 x5 x6 x7 x8 x9 y
      = (Ideal.logistic (∑ k : Fin 2048, x0 (ix2 (y 0) k) * x1 (ix3 0 k (y 1))) * (∑ k : Fin 512, x4 (ix2 (y 0) k) * x7 (ix3 0 k (y 1)))
        + Ideal.logistic (∑ k : Fin 2048, x0 (ix2 (y 0) k) * x2 (ix3 0 k (y 1))) * (∑ k : Fin 512, x5 (ix2 (y 0) k) * x8 (ix3 0 k (y 1)))
        + Ideal.logistic (∑ k : Fin 2048, x0 (ix2 (y 0) k) * x3 (ix3 0 k (y 1))) * (∑ k : Fin 512, x6 (ix2 (y 0) k) * x9 (ix3 0 k (y 1))) : EReal) := by
  frame_out
  unfold_payloads
  pointwise

/-- The row block of the normalised stream, read at a row. -/
theorem blk0 (c : Dev nD) (t : Fin cfg0.N) (r : Fin 1152) (k : Fin 2048) (b : Fin 4) (s : Fin 2304)
    (hb : b.val = ((grid0.coords t 0).val * 1152 + r.val) / 2304) (hs : s.val = ((grid0.coords t 0).val * 1152 + r.val) % 2304) :
    iblk m c 0 t (ix2 r k) = m ((c : Thread nD τ).loc main_arg0) (ix3 b s k) := by
  have e := (idx t).1
  blk_simp [iblk, V]
  entry_read
  pointwise
  blk_ext [e]

/-- A gate's weight block, read at a row and a column. -/
theorem blk1 (c : Dev nD) (t : Fin cfg0.N) (k : Fin 2048) (j : Fin 512) (n : Fin 9248)
    (hn : n.val = 3104 + ((0 + (grid0.coords t 1).val) * 512 + j.val)) :
    iblk m c 1 t (ix3 0 k j) = m ((c : Thread nD τ).loc main_arg1) (ix3 1 k n) := by
  have e := (idx t).2.1
  blk_simp [iblk, V]
  entry_read
  pointwise
  blk_ext [e]

/-- A gate's weight block, read at a row and a column. -/
theorem blk2 (c : Dev nD) (t : Fin cfg0.N) (k : Fin 2048) (j : Fin 512) (n : Fin 9248)
    (hn : n.val = 3104 + ((4 + (grid0.coords t 1).val) * 512 + j.val)) :
    iblk m c 2 t (ix3 0 k j) = m ((c : Thread nD τ).loc main_arg1) (ix3 1 k n) := by
  have e := (idx t).2.2.1
  blk_simp [iblk, V]
  entry_read
  pointwise
  blk_ext [e]

/-- A gate's weight block, read at a row and a column. -/
theorem blk3 (c : Dev nD) (t : Fin cfg0.N) (k : Fin 2048) (j : Fin 512) (n : Fin 9248)
    (hn : n.val = 3104 + ((8 + (grid0.coords t 1).val) * 512 + j.val)) :
    iblk m c 3 t (ix3 0 k j) = m ((c : Thread nD τ).loc main_arg1) (ix3 1 k n) := by
  have e := (idx t).2.2.2.1
  blk_simp [iblk, V]
  entry_read
  pointwise
  blk_ext [e]

/-- A branch's row block, read at a row. -/
theorem blk4 (c : Dev nD) (t : Fin cfg0.N) (r : Fin 1152) (k : Fin 512) (b : Fin 4) (s : Fin 2304)
    (hb : b.val = ((grid0.coords t 0).val * 1152 + r.val) / 2304) (hs : s.val = ((grid0.coords t 0).val * 1152 + r.val) % 2304) :
    iblk m c 4 t (ix2 r k) = m ((c : Thread nD τ).loc main_arg2) (ix3 b s k) := by
  have e := (idx t).2.2.2.2.1
  blk_simp [iblk, V]
  entry_read
  pointwise
  blk_ext [e]

/-- A branch's row block, read at a row. -/
theorem blk5 (c : Dev nD) (t : Fin cfg0.N) (r : Fin 1152) (k : Fin 512) (b : Fin 4) (s : Fin 2304)
    (hb : b.val = ((grid0.coords t 0).val * 1152 + r.val) / 2304) (hs : s.val = ((grid0.coords t 0).val * 1152 + r.val) % 2304) :
    iblk m c 5 t (ix2 r k) = m ((c : Thread nD τ).loc main_arg3) (ix3 b s k) := by
  have e := (idx t).2.2.2.2.2.1
  blk_simp [iblk, V]
  entry_read
  pointwise
  blk_ext [e]

/-- A branch's row block, read at a row. -/
theorem blk6 (c : Dev nD) (t : Fin cfg0.N) (r : Fin 1152) (k : Fin 512) (b : Fin 4) (s : Fin 2304)
    (hb : b.val = ((grid0.coords t 0).val * 1152 + r.val) / 2304) (hs : s.val = ((grid0.coords t 0).val * 1152 + r.val) % 2304) :
    iblk m c 6 t (ix2 r k) = m ((c : Thread nD τ).loc main_arg4) (ix3 b s k) := by
  have e := (idx t).2.2.2.2.2.2.1
  blk_simp [iblk, V]
  entry_read
  pointwise
  blk_ext [e]

/-- A branch's weight block, read at a row and a column. -/
theorem blk7 (c : Dev nD) (t : Fin cfg0.N) (k : Fin 512) (j : Fin 512) (n : Fin 2048)
    (hn : n.val = (grid0.coords t 1).val * 512 + j.val) :
    iblk m c 7 t (ix3 0 k j) = m ((c : Thread nD τ).loc main_arg5) (ix3 1 k n) := by
  have e := (idx t).2.2.2.2.2.2.2.1
  blk_simp [iblk, V]
  entry_read
  pointwise
  blk_ext [e]

/-- A branch's weight block, read at a row and a column. -/
theorem blk8 (c : Dev nD) (t : Fin cfg0.N) (k : Fin 512) (j : Fin 512) (n : Fin 2048)
    (hn : n.val = (grid0.coords t 1).val * 512 + j.val) :
    iblk m c 8 t (ix3 0 k j) = m ((c : Thread nD τ).loc main_arg6) (ix3 1 k n) := by
  have e := (idx t).2.2.2.2.2.2.2.2.1
  blk_simp [iblk, V]
  entry_read
  pointwise
  blk_ext [e]

/-- A branch's weight block, read at a row and a column. -/
theorem blk9 (c : Dev nD) (t : Fin cfg0.N) (k : Fin 512) (j : Fin 512) (n : Fin 2048)
    (hn : n.val = (grid0.coords t 1).val * 512 + j.val) :
    iblk m c 9 t (ix3 0 k j) = m ((c : Thread nD τ).loc main_arg7) (ix3 1 k n) := by
  have e := (idx t).2.2.2.2.2.2.2.2.2.1
  blk_simp [iblk, V]
  entry_read
  pointwise
  blk_ext [e]

/-- What every grid point writes back is its block of the merged rows: the two sides are the same sums over different reads. -/
theorem final (c : Dev nD) : (dats m 0 c).arrAt 10 cfg0.N = merged (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 10 _ (by decide +kernel) fun t hf y => ?_
  obtain ⟨e0, e1, e2, e3, e4, e5, e6, e7, e8, e9, e10⟩ := idx t
  have hg0 : (grid0.coords t 0).val < 8 := (grid0.coords t 0).isLt
  have hg1 : (grid0.coords t 1).val < 4 := (grid0.coords t 1).isLt
  have hy0 : (y 0).val < 1152 := (y 0).isLt
  have hy1 : (y 1).val < 512 := (y 1).isLt
  blk_simp
  rw [after0_10]
  refine (tile_apply _ _ _ _ _ _ _ _ _ _ y).trans ?_
  unfold merged gate branch
  dsimp only
  generalize hj : ((View.whole main_v10).slice (win0_10.rect t)).emb y = j
  have hj0 : (j 0).val = (grid0.coords t 0).val * 1152 + (y 0).val := by subst hj; blk_simp [e10]
  have hj1 : (j 1).val = (grid0.coords t 1).val * 512 + (y 1).val := by subst hj; blk_simp [e10]
  refine congrArg₂ (· + ·) (congrArg₂ (· + ·) ?_ ?_) ?_
  · refine congrArg₂ (· * ·) (congrArg _ (Finset.sum_congr rfl fun k _ => congrArg₂ (· * ·) ?_ ?_)) (Finset.sum_congr rfl fun k _ => congrArg₂ (· * ·) ?_ ?_)
    · exact blk0 m c t _ _ _ _ (by simp only [hj0]) (by simp only [hj0])
    · exact blk1 m c t _ _ _ (by dsimp only; omega)
    · exact blk4 m c t _ _ _ _ (by simp only [hj0]) (by simp only [hj0])
    · exact blk7 m c t _ _ _ (by omega)
  · refine congrArg₂ (· * ·) (congrArg _ (Finset.sum_congr rfl fun k _ => congrArg₂ (· * ·) ?_ ?_)) (Finset.sum_congr rfl fun k _ => congrArg₂ (· * ·) ?_ ?_)
    · exact blk0 m c t _ _ _ _ (by simp only [hj0]) (by simp only [hj0])
    · exact blk2 m c t _ _ _ (by dsimp only; omega)
    · exact blk5 m c t _ _ _ _ (by simp only [hj0]) (by simp only [hj0])
    · exact blk8 m c t _ _ _ (by omega)
  · refine congrArg₂ (· * ·) (congrArg _ (Finset.sum_congr rfl fun k _ => congrArg₂ (· * ·) ?_ ?_)) (Finset.sum_congr rfl fun k _ => congrArg₂ (· * ·) ?_ ?_)
    · exact blk0 m c t _ _ _ _ (by simp only [hj0]) (by simp only [hj0])
    · exact blk3 m c t _ _ _ (by dsimp only; omega)
    · exact blk6 m c t _ _ _ _ (by simp only [hj0]) (by simp only [hj0])
    · exact blk9 m c t _ _ _ (by omega)

end Cert.KernelMergeIdeal.Merged

namespace Cert.Proof.MergeClaims

theorem preserves : Cert.preserves_KernelMerge_KernelMergeIdeal := trivial

/-- The reference leaves its arguments and holds no semaphore. -/
theorem frame_reference : Cert.quiescent_ReferenceMergeIdeal := fun m ρ _ =>
  (θ_run Cert.ReferenceMergeIdeal.defs _ _).mono (fun r h => ⟨fun c => (h c).2,
      Idealize.ShloMosaic.sem_eq_zero_of_no_sems (by decide) r.2⟩)
    (Cert.ReferenceMergeIdeal.Value.run (F := Ideal) m ρ)

/-- Kernel and reference leave the same merged rows. -/
theorem algebraic : Cert.algebraic_KernelMergeIdeal_ReferenceMergeIdeal := by
  intro m ρ m' ρ' _ hagree
  refine ⟨fun c => (Cert.KernelMergeIdeal.Gen.dats m 0 c).arrAt 10 Cert.KernelMergeIdeal.cfg0.N, ?_, ?_⟩
  · exact Cert.KernelMergeIdeal.Value.run_blocks (F := Ideal) m ρ
  · refine (θ_run Cert.ReferenceMergeIdeal.defs _ _).mono (fun _ h c => ⟨(h c).1.trans ?_, (h c).2⟩)
      (Cert.ReferenceMergeIdeal.Value.run (F := Ideal) m' ρ')
    refine Eq.trans ?_ (Cert.KernelMergeIdeal.Merged.final m c).symm
    refine (Cert.ReferenceMergeIdeal.Read.val_main_v28_eq (F := Ideal) _ _ _ _ _ _ _ _).trans ?_
    rw [Cert.KernelMergeIdeal.Merged.reference_eq]
    obtain ⟨h0, h1, h2, h3, h4, h5, h6, h7⟩ := hagree c
    rw [h0, h1, h2, h3, h4, h5, h6, h7]

end Cert.Proof.MergeClaims

end
-- ==== Proof.Softmax.lean ====
module

public import Idealize.ShloMosaic.Lib.Pipeline.ValueKit

/-!
A softmax's weighted mean over the extended reals, where every score is a real number. The kernel divides the
weighted sum by the sum of the weights once, takes powers of two of scores scaled by 1/ln 2, and subtracts a maximum
that it forms in blocks; the reference divides every weight first and takes exponentials. Both are the same number,
for whatever real number either subtracts.
-/

@[expose] public section

noncomputable section

namespace Cert.Softmax

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers, taken in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The bit pattern of minus infinity. -/
theorem ofBits_neg_inf : Ideal.ofBits .f32 0xFF800000#32 = ⊥ := by
  simp [Ideal.ofBits, Ideal.ieee]

/-- The bit pattern of zero. -/
theorem ofBits_zero : Ideal.ofBits .f32 0x00000000#32 = 0 := by
  simp [Ideal.ofBits, Ideal.ieee]

/-- The bit pattern of one. -/
theorem ofBits_one : Ideal.ofBits .f32 0x3F800000#32 = 1 := by
  simp [Ideal.ofBits, Ideal.ieee]
  rw [← EReal.coe_mul, ← EReal.coe_one]
  norm_num

/-- A maximum, started from minus infinity, of real numbers over a nonempty set is a real number. -/
theorem fold_isReal {n : ℕ} [NeZero n] (f : Fin n → EReal) (hf : ∀ i, IsReal (f i)) :
    IsReal (Finset.univ.fold max (Ideal.ofBits .f32 0xFF800000#32) f) := by
  have key : ∀ s : Finset (Fin n), s.fold max (Ideal.ofBits .f32 0xFF800000#32) f = ⊥ ∧ s = ∅
      ∨ IsReal (s.fold max (Ideal.ofBits .f32 0xFF800000#32) f) := by
    intro s
    induction s using Finset.induction_on with
    | empty => left; exact ⟨by rw [Finset.fold_empty, ofBits_neg_inf], rfl⟩
    | insert a s ha ih =>
      right
      rw [Finset.fold_insert ha]
      obtain ⟨r, hr⟩ := hf a
      rcases ih with ⟨h, -⟩ | ⟨q, hq⟩
      · rw [h, hr]; exact ⟨r, max_eq_left bot_le⟩
      · rw [hq, hr]
        rcases max_choice (r : EReal) (q : EReal) with h | h
        · exact ⟨r, h⟩
        · exact ⟨q, h⟩
  rcases key Finset.univ with ⟨-, h⟩ | h
  · exact absurd h (Finset.univ_nonempty.ne_empty)
  · exact h

theorem exp2_coe (r : ℝ) : Ideal.exp2 (r : EReal) = ((Real.rpow 2 r : ℝ) : EReal) := rfl

/-- The kernel's weighted mean is the reference's. -/
theorem mean_eq {n : ℕ} [NeZero n] (s s' w v : Fin n → EReal) (M M' : EReal) (hM : IsReal M) (hM' : IsReal M')
    (hs : ∀ j, ∃ r : ℝ, s j = (r : EReal) ∧ s' j = ((r / Real.log 2 : ℝ) : EReal)) (hw : ∀ j, w j = 1) :
    Ideal.div (∑ j, v j * Ideal.exp2 (s' j - M')) (∑ j, w j * Ideal.exp2 (s' j - M'))
      = ∑ j, v j * Ideal.div (Ideal.exp (s j - M)) (∑ k, Ideal.exp (s k - M)) := by
  obtain ⟨a, rfl⟩ := hM
  obtain ⟨b, rfl⟩ := hM'
  choose r hr hr' using hs
  have hln : Real.log 2 ≠ 0 := (Real.log_pos one_lt_two).ne'
  have e1 : ∀ j, Ideal.exp2 (s' j - (b : EReal)) = ((Real.exp (r j - b * Real.log 2) : ℝ) : EReal) := by
    intro j
    rw [hr', ← EReal.coe_sub, exp2_coe]
    congr 1
    show (2 : ℝ) ^ (r j / Real.log 2 - b) = _
    rw [Real.rpow_def_of_pos two_pos]
    congr 1
    field_simp
  have e2 : ∀ j, Ideal.exp (s j - (a : EReal)) = ((Real.exp (r j - a) : ℝ) : EReal) := by
    intro j
    rw [hr, ← EReal.coe_sub]
    rfl
  have pos : ∀ c : ℝ, 0 < ∑ j : Fin n, Real.exp (r j - c) := fun c =>
    Finset.sum_pos (fun j _ => Real.exp_pos _) Finset.univ_nonempty
  simp only [e1, e2, hw, one_mul]
  rw [coe_sum, coe_sum, Ideal.div_coe (pos _).ne']
  simp only [Ideal.div_coe (pos a).ne']
  have dist : ∀ (c : ℝ) (f : Fin n → EReal), (∑ j, f j) * (c : EReal) = ∑ j, f j * (c : EReal) ∨ c < 0 := by
    intro c f
    rcases lt_or_ge c 0 with h | h
    · exact .inr h
    · left
      have : ∀ s : Finset (Fin n), (∑ j ∈ s, f j) * (c : EReal) = ∑ j ∈ s, f j * (c : EReal) := by
        intro s
        induction s using Finset.induction_on with
        | empty => simp
        | insert x s hx ih =>
          rw [Finset.sum_insert hx, Finset.sum_insert hx, EReal.right_distrib_of_nonneg_of_ne_top (EReal.coe_nonneg.mpr h) (EReal.coe_ne_top c), ih]
      exact this Finset.univ
  rcases dist (1 / ∑ j, Real.exp (r j - b * Real.log 2)) (fun j => v j * ((Real.exp (r j - b * Real.log 2) : ℝ) : EReal)) with h | h
  · rw [h]
    refine Finset.sum_congr rfl fun j _ => ?_
    rw [mul_assoc, ← EReal.coe_mul, ← EReal.coe_mul]
    congr 2
    have key : ∀ i c : ℝ, Real.exp (i - c) = Real.exp i * Real.exp (-c) := fun i c => by
      rw [← Real.exp_add, sub_eq_add_neg]
    have hpos := pos 0
    simp only [sub_zero] at hpos
    simp only [key, ← Finset.sum_mul]
    have h1 := (Real.exp_pos (-(b * Real.log 2))).ne'
    have h2 := (Real.exp_pos (-a)).ne'
    field_simp
  · exact absurd h (not_lt.mpr (by have := pos (b * Real.log 2); positivity))

/-- A head's weighted mean as the kernel forms it: the weighted sum of the values over the sum of the weights, which
    is the value product's row of ones. -/
def mean {n : ℕ} (s : Fin n → EReal) (M : EReal) (v w : Fin n → EReal) : EReal :=
  Ideal.div (∑ j, v j * Ideal.exp2 (s j - M)) (∑ j, w j * Ideal.exp2 (s j - M))

/-- The maximum of 2304 scores as the kernel forms it: over 36 blocks of 64 rows, then over the 64 rows. -/
def maxAll (s : Fin 2304 → EReal) : EReal :=
  Finset.univ.fold max (Ideal.ofBits .f32 0xFF800000#32) fun x : Fin 64 =>
    Finset.univ.fold max (Ideal.ofBits .f32 0xFF800000#32) fun b : Fin 36 => s ⟨b.val * 64 + x.val, by omega⟩

/-- The maximum of the 256 context scores, over 4 blocks of 64 rows, then over the 64 rows. -/
def maxCtx (s : Fin 256 → EReal) : EReal :=
  Finset.univ.fold max (Ideal.ofBits .f32 0xFF800000#32) fun x : Fin 64 =>
    Finset.univ.fold max (Ideal.ofBits .f32 0xFF800000#32) fun b : Fin 4 => s ⟨b.val * 64 + x.val, by omega⟩

theorem maxAll_isReal (s : Fin 2304 → EReal) (h : ∀ j, IsReal (s j)) : IsReal (maxAll s) :=
  fold_isReal _ fun _ => fold_isReal _ fun _ => h _

theorem maxCtx_isReal (s : Fin 256 → EReal) (h : ∀ j, IsReal (s j)) : IsReal (maxCtx s) :=
  fold_isReal _ fun _ => fold_isReal _ fun _ => h _

/-- A score in the reference's scale and in the kernel's: the kernel's is the reference's over ln 2. -/
theorem score_pair {n : ℕ} (k q : Fin n → EReal) (hk : ∀ x, IsReal (k x)) (hq : ∀ x, IsReal (q x)) (c d : ℝ)
    (hd : d = c / Real.log 2) :
    ∃ r : ℝ, (∑ x, k x * q x) * (c : EReal) = (r : EReal)
      ∧ (∑ x, k x * (q x * (d : EReal))) = ((r / Real.log 2 : ℝ) : EReal) := by
  choose a ha using hk
  choose b hb using hq
  refine ⟨(∑ x, a x * b x) * c, ?_, ?_⟩
  · simp only [ha, hb, ← EReal.coe_mul, coe_sum]
  · simp only [ha, hb, ← EReal.coe_mul, coe_sum, hd]
    congr 1
    rw [Finset.sum_mul, Finset.sum_div]
    exact Finset.sum_congr rfl fun x _ => by ring

/-- A softmax weight as the reference forms it: the exponential of the score less the maximum, over the sum of those. -/
def weight {n : ℕ} (s : Fin n → EReal) (j : Fin n) : EReal :=
  Ideal.div
    (Ideal.exp (s j - max (Ideal.ofBits .f32 0xFF800000#32) (Finset.univ.fold max (Ideal.ofBits .f32 0xFF800000#32) s)))
    (∑ k, Ideal.exp (s k - max (Ideal.ofBits .f32 0xFF800000#32) (Finset.univ.fold max (Ideal.ofBits .f32 0xFF800000#32) s)))

/-- The kernel's mean, for any real maximum, is the reference's attention. -/
theorem mean_weight {n : ℕ} [NeZero n] (s s' w v : Fin n → EReal) (M' : EReal) (hM' : IsReal M')
    (hs : ∀ j, ∃ r : ℝ, s j = (r : EReal) ∧ s' j = ((r / Real.log 2 : ℝ) : EReal)) (hw : ∀ j, w j = 1) :
    mean s' M' v w = ∑ j, v j * weight s j := by
  refine mean_eq s s' w v _ M' ?_ hM' hs hw
  have h := fold_isReal s fun i => (hs i).imp fun _ h => h.1
  rw [ofBits_neg_inf] at h ⊢
  rwa [max_eq_right bot_le]

/-- The bit pattern of plus infinity. -/
theorem ofBits_inf : Ideal.ofBits .f32 0x7F800000#32 = ⊤ := by
  simp [Ideal.ofBits, Ideal.ieee]

/-- A number whose absolute value is below plus infinity is a real number. -/
theorem isReal_of_abs_lt (x : EReal) (h : max x (-x) < Ideal.ofBits .f32 0x7F800000#32) : IsReal x := by
  rw [ofBits_inf] at h
  induction x with
  | bot => exact absurd h (by simp)
  | top => exact absurd h (by simp)
  | coe r => exact ⟨r, rfl⟩

/-- The host's maximum over the last of five axes, read at an index: the fold along that axis. -/
theorem reduce_max {A B C D E : ℕ} {u : Shape} (x : FVec Ideal ⟨5, ![A, B, C, D, E]⟩ .f32) (init : u.Idx → EReal)
    (h' : (⟨5, ![A, B, C, D, E]⟩ : Shape).ReducesTo [4] ⟨4, ![A, B, C, D]⟩)
    (h : (⟨5, ![A, B, C, D, E]⟩ : Shape).Reduces [4] ⟨4, ![A, B, C, D]⟩) (hu : 0 < u.numel)
    (a : Fin A) (b : Fin B) (c : Fin C) (d : Fin D) :
    Host.reduce (FloatOps.maximumf : Ideal .f32 → Ideal .f32 → Ideal .f32) x init h' hu (ix4 a b c d)
      = Finset.univ.fold max (init (Shape.Idx.first hu)) fun e : Fin E => x (ix5 a b c d e) := by
  rw [Host.reduce_eq_fold_single (FloatOps.maximumf : Ideal .f32 → Ideal .f32 → Ideal .f32) x init h' h hu]
  have hf : (x ∘ h.lift (ix4 a b c d)) = fun e : Fin E => x (ix5 a b c d e) := funext fun e => congrArg x (by
    funext i
    apply Fin.ext
    fin_cases i <;> rfl)
  exact congrArg (fun f => Finset.fold max (init (Shape.Idx.first hu)) f (Finset.univ : Finset (Fin E))) hf

/-- The same over the last of three axes. -/
theorem reduce_max3 {A B C : ℕ} {u : Shape} (x : FVec Ideal ⟨3, ![A, B, C]⟩ .f32) (init : u.Idx → EReal)
    (h' : (⟨3, ![A, B, C]⟩ : Shape).ReducesTo [2] ⟨2, ![A, B]⟩)
    (h : (⟨3, ![A, B, C]⟩ : Shape).Reduces [2] ⟨2, ![A, B]⟩) (hu : 0 < u.numel) (a : Fin A) (b : Fin B) :
    Host.reduce (FloatOps.maximumf : Ideal .f32 → Ideal .f32 → Ideal .f32) x init h' hu (ix2 a b)
      = Finset.univ.fold max (init (Shape.Idx.first hu)) fun c : Fin C => x (ix3 a b c) := by
  rw [Host.reduce_eq_fold_single (FloatOps.maximumf : Ideal .f32 → Ideal .f32 → Ideal .f32) x init h' h hu]
  have hf : (x ∘ h.lift (ix2 a b)) = fun c : Fin C => x (ix3 a b c) := funext fun c => congrArg x (by
    funext i
    apply Fin.ext
    fin_cases i <;> rfl)
  exact congrArg (fun f => Finset.fold max (init (Shape.Idx.first hu)) f (Finset.univ : Finset (Fin C))) hf

end Cert.Softmax

end
-- ==== Proof.Finite.lean ====
module

public import proofs.«01_k».proof.Pre_finite_qk
public import proofs.«01_k».proof.Pre_finite_qk_mla
public import proofs.«01_k».proof.Proof.Softmax

/-!
The attention calls' precondition, that queries and keys are finite: its side conditions, and what it says of one
element.
-/

@[expose] public section

noncomputable section

namespace Cert.Finite

open Idealize.ShloMosaic

/-- The side conditions of the grouped-query call's precondition. -/
theorem facts_gqa : Cert.Pre_finite_qk.Facts := ⟨by decide, by decide⟩

/-- The side conditions of the latent attention's precondition. -/
theorem facts_mla : Cert.Pre_finite_qk_mla.Facts := ⟨by decide⟩

/-- The precondition at one element: the element is a real number. -/
theorem real {s : Shape} (x : FVec Ideal s .f32) (h0 : (⟨0, ![]⟩ : Shape).BroadcastsInDim s ![]) (i : s.Idx)
    (h : cmpf .olt (Host.absf x) (broadcastInDim s ![] h0 (constant ⟨0, ![]⟩ .f32 0x7F800000#32)) i = 1#1) : Softmax.IsReal (x i) := by
  refine Softmax.isReal_of_abs_lt _ ?_
  by_contra hn
  have : (BitVec.ofBool (decide (max (x i) (-(x i)) < Ideal.ofBits .f32 0x7F800000#32))) = 1#1 := h
  rw [decide_eq_false hn] at this
  exact absurd this (by decide)

end Cert.Finite

end
-- ==== Proof.Gqa.lean ====
module

public import proofs.«01_k».proof.Defs
public import proofs.«01_k».proof.Proof.Gen.KernelIdeal.Value
public import proofs.«01_k».proof.Proof.Softmax
public import Idealize.ShloMosaic.Lib.Pipeline.ReadBack

/-!
The grouped-query attention call: what a grid point stores in its output block, as a function of the blocks of
queries, keys and transposed values that it reads.
-/

@[expose] public section

set_option maxRecDepth 16384

noncomputable section

namespace Cert.KernelIdeal.Attention

open Cert.KernelIdeal Cert.KernelIdeal.Gen Idealize.ShloMosaic Idealize.ShloMosaic.TcCoe Idealize.SL.Sem Cert.Softmax

variable (m : (ℓ : Loc nD τ sig) → Buf (Elt Ideal) ℓ)

/-- The scale of the queries, times log2 e. -/
def scale : EReal := (((8 * (Real.log 2))⁻¹ : ℝ) : EReal)

/-- The named constant of the kernel's text is the scale. -/
theorem scale_eq : (Named.named (F := Ideal) κ "gqa_scale_log2e" 0x3E38AA3B#32 : Ideal .f32) = scale :=
  IdealRules.named_const.ideal_named_scalar _ _ _ _ rfl

/-! ## All keys -/

/-- A head's scores against all keys. -/
theorem score_all (k : Vec Ideal S1x1x2304x64 .bf16) (q : Vec Ideal S1x1x256x64 .f32) (j : Fin 2304) (r : Fin 256) :
    k0_pay26 k q (ix3 0 j r) = ∑ x : Fin 64, k (ix4 0 0 j x) * (q (ix4 0 0 r x) * scale) := by
  rw [← scale_eq]
  open_payloads
  pointwise

/-- A head's normalised output from stored scores. -/
theorem finish_all (s : Vec Ideal S1x2304x256 .f32) (v : Vec Ideal S1x1x80x2304 .bf16) (e : Fin 64) (r : Fin 256) :
    k0_pay48 s v (ix2 e r) = mean (fun j => s (ix3 0 j r)) (maxAll fun j => s (ix3 0 j r))
      (fun j => v (ix4 0 0 ⟨e.val, by omega⟩ j)) (fun j => v (ix4 0 0 64 j)) := by
  open_payloads
  pointwise
  rfl

/-- One head's output from its blocks. -/
def headAll (k : Vec Ideal S1x1x2304x64 .bf16) (q : Vec Ideal S1x1x256x64 .f32) (v : Vec Ideal S1x1x80x2304 .bf16)
    (e : Fin 64) (r : Fin 256) : EReal :=
  mean (fun j => ∑ x : Fin 64, k (ix4 0 0 j x) * (q (ix4 0 0 r x) * scale)) (maxAll fun j => ∑ x : Fin 64, k (ix4 0 0 j x) * (q (ix4 0 0 r x) * scale))
    (fun j => v (ix4 0 0 ⟨e.val, by omega⟩ j)) (fun j => v (ix4 0 0 64 j))

/-- Two heads side by side, as they are stored. -/
theorem pair_all (k k' : Vec Ideal S1x1x2304x64 .bf16) (q q' : Vec Ideal S1x1x256x64 .f32) (v v' : Vec Ideal S1x1x80x2304 .bf16)
    (y : S1x256x128.Idx) :
    k0_pay2 (k0_pay48 (k0_pay26 k q) v) (k0_pay26 k' q') v' y
      = if h : (y 2).val < 64 then headAll k q v ⟨(y 2).val, h⟩ (y 1)
        else headAll k' q' v' ⟨(y 2).val - 64, by have := (y 2).isLt; show _ < 64; have : (y 2).val < 128 := (y 2).isLt; omega⟩ (y 1) := by
  have e : ∀ (o : FVec Ideal S64x256 .f32) (s : Vec Ideal S1x2304x256 .f32) (v : Vec Ideal S1x1x80x2304 .bf16),
      k0_pay2 o s v y = (shapeCast S1x256x128 (truncf .bf16 (transpose S256x128 [1, 0] (concatenate S128x256 0
        [⟨S64x256, o⟩, ⟨S64x256, k0_pay48 s v⟩] concatenates_S64x256_S64x256_S128x256_d0)
        transposes_S128x256_p1_0_S256x128) bitsLt_bf16_f32) shapeCasts_S256x128_S1x256x128 : FVec Ideal S1x256x128 .bf16) y :=
    fun _ _ _ => rfl
  have f : ∀ (k : Vec Ideal S1x1x2304x64 .bf16) (q : Vec Ideal S1x1x256x64 .f32) (v : Vec Ideal S1x1x80x2304 .bf16)
      (e : Fin 64) (r : Fin 256), k0_pay48 (k0_pay26 k q) v (ix2 e r) = headAll k q v e r := by
    intro k q v e r
    rw [finish_all]
    simp only [score_all]
    rfl
  rw [e]
  have f1 := f k q v
  have f2 := f k' q' v'
  revert f1 f2
  generalize k0_pay48 (k0_pay26 k q) v = o
  generalize k0_pay48 (k0_pay26 k' q') v' = o'
  intro f1 f2
  pointwise
  split_ifs <;> first | exact f1 _ _ | exact f2 _ _ | (exfalso; exact absurd rfl ‹_›)

/-- Head `h` at value row `e` and query `r` of the point's blocks, against all keys. -/
def rowAll (q : Vec Ideal S1x8x256x64 .f32) (k : Vec Ideal S1x2x2304x64 .bf16) (v : Vec Ideal S1x2x80x2304 .bf16)
    (h : Fin 8) (e : Fin 64) (r : Fin 256) : EReal :=
  mean (fun j => ∑ x : Fin 64, k (ix4 0 ⟨h.val / 4, by omega⟩ j x) * (q (ix4 0 h r x) * scale))
    (maxAll fun j => ∑ x : Fin 64, k (ix4 0 ⟨h.val / 4, by omega⟩ j x) * (q (ix4 0 h r x) * scale))
    (fun j => v (ix4 0 ⟨h.val / 4, by omega⟩ ⟨e.val, by omega⟩ j)) (fun j => v (ix4 0 ⟨h.val / 4, by omega⟩ 64 j))

theorem headAll_eq (q : Vec Ideal S1x8x256x64 .f32) (k : Vec Ideal S1x2x2304x64 .bf16) (v : Vec Ideal S1x2x80x2304 .bf16)
    (h : Fin 8) (k' : Vec Ideal S1x1x2304x64 .bf16) (q' : Vec Ideal S1x1x256x64 .f32) (v' : Vec Ideal S1x1x80x2304 .bf16)
    (hk : ∀ j x, k' (ix4 0 0 j x) = k (ix4 0 ⟨h.val / 4, by omega⟩ j x)) (hq : ∀ r x, q' (ix4 0 0 r x) = q (ix4 0 h r x))
    (hv : ∀ e j, v' (ix4 0 0 e j) = v (ix4 0 ⟨h.val / 4, by omega⟩ e j)) (e : Fin 64) (r : Fin 256) :
    headAll k' q' v' e r = rowAll q k v h e r := by
  unfold headAll rowAll
  simp only [hk, hq, hv]

/-- A stored pair, from the point's blocks. -/
theorem piece_all (q : Vec Ideal S1x8x256x64 .f32) (k : Vec Ideal S1x2x2304x64 .bf16) (v : Vec Ideal S1x2x80x2304 .bf16)
    (h h' : Fin 8) (k1 k2 : Vec Ideal S1x1x2304x64 .bf16) (q1 q2 : Vec Ideal S1x1x256x64 .f32) (v1 v2 : Vec Ideal S1x1x80x2304 .bf16)
    (hk : ∀ j x, k1 (ix4 0 0 j x) = k (ix4 0 ⟨h.val / 4, by omega⟩ j x)) (hq : ∀ r x, q1 (ix4 0 0 r x) = q (ix4 0 h r x))
    (hv : ∀ e j, v1 (ix4 0 0 e j) = v (ix4 0 ⟨h.val / 4, by omega⟩ e j))
    (hk' : ∀ j x, k2 (ix4 0 0 j x) = k (ix4 0 ⟨h'.val / 4, by omega⟩ j x)) (hq' : ∀ r x, q2 (ix4 0 0 r x) = q (ix4 0 h' r x))
    (hv' : ∀ e j, v2 (ix4 0 0 e j) = v (ix4 0 ⟨h'.val / 4, by omega⟩ e j))
    (x : S1x256x128.Idx) (H : Fin 8) (e : Fin 64) (r : Fin 256) (hr : r.val = (x 1).val)
    (he : H.val * 64 + e.val = h.val * 64 + (x 2).val) (hh : h'.val = h.val + 1) :
    k0_pay2 (k0_pay48 (k0_pay26 k1 q1) v1) (k0_pay26 k2 q2) v2 x = rowAll q k v H e r := by
  have hx : (x 2).val < 128 := (x 2).isLt
  obtain rfl : r = x 1 := Fin.ext hr
  refine (pair_all _ _ _ _ _ _ x).trans ?_
  split_ifs with c
  · refine (headAll_eq q k v h k1 q1 v1 hk hq hv _ _).trans ?_
    obtain rfl : H = h := Fin.ext (by omega)
    congr 1
    exact Fin.ext (by show (x 2).val = e.val; omega)
  · refine (headAll_eq q k v h' k2 q2 v2 hk' hq' hv' _ _).trans ?_
    obtain rfl : H = h' := Fin.ext (by omega)
    congr 1
    exact Fin.ext (by show (x 2).val - 64 = e.val; omega)

/-- What a point past a batch's first stores: each head's rows, against all keys. -/
theorem tile_all (c : Dev nD) (t : Fin cfg0.N) (h0 : ¬t.val % 9 = 0) (h1 : 1 ≤ t.val % 9) (y : S1x256x512.Idx) :
    outsAt0 m c t.val t.isLt y = rowAll (iblk m c 0 t) (iblk m c 1 t) (iblk m c 2 t)
      ⟨(y 2).val / 64, by have : (y 2).val < 512 := (y 2).isLt; omega⟩ ⟨(y 2).val % 64, Nat.mod_lt _ (by decide)⟩ (y 1) := by
  rw [outsAt0_B m c t h0 h1]
  frame_open
  simp (disch := decide) only [↓ View.readCov_skip, ↓ View.readCov_cons_toLoadRect, ↓ View.readCov_fill]
  frame_out
  canon_tiles x h
  · refine piece_all _ _ _ 6 7 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_all _ _ _ 4 5 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_all _ _ _ 2 3 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_all _ _ _ 0 1 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm

/-! ## The context keys -/

/-- A head's scores against the context keys. -/
theorem score_ctx (k : Vec Ideal S1x1x256x64 .bf16) (q : Vec Ideal S1x1x256x64 .f32) (j : Fin 256) (r : Fin 256) :
    k0_pay3 k q (ix3 0 j r) = ∑ x : Fin 64, k (ix4 0 0 j x) * (q (ix4 0 0 r x) * scale) := by
  rw [← scale_eq]
  open_payloads
  pointwise

/-- A head's normalised output from stored scores. -/
theorem finish_ctx (s : Vec Ideal S1x256x256 .f32) (v : Vec Ideal S1x1x80x256 .bf16) (e : Fin 64) (r : Fin 256) :
    k0_pay25 s v (ix2 e r) = mean (fun j => s (ix3 0 j r)) (maxCtx fun j => s (ix3 0 j r))
      (fun j => v (ix4 0 0 ⟨e.val, by omega⟩ j)) (fun j => v (ix4 0 0 64 j)) := by
  open_payloads
  pointwise
  rfl

/-- One head's output from its blocks. -/
def headCtx (k : Vec Ideal S1x1x256x64 .bf16) (q : Vec Ideal S1x1x256x64 .f32) (v : Vec Ideal S1x1x80x256 .bf16)
    (e : Fin 64) (r : Fin 256) : EReal :=
  mean (fun j => ∑ x : Fin 64, k (ix4 0 0 j x) * (q (ix4 0 0 r x) * scale)) (maxCtx fun j => ∑ x : Fin 64, k (ix4 0 0 j x) * (q (ix4 0 0 r x) * scale))
    (fun j => v (ix4 0 0 ⟨e.val, by omega⟩ j)) (fun j => v (ix4 0 0 64 j))

/-- Two heads side by side, as they are stored. -/
theorem pair_ctx (k k' : Vec Ideal S1x1x256x64 .bf16) (q q' : Vec Ideal S1x1x256x64 .f32) (v v' : Vec Ideal S1x1x80x256 .bf16)
    (y : S1x256x128.Idx) :
    k0_pay1 (k0_pay25 (k0_pay3 k q) v) (k0_pay3 k' q') v' y
      = if h : (y 2).val < 64 then headCtx k q v ⟨(y 2).val, h⟩ (y 1)
        else headCtx k' q' v' ⟨(y 2).val - 64, by have := (y 2).isLt; show _ < 64; have : (y 2).val < 128 := (y 2).isLt; omega⟩ (y 1) := by
  have e : ∀ (o : FVec Ideal S64x256 .f32) (s : Vec Ideal S1x256x256 .f32) (v : Vec Ideal S1x1x80x256 .bf16),
      k0_pay1 o s v y = (shapeCast S1x256x128 (truncf .bf16 (transpose S256x128 [1, 0] (concatenate S128x256 0
        [⟨S64x256, o⟩, ⟨S64x256, k0_pay25 s v⟩] concatenates_S64x256_S64x256_S128x256_d0)
        transposes_S128x256_p1_0_S256x128) bitsLt_bf16_f32) shapeCasts_S256x128_S1x256x128 : FVec Ideal S1x256x128 .bf16) y :=
    fun _ _ _ => rfl
  have f : ∀ (k : Vec Ideal S1x1x256x64 .bf16) (q : Vec Ideal S1x1x256x64 .f32) (v : Vec Ideal S1x1x80x256 .bf16)
      (e : Fin 64) (r : Fin 256), k0_pay25 (k0_pay3 k q) v (ix2 e r) = headCtx k q v e r := by
    intro k q v e r
    rw [finish_ctx]
    simp only [score_ctx]
    rfl
  rw [e]
  have f1 := f k q v
  have f2 := f k' q' v'
  revert f1 f2
  generalize k0_pay25 (k0_pay3 k q) v = o
  generalize k0_pay25 (k0_pay3 k' q') v' = o'
  intro f1 f2
  pointwise
  split_ifs <;> first | exact f1 _ _ | exact f2 _ _ | (exfalso; exact absurd rfl ‹_›)

/-- Head `h` at value row `e` and query `r` of the point's blocks, against the context keys. -/
def rowCtx (q : Vec Ideal S1x8x256x64 .f32) (k : Vec Ideal S1x2x2304x64 .bf16) (v : Vec Ideal S1x2x80x2304 .bf16)
    (h : Fin 8) (e : Fin 64) (r : Fin 256) : EReal :=
  mean (fun j : Fin 256 => ∑ x : Fin 64, k (ix4 0 ⟨h.val / 4, by omega⟩ ⟨j.val, by omega⟩ x) * (q (ix4 0 h r x) * scale))
    (maxCtx fun j : Fin 256 => ∑ x : Fin 64, k (ix4 0 ⟨h.val / 4, by omega⟩ ⟨j.val, by omega⟩ x) * (q (ix4 0 h r x) * scale))
    (fun j : Fin 256 => v (ix4 0 ⟨h.val / 4, by omega⟩ ⟨e.val, by omega⟩ ⟨j.val, by omega⟩)) (fun j : Fin 256 => v (ix4 0 ⟨h.val / 4, by omega⟩ 64 ⟨j.val, by omega⟩))

theorem headCtx_eq (q : Vec Ideal S1x8x256x64 .f32) (k : Vec Ideal S1x2x2304x64 .bf16) (v : Vec Ideal S1x2x80x2304 .bf16)
    (h : Fin 8) (k' : Vec Ideal S1x1x256x64 .bf16) (q' : Vec Ideal S1x1x256x64 .f32) (v' : Vec Ideal S1x1x80x256 .bf16)
    (hk : ∀ j x, k' (ix4 0 0 j x) = k (ix4 0 ⟨h.val / 4, by omega⟩ ⟨j.val, by omega⟩ x)) (hq : ∀ r x, q' (ix4 0 0 r x) = q (ix4 0 h r x))
    (hv : ∀ e j, v' (ix4 0 0 e j) = v (ix4 0 ⟨h.val / 4, by omega⟩ e ⟨j.val, by omega⟩)) (e : Fin 64) (r : Fin 256) :
    headCtx k' q' v' e r = rowCtx q k v h e r := by
  unfold headCtx rowCtx
  simp only [hk, hq, hv]

/-- A stored pair, from the point's blocks. -/
theorem piece_ctx (q : Vec Ideal S1x8x256x64 .f32) (k : Vec Ideal S1x2x2304x64 .bf16) (v : Vec Ideal S1x2x80x2304 .bf16)
    (h h' : Fin 8) (k1 k2 : Vec Ideal S1x1x256x64 .bf16) (q1 q2 : Vec Ideal S1x1x256x64 .f32) (v1 v2 : Vec Ideal S1x1x80x256 .bf16)
    (hk : ∀ j x, k1 (ix4 0 0 j x) = k (ix4 0 ⟨h.val / 4, by omega⟩ ⟨j.val, by omega⟩ x)) (hq : ∀ r x, q1 (ix4 0 0 r x) = q (ix4 0 h r x))
    (hv : ∀ e j, v1 (ix4 0 0 e j) = v (ix4 0 ⟨h.val / 4, by omega⟩ e ⟨j.val, by omega⟩))
    (hk' : ∀ j x, k2 (ix4 0 0 j x) = k (ix4 0 ⟨h'.val / 4, by omega⟩ ⟨j.val, by omega⟩ x)) (hq' : ∀ r x, q2 (ix4 0 0 r x) = q (ix4 0 h' r x))
    (hv' : ∀ e j, v2 (ix4 0 0 e j) = v (ix4 0 ⟨h'.val / 4, by omega⟩ e ⟨j.val, by omega⟩))
    (x : S1x256x128.Idx) (H : Fin 8) (e : Fin 64) (r : Fin 256) (hr : r.val = (x 1).val)
    (he : H.val * 64 + e.val = h.val * 64 + (x 2).val) (hh : h'.val = h.val + 1) :
    k0_pay1 (k0_pay25 (k0_pay3 k1 q1) v1) (k0_pay3 k2 q2) v2 x = rowCtx q k v H e r := by
  have hx : (x 2).val < 128 := (x 2).isLt
  obtain rfl : r = x 1 := Fin.ext hr
  refine (pair_ctx _ _ _ _ _ _ x).trans ?_
  split_ifs with c
  · refine (headCtx_eq q k v h k1 q1 v1 hk hq hv _ _).trans ?_
    obtain rfl : H = h := Fin.ext (by omega)
    congr 1
    exact Fin.ext (by show (x 2).val = e.val; omega)
  · refine (headCtx_eq q k v h' k2 q2 v2 hk' hq' hv' _ _).trans ?_
    obtain rfl : H = h' := Fin.ext (by omega)
    congr 1
    exact Fin.ext (by show (x 2).val - 64 = e.val; omega)

/-- What a batch's first point stores: each head's rows, against the context keys. -/
theorem tile_ctx (c : Dev nD) (t : Fin cfg0.N) (h0 : t.val % 9 = 0) (h1 : ¬1 ≤ t.val % 9) (y : S1x256x512.Idx) :
    outsAt0 m c t.val t.isLt y = rowCtx (iblk m c 0 t) (iblk m c 1 t) (iblk m c 2 t)
      ⟨(y 2).val / 64, by have : (y 2).val < 512 := (y 2).isLt; omega⟩ ⟨(y 2).val % 64, Nat.mod_lt _ (by decide)⟩ (y 1) := by
  rw [outsAt0_A m c t h0 h1]
  frame_open
  simp (disch := decide) only [↓ View.readCov_skip, ↓ View.readCov_cons_toLoadRect, ↓ View.readCov_fill]
  frame_out
  canon_tiles x h
  · refine piece_ctx _ _ _ 6 7 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_ctx _ _ _ 4 5 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_ctx _ _ _ 2 3 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_ctx _ _ _ 0 1 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm

/-! ## The blocks in the arguments -/

theorem idx : ∀ t : Fin cfg0.N, win0_0.index t = ![(grid0.coords t 0).val, 0, (grid0.coords t 1).val, 0]
    ∧ win0_1.index t = ![(grid0.coords t 0).val, 0, 0, 0] ∧ win0_2.index t = ![(grid0.coords t 0).val, 0, 0, 0]
    ∧ win0_3.index t = ![(grid0.coords t 0).val, (grid0.coords t 1).val, 0] ∧ (grid0.coords t 1).val = t.val % 9 := by
  intro t
  revert t
  show ∀ t : Fin grid0.N, _
  decide +kernel

/-- A query's element. -/
theorem blk0 (c : Dev nD) (t : Fin cfg0.N) (h : Fin 8) (r : Fin 256) (x : Fin 64) (b : Fin 4) (s : Fin 2304)
    (hb : b.val = (grid0.coords t 0).val) (hs : s.val = (grid0.coords t 1).val * 256 + r.val) :
    iblk m c 0 t (ix4 0 h r x) = m ((c : Thread nD τ).loc main_arg0) (ix4 b s h x) := by
  have e := (idx t).1
  blk_simp [iblk, V]
  entry_read
  pointwise
  blk_ext [e]

/-- A key's element. -/
theorem blk1 (c : Dev nD) (t : Fin cfg0.N) (g : Fin 2) (j : Fin 2304) (x : Fin 64) (b : Fin 4)
    (hb : b.val = (grid0.coords t 0).val) :
    iblk m c 1 t (ix4 0 g j x) = m ((c : Thread nD τ).loc main_arg1) (ix4 b j g x) := by
  have e := (idx t).2.1
  blk_simp [iblk, V]
  entry_read
  pointwise
  blk_ext [e]

/-- The values, transposed, over their row of ones. -/
theorem vals (c : Dev nD) (i : S4x2x80x2304.Idx) (h : (i 2).val < 64) :
    (V m c main_v8 : Vec Ideal S4x2x80x2304 .bf16) i = m ((c : Thread nD τ).loc main_arg2) (ix4 (i 0) (i 3) (i 1) ⟨(i 2).val, h⟩) := by
  entry_read
  pointwise
  rw [dif_pos h]

theorem vals_one (c : Dev nD) (i : S4x2x80x2304.Idx) (h : (i 2).val = 64) :
    (V m c main_v8 : Vec Ideal S4x2x80x2304 .bf16) i = (1 : EReal) := by
  entry_read
  pointwise
  rw [dif_neg (by omega), dif_pos (by omega)]

/-- A value's element. -/
theorem blk2 (c : Dev nD) (t : Fin cfg0.N) (g : Fin 2) (j : Fin 2304) (e : Fin 64) (b : Fin 4)
    (hb : b.val = (grid0.coords t 0).val) :
    iblk m c 2 t (ix4 0 g ⟨e.val, by omega⟩ j) = m ((c : Thread nD τ).loc main_arg2) (ix4 b j g e) := by
  have e' := (idx t).2.2.1
  blk_simp [iblk]
  refine (vals m c _ ?_).trans ?_
  · blk_simp [e']
    exact e.isLt
  · blk_ext [e']

/-- The row of ones under the values. -/
theorem blk2_one (c : Dev nD) (t : Fin cfg0.N) (g : Fin 2) (j : Fin 2304) :
    iblk m c 2 t (ix4 0 g 64 j) = (1 : EReal) := by
  have e' := (idx t).2.2.1
  blk_simp [iblk]
  refine vals_one m c _ ?_
  blk_simp [e']
  rfl

/-! ## The array after the run -/

/-- The attention's rows as the kernel leaves them: a context query reads the context keys, a latent query all. -/
def rows (q : Vec Ideal S4x2304x8x64 .f32) (k v : Vec Ideal S4x2304x2x64 .f32) (b : Fin 4) (s : Fin 2304) (h : Fin 8) (e : Fin 64) :
    EReal :=
  if s.val < 256 then
    mean (fun j : Fin 256 => ∑ x : Fin 64, k (ix4 b ⟨j.val, by omega⟩ ⟨h.val / 4, by omega⟩ x) * (q (ix4 b s h x) * scale))
      (maxCtx fun j : Fin 256 => ∑ x : Fin 64, k (ix4 b ⟨j.val, by omega⟩ ⟨h.val / 4, by omega⟩ x) * (q (ix4 b s h x) * scale))
      (fun j : Fin 256 => v (ix4 b ⟨j.val, by omega⟩ ⟨h.val / 4, by omega⟩ e)) (fun _ => 1)
  else
    mean (fun j : Fin 2304 => ∑ x : Fin 64, k (ix4 b j ⟨h.val / 4, by omega⟩ x) * (q (ix4 b s h x) * scale))
      (maxAll fun j : Fin 2304 => ∑ x : Fin 64, k (ix4 b j ⟨h.val / 4, by omega⟩ x) * (q (ix4 b s h x) * scale))
      (fun j : Fin 2304 => v (ix4 b j ⟨h.val / 4, by omega⟩ e)) (fun _ => 1)

/-- Each head's rows at its 64 columns. -/
def out (q : Vec Ideal S4x2304x8x64 .f32) (k v : Vec Ideal S4x2304x2x64 .f32) : Vec Ideal S4x2304x512 .bf16 := fun y =>
  rows q k v (y 0) (y 1) ⟨(y 2).val / 64, by have : (y 2).val < 512 := (y 2).isLt; omega⟩ ⟨(y 2).val % 64, Nat.mod_lt _ (by decide)⟩

/-- The result array after the run: each head's rows at its 64 columns. -/
theorem final (c : Dev nD) : (dats m 0 c).arrAt 3 cfg0.N =
    out (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3, e4⟩ := idx t
  have hg0 : (grid0.coords t 0).val < 4 := (grid0.coords t 0).isLt
  have hy1 : (y 1).val < 256 := (y 1).isLt
  have hy2 : (y 2).val < 512 := (y 2).isLt
  blk_simp
  rw [after0_3]
  generalize hj : ((View.whole main_v9).slice (win0_3.rect t)).emb y = j
  have hj0 : (j 0).val = (grid0.coords t 0).val := by subst hj; blk_simp [e3]
  have hj1 : (j 1).val = (grid0.coords t 1).val * 256 + (y 1).val := by subst hj; blk_simp [e3]
  have hj2 : (j 2).val = (y 2).val := by subst hj; blk_simp [e3]
  unfold out rows
  dsimp only
  by_cases h0 : t.val % 9 = 0
  · rw [if_pos (by omega)]
    refine (tile_ctx m c t h0 (by omega) y).trans ?_
    unfold rowCtx
    simp only [blk1 m c t _ _ _ (j 0) hj0, blk0 m c t _ _ _ (j 0) (j 1) hj0 hj1, blk2_one m c t, hj2]
    congr 1
    exact funext fun _ => blk2 m c t _ _ ⟨(y 2).val % 64, Nat.mod_lt _ (by decide)⟩ (j 0) hj0
  · rw [if_neg (by omega)]
    refine (tile_all m c t h0 (by omega) y).trans ?_
    unfold rowAll
    simp only [blk1 m c t _ _ _ (j 0) hj0, blk0 m c t _ _ _ (j 0) (j 1) hj0 hj1, blk2_one m c t, hj2]
    congr 1
    exact funext fun _ => blk2 m c t _ _ ⟨(y 2).val % 64, Nat.mod_lt _ (by decide)⟩ (j 0) hj0

end Cert.KernelIdeal.Attention

end
-- ==== Proof.GqaRefCtx.lean ====
module

public import proofs.«01_k».proof.Proof.Gen.ReferenceIdeal.Read
public import proofs.«01_k».proof.Proof.Softmax

/-!
The grouped-query attention reference's context queries: their scores, their weights and their rows, each read at an index.
-/

@[expose] public section

set_option maxRecDepth 16384

noncomputable section

namespace Cert.ReferenceIdeal.Attention

open Cert.ReferenceIdeal Cert.ReferenceIdeal.Read Idealize.ShloMosaic Idealize.ShloMosaic.TcCoe Idealize.SL.Sem Cert.Softmax

variable (q : (⟨S4x2304x8x64, .f32⟩ : BufTy).Contents (Elt Ideal)) (k : (⟨S4x2304x2x64, .f32⟩ : BufTy).Contents (Elt Ideal))
  (v : (⟨S4x2304x2x64, .f32⟩ : BufTy).Contents (Elt Ideal))

/-- A context query's score against a key. -/
theorem refScore_ctx (b : Fin 4) (g : Fin 2) (r : Fin 4) (s : Fin 256) (j : Fin 256) :
    val_main_v7 (F := Ideal) q k (ix5 b g r s j)
      = (∑ x : Fin 64, k (ix4 b ⟨j.val, by omega⟩ g x) * q (ix4 b ⟨s.val, by omega⟩ ⟨g.val * 4 + r.val, by omega⟩ x)) * Ideal.ofBits .f32 0x3E000000#32 := by
  simp only [val_main_v7, val_main_v5, val_main_v4, val_main_v3, val_main_v1, val_main_v0, val_main_v6, val_main_cst]
  pointwise

/-- The fold of the maximum over a context query's scores. -/
theorem fold_ctx (b : Fin 4) (g : Fin 2) (r : Fin 4) (i : Fin 256) :
    val_main_v8 (F := Ideal) q k (ix4 b g r i)
      = Finset.univ.fold max (Ideal.ofBits .f32 0xFF800000#32) fun j => val_main_v7 (F := Ideal) q k (ix5 b g r i j) := by
  rw [val_main_v8]
  generalize val_main_v7 (F := Ideal) q k = s
  exact reduce_max s _ _ (by decide) _ b g r i

/-- The maximum taken from a context query's scores. -/
theorem top_ctx (b : Fin 4) (g : Fin 2) (r : Fin 4) (s : Fin 256) (j : Fin 256) :
    val_main_v12 (F := Ideal) q k (ix5 b g r s j)
      = max (Ideal.ofBits .f32 0xFF800000#32)
          (Finset.univ.fold max (Ideal.ofBits .f32 0xFF800000#32) fun j => val_main_v7 (F := Ideal) q k (ix5 b g r s j)) := by
  rw [← fold_ctx, val_main_v12_apply, val_main_v11_apply]
  have e : idx_main_v11 (idx_main_v12 (ix5 b g r s j)) = ix4 b g r s := by
    funext i
    apply Fin.ext
    fin_cases i <;> rfl
  rw [e, val_main_v10_apply, val_main_v9_apply]
  generalize val_main_v8 (F := Ideal) q k = w
  rfl

/-- The exponential of a context query's score less the maximum. -/
theorem exp_ctx (b : Fin 4) (g : Fin 2) (r : Fin 4) (s : Fin 256) (j : Fin 256) :
    val_main_v14 (F := Ideal) q k (ix5 b g r s j)
      = Ideal.exp (val_main_v7 (F := Ideal) q k (ix5 b g r s j) - max (Ideal.ofBits .f32 0xFF800000#32)
          (Finset.univ.fold max (Ideal.ofBits .f32 0xFF800000#32) fun j => val_main_v7 (F := Ideal) q k (ix5 b g r s j))) := by
  rw [val_main_v14_apply, val_main_v13_apply, top_ctx]
  generalize val_main_v7 (F := Ideal) q k = w
  rfl

/-- The sum of a context query's exponentials. -/
theorem sum_ctx (b : Fin 4) (g : Fin 2) (r : Fin 4) (s : Fin 256) (j : Fin 256) :
    val_main_v17 (F := Ideal) q k (ix5 b g r s j) = ∑ j, val_main_v14 (F := Ideal) q k (ix5 b g r s j) := by
  simp only [val_main_v17, val_main_v16, val_main_v15]
  generalize val_main_v14 (F := Ideal) q k = s
  simp only [val_main_cst_2]
  pointwise

/-- A context query's weight on a key. -/
theorem weight_ctx (b : Fin 4) (g : Fin 2) (r : Fin 4) (s : Fin 256) (j : Fin 256) :
    val_main_v18 (F := Ideal) q k (ix5 b g r s j)
      = weight (fun j => val_main_v7 (F := Ideal) q k (ix5 b g r s j)) j := by
  rw [val_main_v18_apply, sum_ctx]
  simp only [exp_ctx]
  generalize val_main_v7 (F := Ideal) q k = w
  rfl

/-- A context row, from its weights. -/
theorem row_ctx (b : Fin 4) (s : Fin 256) (c : Fin 512) (g : Fin 2) (r : Fin 4) (e : Fin 64)
    (hg : c.val = (g.val * 4 + r.val) * 64 + e.val) :
    val_main_v21 (F := Ideal) q k v (ix3 b s c)
      = ∑ j : Fin 256, v (ix4 b ⟨j.val, by omega⟩ g e) * val_main_v18 (F := Ideal) q k (ix5 b g r s j) := by
  simp only [val_main_v21, val_main_v20, val_main_v19, val_main_v2]
  generalize val_main_v18 (F := Ideal) q k = w
  pointwise
  refine Finset.sum_congr rfl fun j _ => ?_
  congr 2 <;> congr 1 <;> first | rfl | exact Fin.ext (by omega) | exact Fin.ext (by dsimp only; omega)

end Cert.ReferenceIdeal.Attention

end
-- ==== Proof.GqaRefLat.lean ====
module

public import proofs.«01_k».proof.Proof.Gen.ReferenceIdeal.Read
public import proofs.«01_k».proof.Proof.Softmax

/-!
The grouped-query attention reference's latent queries: their scores, their weights and their rows, each read at an index.
-/

@[expose] public section

set_option maxRecDepth 16384

noncomputable section

namespace Cert.ReferenceIdeal.Attention

open Cert.ReferenceIdeal Cert.ReferenceIdeal.Read Idealize.ShloMosaic Idealize.ShloMosaic.TcCoe Idealize.SL.Sem Cert.Softmax

variable (q : (⟨S4x2304x8x64, .f32⟩ : BufTy).Contents (Elt Ideal)) (k : (⟨S4x2304x2x64, .f32⟩ : BufTy).Contents (Elt Ideal))
  (v : (⟨S4x2304x2x64, .f32⟩ : BufTy).Contents (Elt Ideal))

/-- A latent query's score against a key. -/
theorem refScore_lat (b : Fin 4) (g : Fin 2) (r : Fin 4) (s : Fin 2048) (j : Fin 2304) :
    val_main_v27 (F := Ideal) q k (ix5 b g r s j)
      = (∑ x : Fin 64, k (ix4 b j g x) * q (ix4 b ⟨256 + s.val, by omega⟩ ⟨g.val * 4 + r.val, by omega⟩ x)) * Ideal.ofBits .f32 0x3E000000#32 := by
  simp only [val_main_v27, val_main_v25, val_main_v24, val_main_v23, val_main_v22, val_main_v26, val_main_cst_3]
  pointwise

/-- The fold of the maximum over a latent query's scores. -/
theorem fold_lat (b : Fin 4) (g : Fin 2) (r : Fin 4) (i : Fin 2048) :
    val_main_v28 (F := Ideal) q k (ix4 b g r i)
      = Finset.univ.fold max (Ideal.ofBits .f32 0xFF800000#32) fun j => val_main_v27 (F := Ideal) q k (ix5 b g r i j) := by
  rw [val_main_v28]
  generalize val_main_v27 (F := Ideal) q k = s
  exact reduce_max s _ _ (by decide) _ b g r i

/-- The maximum taken from a latent query's scores. -/
theorem top_lat (b : Fin 4) (g : Fin 2) (r : Fin 4) (s : Fin 2048) (j : Fin 2304) :
    val_main_v32 (F := Ideal) q k (ix5 b g r s j)
      = max (Ideal.ofBits .f32 0xFF800000#32)
          (Finset.univ.fold max (Ideal.ofBits .f32 0xFF800000#32) fun j => val_main_v27 (F := Ideal) q k (ix5 b g r s j)) := by
  rw [← fold_lat, val_main_v32_apply, val_main_v31_apply]
  have e : idx_main_v31 (idx_main_v32 (ix5 b g r s j)) = ix4 b g r s := by
    funext i
    apply Fin.ext
    fin_cases i <;> rfl
  rw [e, val_main_v30_apply, val_main_v29_apply]
  generalize val_main_v28 (F := Ideal) q k = w
  rfl

/-- The exponential of a latent query's score less the maximum. -/
theorem exp_lat (b : Fin 4) (g : Fin 2) (r : Fin 4) (s : Fin 2048) (j : Fin 2304) :
    val_main_v34 (F := Ideal) q k (ix5 b g r s j)
      = Ideal.exp (val_main_v27 (F := Ideal) q k (ix5 b g r s j) - max (Ideal.ofBits .f32 0xFF800000#32)
          (Finset.univ.fold max (Ideal.ofBits .f32 0xFF800000#32) fun j => val_main_v27 (F := Ideal) q k (ix5 b g r s j))) := by
  rw [val_main_v34_apply, val_main_v33_apply, top_lat]
  generalize val_main_v27 (F := Ideal) q k = w
  rfl

/-- The sum of a latent query's exponentials. -/
theorem sum_lat (b : Fin 4) (g : Fin 2) (r : Fin 4) (s : Fin 2048) (j : Fin 2304) :
    val_main_v37 (F := Ideal) q k (ix5 b g r s j) = ∑ j, val_main_v34 (F := Ideal) q k (ix5 b g r s j) := by
  simp only [val_main_v37, val_main_v36, val_main_v35]
  generalize val_main_v34 (F := Ideal) q k = s
  simp only [val_main_cst_6]
  pointwise

/-- A latent query's weight on a key. -/
theorem weight_lat (b : Fin 4) (g : Fin 2) (r : Fin 4) (s : Fin 2048) (j : Fin 2304) :
    val_main_v38 (F := Ideal) q k (ix5 b g r s j)
      = weight (fun j => val_main_v27 (F := Ideal) q k (ix5 b g r s j)) j := by
  rw [val_main_v38_apply, sum_lat]
  simp only [exp_lat]
  generalize val_main_v27 (F := Ideal) q k = w
  rfl

/-- A latent row, from its weights. -/
theorem row_lat (b : Fin 4) (s : Fin 2048) (c : Fin 512) (g : Fin 2) (r : Fin 4) (e : Fin 64)
    (hg : c.val = (g.val * 4 + r.val) * 64 + e.val) :
    val_main_v41 (F := Ideal) q k v (ix3 b s c)
      = ∑ j : Fin 2304, v (ix4 b j g e) * val_main_v38 (F := Ideal) q k (ix5 b g r s j) := by
  simp only [val_main_v41, val_main_v40, val_main_v39]
  generalize val_main_v38 (F := Ideal) q k = w
  pointwise
  refine Finset.sum_congr rfl fun j _ => ?_
  congr 2 <;> congr 1 <;> first | rfl | exact Fin.ext (by omega) | exact Fin.ext (by dsimp only; omega)

end Cert.ReferenceIdeal.Attention

end
-- ==== Proof.GqaEq.lean ====
module

public import proofs.«01_k».proof.Defs
public import proofs.«01_k».proof.Proof.Finite
public import proofs.«01_k».proof.Proof.Gqa
public import proofs.«01_k».proof.Proof.GqaRefCtx
public import proofs.«01_k».proof.Proof.GqaRefLat

/-!
Grouped-query attention: where queries and keys are finite, the kernel's rows are its reference's.
-/

@[expose] public section

set_option maxRecDepth 16384

noncomputable section

namespace Cert.KernelIdeal.Attention

open Cert.KernelIdeal Idealize.ShloMosaic Idealize.ShloMosaic.TcCoe Idealize.SL.Sem Cert.Softmax

variable (q : Vec Ideal S4x2304x8x64 .f32) (k : Vec Ideal S4x2304x2x64 .f32) (v : Vec Ideal S4x2304x2x64 .f32)

/-- The reference's factor is the rational number its bit pattern stands for. -/
theorem factor_eq : Ideal.ofBits .f32 0x3E000000#32 = ((1 / 8 : ℝ) : EReal) := by
  simp [Ideal.ofBits, Ideal.ieee]
  rw [← EReal.coe_mul]
  norm_num

/-- A score in the reference's scale, and the same in the kernel's. -/
theorem score_real (hq : ∀ i, IsReal (q i)) (hk : ∀ i, IsReal (k i)) (b : Fin 4) (s j : Fin 2304) (h : Fin 8) (g : Fin 2) :
    ∃ r : ℝ, (∑ x : Fin 64, k (ix4 b j g x) * q (ix4 b s h x)) * Ideal.ofBits .f32 0x3E000000#32 = (r : EReal)
      ∧ (∑ x : Fin 64, k (ix4 b j g x) * (q (ix4 b s h x) * scale)) = ((r / Real.log 2 : ℝ) : EReal) := by
  rw [factor_eq]
  exact score_pair _ _ (fun x => hk _) (fun x => hq _) (1 / 8) _ (by field_simp)

/-- A context query's row: the kernel's weighted mean is the softmax's. -/
theorem mean_ctx (hq : ∀ i, IsReal (q i)) (hk : ∀ i, IsReal (k i)) (b : Fin 4) (s : Fin 2304) (h : Fin 8) (g : Fin 2) (e : Fin 64) :
    mean (fun j : Fin 256 => ∑ x : Fin 64, k (ix4 b ⟨j.val, by omega⟩ g x) * (q (ix4 b s h x) * scale))
      (maxCtx fun j : Fin 256 => ∑ x : Fin 64, k (ix4 b ⟨j.val, by omega⟩ g x) * (q (ix4 b s h x) * scale))
      (fun j : Fin 256 => v (ix4 b ⟨j.val, by omega⟩ g e)) (fun _ => 1)
    = ∑ j : Fin 256, v (ix4 b ⟨j.val, by omega⟩ g e) * weight (fun j : Fin 256 =>
        (∑ x : Fin 64, k (ix4 b ⟨j.val, by omega⟩ g x) * q (ix4 b s h x)) * Ideal.ofBits .f32 0x3E000000#32) j :=
  mean_weight _ _ _ _ _ (maxCtx_isReal _ fun j => (score_real q k hq hk b s ⟨j.val, by omega⟩ h g).elim fun _ h => ⟨_, h.2⟩)
    (fun j => score_real q k hq hk b s ⟨j.val, by omega⟩ h g) fun _ => rfl

/-- A latent query's row. -/
theorem mean_lat (hq : ∀ i, IsReal (q i)) (hk : ∀ i, IsReal (k i)) (b : Fin 4) (s : Fin 2304) (h : Fin 8) (g : Fin 2) (e : Fin 64) :
    mean (fun j : Fin 2304 => ∑ x : Fin 64, k (ix4 b j g x) * (q (ix4 b s h x) * scale))
      (maxAll fun j : Fin 2304 => ∑ x : Fin 64, k (ix4 b j g x) * (q (ix4 b s h x) * scale))
      (fun j : Fin 2304 => v (ix4 b j g e)) (fun _ => 1)
    = ∑ j : Fin 2304, v (ix4 b j g e) * weight (fun j : Fin 2304 =>
        (∑ x : Fin 64, k (ix4 b j g x) * q (ix4 b s h x)) * Ideal.ofBits .f32 0x3E000000#32) j :=
  mean_weight _ _ _ _ _ (maxAll_isReal _ fun j => (score_real q k hq hk b s j h g).elim fun _ h => ⟨_, h.2⟩)
    (fun j => score_real q k hq hk b s j h g) fun _ => rfl

open Cert.ReferenceIdeal.Read Cert.ReferenceIdeal.Attention in
/-- The reference's context rows come first. -/
theorem joined_ctx (y : S4x2304x512.Idx) (hs : (y 1).val < 256) :
    val_main_v43 (F := Ideal) q k v y = val_main_v21 (F := Ideal) q k v (ix3 (y 0) ⟨(y 1).val, hs⟩ (y 2)) := by
  simp only [val_main_v43, val_main_v42]
  generalize val_main_v21 (F := Ideal) q k v = a
  generalize val_main_v41 (F := Ideal) q k v = b
  pointwise
  rw [dif_pos hs]

open Cert.ReferenceIdeal.Read Cert.ReferenceIdeal.Attention in
/-- The reference's latent rows follow. -/
theorem joined_lat (y : S4x2304x512.Idx) (hs : ¬ (y 1).val < 256) :
    val_main_v43 (F := Ideal) q k v y = val_main_v41 (F := Ideal) q k v
      (ix3 (y 0) ⟨(y 1).val - 256, by have : (y 1).val < 2304 := (y 1).isLt; omega⟩ (y 2)) := by
  simp only [val_main_v43, val_main_v42]
  generalize val_main_v21 (F := Ideal) q k v = a
  generalize val_main_v41 (F := Ideal) q k v = b
  pointwise
  rw [dif_neg hs]

open Cert.ReferenceIdeal.Read Cert.ReferenceIdeal.Attention in
/-- A context query's row in the reference, head by head. -/
theorem ref_ctx (b : Fin 4) (s : Fin 256) (c : Fin 512) :
    val_main_v21 (F := Ideal) q k v (ix3 b s c)
      = ∑ j : Fin 256, v (ix4 b ⟨j.val, by omega⟩ ⟨c.val / 64 / 4, by omega⟩ ⟨c.val % 64, by omega⟩) * weight (fun j : Fin 256 =>
        (∑ x : Fin 64, k (ix4 b ⟨j.val, by omega⟩ ⟨c.val / 64 / 4, by omega⟩ x) * q (ix4 b ⟨s.val, by omega⟩ ⟨c.val / 64, by omega⟩ x)) * Ideal.ofBits .f32 0x3E000000#32) j := by
  have hd : (⟨c.val / 64 / 4 * 4 + c.val / 64 % 4, by omega⟩ : Fin 8) = ⟨c.val / 64, by omega⟩ := Fin.ext (by dsimp only; omega)
  rw [row_ctx q k v b s c ⟨c.val / 64 / 4, by omega⟩ ⟨c.val / 64 % 4, by omega⟩ ⟨c.val % 64, by omega⟩ (by dsimp only; omega)]
  refine Finset.sum_congr rfl fun j _ => ?_
  rw [weight_ctx]
  refine congrArg (v _ * ·) (congrArg (weight · j) (funext fun j => ?_))
  rw [refScore_ctx, hd]

open Cert.ReferenceIdeal.Read Cert.ReferenceIdeal.Attention in
/-- A latent query's row in the reference, head by head. -/
theorem ref_lat (b : Fin 4) (s : Fin 2048) (c : Fin 512) :
    val_main_v41 (F := Ideal) q k v (ix3 b s c)
      = ∑ j : Fin 2304, v (ix4 b j ⟨c.val / 64 / 4, by omega⟩ ⟨c.val % 64, by omega⟩) * weight (fun j : Fin 2304 =>
        (∑ x : Fin 64, k (ix4 b j ⟨c.val / 64 / 4, by omega⟩ x) * q (ix4 b ⟨256 + s.val, by omega⟩ ⟨c.val / 64, by omega⟩ x)) * Ideal.ofBits .f32 0x3E000000#32) j := by
  have hd : (⟨c.val / 64 / 4 * 4 + c.val / 64 % 4, by omega⟩ : Fin 8) = ⟨c.val / 64, by omega⟩ := Fin.ext (by dsimp only; omega)
  rw [row_lat q k v b s c ⟨c.val / 64 / 4, by omega⟩ ⟨c.val / 64 % 4, by omega⟩ ⟨c.val % 64, by omega⟩ (by dsimp only; omega)]
  refine Finset.sum_congr rfl fun j _ => ?_
  rw [weight_lat]
  refine congrArg (v _ * ·) (congrArg (weight · j) (funext fun j => ?_))
  rw [refScore_lat, hd]

open Cert.ReferenceIdeal.Read in
/-- The kernel's rows are the reference's. -/
theorem equal (hq : ∀ i, IsReal (q i)) (hk : ∀ i, IsReal (k i)) : val_main_v43 (F := Ideal) q k v = out q k v := by
  funext y
  by_cases hs : (y 1).val < 256
  · refine (joined_ctx q k v y hs).trans ((ref_ctx q k v (y 0) ⟨(y 1).val, hs⟩ (y 2)).trans ?_)
    refine Eq.trans ?_ (if_pos hs).symm
    exact (mean_ctx q k v hq hk (y 0) (y 1) _ _ _).symm
  · refine (joined_lat q k v y hs).trans ((ref_lat q k v (y 0) _ (y 2)).trans ?_)
    refine Eq.trans ?_ (if_neg hs).symm
    have hi : (⟨256 + ((y 1).val - 256), by have : (y 1).val < 2304 := (y 1).isLt; omega⟩ : Fin 2304) = y 1 :=
      Fin.ext (by show 256 + ((y 1).val - 256) = (y 1).val; omega)
    rw [hi]
    exact (mean_lat q k v hq hk (y 0) (y 1) _ _ _).symm

end Cert.KernelIdeal.Attention

namespace Cert.Proof.AttentionClaims

open Idealize.ShloMosaic Idealize.SL.Sem

/-- Kernel and reference leave the same attention rows. -/
theorem algebraic_gqa :
    Cert.algebraic_KernelIdeal_ReferenceIdeal_pre_finite_qk (hPre_finite_qk := Cert.Finite.facts_gqa) := by
  intro m ρ m' ρ' hpre hagree
  refine ⟨fun c => (Cert.KernelIdeal.Gen.dats m 0 c).arrAt 3 Cert.KernelIdeal.cfg0.N, ?_, ?_⟩
  · exact Cert.KernelIdeal.Value.run_blocks (F := Ideal) m ρ
  · refine (θ_run Cert.ReferenceIdeal.defs _ _).mono (fun _ h c => ⟨(h c).1.trans ?_, (h c).2⟩)
      (Cert.ReferenceIdeal.Value.run (F := Ideal) m' ρ')
    refine Eq.trans ?_ (Cert.KernelIdeal.Attention.final m c).symm
    refine (Cert.ReferenceIdeal.Read.val_main_v43_eq (F := Ideal) m' c).trans ?_
    obtain ⟨h0, h1, h2⟩ := hagree c
    rw [h0, h1, h2]
    exact Cert.KernelIdeal.Attention.equal _ _ _ (fun i => Finite.real _ _ i (congrFun (hpre c).1 i))
      (fun i => Finite.real _ _ i (congrFun (hpre c).2 i))

end Cert.Proof.AttentionClaims

end
-- ==== Proof.Mla.lean ====
module

public import proofs.«01_k».proof.Defs
public import proofs.«01_k».proof.Proof.Gen.KernelMlaIdeal.Value
public import proofs.«01_k».proof.Proof.Softmax
public import Idealize.ShloMosaic.Lib.Pipeline.ReadBack

/-!
The latent attention call: what a grid point stores in its output block, as a function of the blocks of
queries, keys and transposed values that it reads.
-/

@[expose] public section

set_option maxRecDepth 16384

noncomputable section

namespace Cert.KernelMlaIdeal.Attention

open Cert.KernelMlaIdeal Cert.KernelMlaIdeal.Gen Idealize.ShloMosaic Idealize.ShloMosaic.TcCoe Idealize.SL.Sem Cert.Softmax

variable (m : (ℓ : Loc nD τ sig) → Buf (Elt Ideal) ℓ)

/-- The scale of the queries, times log2 e. -/
def scale : EReal := (((3424635 / 33554432) * (Real.log 2)⁻¹ : ℝ) : EReal)

/-- The named constant of the kernel's text is the scale. -/
theorem scale_eq : (Named.named (F := Ideal) κ "mla_scale_log2e" 0x3E16C740#32 : Ideal .f32) = scale :=
  IdealRules.named_const.ideal_named_scalar _ _ _ _ rfl

/-! ## All keys -/

/-- A head's scores against all keys. -/
theorem score_all (k : Vec Ideal S1x1x2304x128 .bf16) (q : Vec Ideal S1x1x256x128 .f32) (j : Fin 2304) (r : Fin 256) :
    k0_pay26 k q (ix3 0 j r) = ∑ x : Fin 128, k (ix4 0 0 j x) * (q (ix4 0 0 r x) * scale) := by
  rw [← scale_eq]
  open_payloads
  pointwise

/-- A head's normalised output from stored scores. -/
theorem finish_all (s : Vec Ideal S1x2304x256 .f32) (v : Vec Ideal S1x1x80x2304 .bf16) (e : Fin 64) (r : Fin 256) :
    k0_pay48 s v (ix2 e r) = mean (fun j => s (ix3 0 j r)) (maxAll fun j => s (ix3 0 j r))
      (fun j => v (ix4 0 0 ⟨e.val, by omega⟩ j)) (fun j => v (ix4 0 0 64 j)) := by
  open_payloads
  pointwise
  rfl

/-- One head's output from its blocks. -/
def headAll (k : Vec Ideal S1x1x2304x128 .bf16) (q : Vec Ideal S1x1x256x128 .f32) (v : Vec Ideal S1x1x80x2304 .bf16)
    (e : Fin 64) (r : Fin 256) : EReal :=
  mean (fun j => ∑ x : Fin 128, k (ix4 0 0 j x) * (q (ix4 0 0 r x) * scale)) (maxAll fun j => ∑ x : Fin 128, k (ix4 0 0 j x) * (q (ix4 0 0 r x) * scale))
    (fun j => v (ix4 0 0 ⟨e.val, by omega⟩ j)) (fun j => v (ix4 0 0 64 j))

/-- Two heads side by side, as they are stored. -/
theorem pair_all (k k' : Vec Ideal S1x1x2304x128 .bf16) (q q' : Vec Ideal S1x1x256x128 .f32) (v v' : Vec Ideal S1x1x80x2304 .bf16)
    (y : S1x256x128.Idx) :
    k0_pay2 (k0_pay48 (k0_pay26 k q) v) (k0_pay26 k' q') v' y
      = if h : (y 2).val < 64 then headAll k q v ⟨(y 2).val, h⟩ (y 1)
        else headAll k' q' v' ⟨(y 2).val - 64, by have := (y 2).isLt; show _ < 64; have : (y 2).val < 128 := (y 2).isLt; omega⟩ (y 1) := by
  have e : ∀ (o : FVec Ideal S64x256 .f32) (s : Vec Ideal S1x2304x256 .f32) (v : Vec Ideal S1x1x80x2304 .bf16),
      k0_pay2 o s v y = (shapeCast S1x256x128 (truncf .bf16 (transpose S256x128 [1, 0] (concatenate S128x256 0
        [⟨S64x256, o⟩, ⟨S64x256, k0_pay48 s v⟩] concatenates_S64x256_S64x256_S128x256_d0)
        transposes_S128x256_p1_0_S256x128) bitsLt_bf16_f32) shapeCasts_S256x128_S1x256x128 : FVec Ideal S1x256x128 .bf16) y :=
    fun _ _ _ => rfl
  have f : ∀ (k : Vec Ideal S1x1x2304x128 .bf16) (q : Vec Ideal S1x1x256x128 .f32) (v : Vec Ideal S1x1x80x2304 .bf16)
      (e : Fin 64) (r : Fin 256), k0_pay48 (k0_pay26 k q) v (ix2 e r) = headAll k q v e r := by
    intro k q v e r
    rw [finish_all]
    simp only [score_all]
    rfl
  rw [e]
  have f1 := f k q v
  have f2 := f k' q' v'
  revert f1 f2
  generalize k0_pay48 (k0_pay26 k q) v = o
  generalize k0_pay48 (k0_pay26 k' q') v' = o'
  intro f1 f2
  pointwise
  split_ifs <;> first | exact f1 _ _ | exact f2 _ _ | (exfalso; exact absurd rfl ‹_›)

/-- Head `h` at value row `e` and query `r` of the point's blocks, against all keys. -/
def rowAll (q : Vec Ideal S1x8x256x128 .f32) (k : Vec Ideal S1x8x2304x128 .bf16) (v : Vec Ideal S1x8x80x2304 .bf16)
    (h : Fin 8) (e : Fin 64) (r : Fin 256) : EReal :=
  mean (fun j => ∑ x : Fin 128, k (ix4 0 h j x) * (q (ix4 0 h r x) * scale))
    (maxAll fun j => ∑ x : Fin 128, k (ix4 0 h j x) * (q (ix4 0 h r x) * scale))
    (fun j => v (ix4 0 h ⟨e.val, by omega⟩ j)) (fun j => v (ix4 0 h 64 j))

theorem headAll_eq (q : Vec Ideal S1x8x256x128 .f32) (k : Vec Ideal S1x8x2304x128 .bf16) (v : Vec Ideal S1x8x80x2304 .bf16)
    (h : Fin 8) (k' : Vec Ideal S1x1x2304x128 .bf16) (q' : Vec Ideal S1x1x256x128 .f32) (v' : Vec Ideal S1x1x80x2304 .bf16)
    (hk : ∀ j x, k' (ix4 0 0 j x) = k (ix4 0 h j x)) (hq : ∀ r x, q' (ix4 0 0 r x) = q (ix4 0 h r x))
    (hv : ∀ e j, v' (ix4 0 0 e j) = v (ix4 0 h e j)) (e : Fin 64) (r : Fin 256) :
    headAll k' q' v' e r = rowAll q k v h e r := by
  unfold headAll rowAll
  simp only [hk, hq, hv]

/-- A stored pair, from the point's blocks. -/
theorem piece_all (q : Vec Ideal S1x8x256x128 .f32) (k : Vec Ideal S1x8x2304x128 .bf16) (v : Vec Ideal S1x8x80x2304 .bf16)
    (h h' : Fin 8) (k1 k2 : Vec Ideal S1x1x2304x128 .bf16) (q1 q2 : Vec Ideal S1x1x256x128 .f32) (v1 v2 : Vec Ideal S1x1x80x2304 .bf16)
    (hk : ∀ j x, k1 (ix4 0 0 j x) = k (ix4 0 h j x)) (hq : ∀ r x, q1 (ix4 0 0 r x) = q (ix4 0 h r x))
    (hv : ∀ e j, v1 (ix4 0 0 e j) = v (ix4 0 h e j))
    (hk' : ∀ j x, k2 (ix4 0 0 j x) = k (ix4 0 h' j x)) (hq' : ∀ r x, q2 (ix4 0 0 r x) = q (ix4 0 h' r x))
    (hv' : ∀ e j, v2 (ix4 0 0 e j) = v (ix4 0 h' e j))
    (x : S1x256x128.Idx) (H : Fin 8) (e : Fin 64) (r : Fin 256) (hr : r.val = (x 1).val)
    (he : H.val * 64 + e.val = h.val * 64 + (x 2).val) (hh : h'.val = h.val + 1) :
    k0_pay2 (k0_pay48 (k0_pay26 k1 q1) v1) (k0_pay26 k2 q2) v2 x = rowAll q k v H e r := by
  have hx : (x 2).val < 128 := (x 2).isLt
  obtain rfl : r = x 1 := Fin.ext hr
  refine (pair_all _ _ _ _ _ _ x).trans ?_
  split_ifs with c
  · refine (headAll_eq q k v h k1 q1 v1 hk hq hv _ _).trans ?_
    obtain rfl : H = h := Fin.ext (by omega)
    congr 1
    exact Fin.ext (by show (x 2).val = e.val; omega)
  · refine (headAll_eq q k v h' k2 q2 v2 hk' hq' hv' _ _).trans ?_
    obtain rfl : H = h' := Fin.ext (by omega)
    congr 1
    exact Fin.ext (by show (x 2).val - 64 = e.val; omega)

/-- What a point past a batch's first stores: each head's rows, against all keys. -/
theorem tile_all (c : Dev nD) (t : Fin cfg0.N) (h0 : ¬t.val % 9 = 0) (h1 : 1 ≤ t.val % 9) (y : S1x256x512.Idx) :
    outsAt0 m c t.val t.isLt y = rowAll (iblk m c 0 t) (iblk m c 1 t) (iblk m c 2 t)
      ⟨(y 2).val / 64, by have : (y 2).val < 512 := (y 2).isLt; omega⟩ ⟨(y 2).val % 64, Nat.mod_lt _ (by decide)⟩ (y 1) := by
  rw [outsAt0_B m c t h0 h1]
  frame_open
  simp (disch := decide) only [↓ View.readCov_skip, ↓ View.readCov_cons_toLoadRect, ↓ View.readCov_fill]
  frame_out
  canon_tiles x h
  · refine piece_all _ _ _ 6 7 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_all _ _ _ 4 5 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_all _ _ _ 2 3 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_all _ _ _ 0 1 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm

/-! ## The context keys -/

/-- A head's scores against the context keys. -/
theorem score_ctx (k : Vec Ideal S1x1x256x128 .bf16) (q : Vec Ideal S1x1x256x128 .f32) (j : Fin 256) (r : Fin 256) :
    k0_pay3 k q (ix3 0 j r) = ∑ x : Fin 128, k (ix4 0 0 j x) * (q (ix4 0 0 r x) * scale) := by
  rw [← scale_eq]
  open_payloads
  pointwise

/-- A head's normalised output from stored scores. -/
theorem finish_ctx (s : Vec Ideal S1x256x256 .f32) (v : Vec Ideal S1x1x80x256 .bf16) (e : Fin 64) (r : Fin 256) :
    k0_pay25 s v (ix2 e r) = mean (fun j => s (ix3 0 j r)) (maxCtx fun j => s (ix3 0 j r))
      (fun j => v (ix4 0 0 ⟨e.val, by omega⟩ j)) (fun j => v (ix4 0 0 64 j)) := by
  open_payloads
  pointwise
  rfl

/-- One head's output from its blocks. -/
def headCtx (k : Vec Ideal S1x1x256x128 .bf16) (q : Vec Ideal S1x1x256x128 .f32) (v : Vec Ideal S1x1x80x256 .bf16)
    (e : Fin 64) (r : Fin 256) : EReal :=
  mean (fun j => ∑ x : Fin 128, k (ix4 0 0 j x) * (q (ix4 0 0 r x) * scale)) (maxCtx fun j => ∑ x : Fin 128, k (ix4 0 0 j x) * (q (ix4 0 0 r x) * scale))
    (fun j => v (ix4 0 0 ⟨e.val, by omega⟩ j)) (fun j => v (ix4 0 0 64 j))

/-- Two heads side by side, as they are stored. -/
theorem pair_ctx (k k' : Vec Ideal S1x1x256x128 .bf16) (q q' : Vec Ideal S1x1x256x128 .f32) (v v' : Vec Ideal S1x1x80x256 .bf16)
    (y : S1x256x128.Idx) :
    k0_pay1 (k0_pay25 (k0_pay3 k q) v) (k0_pay3 k' q') v' y
      = if h : (y 2).val < 64 then headCtx k q v ⟨(y 2).val, h⟩ (y 1)
        else headCtx k' q' v' ⟨(y 2).val - 64, by have := (y 2).isLt; show _ < 64; have : (y 2).val < 128 := (y 2).isLt; omega⟩ (y 1) := by
  have e : ∀ (o : FVec Ideal S64x256 .f32) (s : Vec Ideal S1x256x256 .f32) (v : Vec Ideal S1x1x80x256 .bf16),
      k0_pay1 o s v y = (shapeCast S1x256x128 (truncf .bf16 (transpose S256x128 [1, 0] (concatenate S128x256 0
        [⟨S64x256, o⟩, ⟨S64x256, k0_pay25 s v⟩] concatenates_S64x256_S64x256_S128x256_d0)
        transposes_S128x256_p1_0_S256x128) bitsLt_bf16_f32) shapeCasts_S256x128_S1x256x128 : FVec Ideal S1x256x128 .bf16) y :=
    fun _ _ _ => rfl
  have f : ∀ (k : Vec Ideal S1x1x256x128 .bf16) (q : Vec Ideal S1x1x256x128 .f32) (v : Vec Ideal S1x1x80x256 .bf16)
      (e : Fin 64) (r : Fin 256), k0_pay25 (k0_pay3 k q) v (ix2 e r) = headCtx k q v e r := by
    intro k q v e r
    rw [finish_ctx]
    simp only [score_ctx]
    rfl
  rw [e]
  have f1 := f k q v
  have f2 := f k' q' v'
  revert f1 f2
  generalize k0_pay25 (k0_pay3 k q) v = o
  generalize k0_pay25 (k0_pay3 k' q') v' = o'
  intro f1 f2
  pointwise
  split_ifs <;> first | exact f1 _ _ | exact f2 _ _ | (exfalso; exact absurd rfl ‹_›)

/-- Head `h` at value row `e` and query `r` of the point's blocks, against the context keys. -/
def rowCtx (q : Vec Ideal S1x8x256x128 .f32) (k : Vec Ideal S1x8x2304x128 .bf16) (v : Vec Ideal S1x8x80x2304 .bf16)
    (h : Fin 8) (e : Fin 64) (r : Fin 256) : EReal :=
  mean (fun j : Fin 256 => ∑ x : Fin 128, k (ix4 0 h ⟨j.val, by omega⟩ x) * (q (ix4 0 h r x) * scale))
    (maxCtx fun j : Fin 256 => ∑ x : Fin 128, k (ix4 0 h ⟨j.val, by omega⟩ x) * (q (ix4 0 h r x) * scale))
    (fun j : Fin 256 => v (ix4 0 h ⟨e.val, by omega⟩ ⟨j.val, by omega⟩)) (fun j : Fin 256 => v (ix4 0 h 64 ⟨j.val, by omega⟩))

theorem headCtx_eq (q : Vec Ideal S1x8x256x128 .f32) (k : Vec Ideal S1x8x2304x128 .bf16) (v : Vec Ideal S1x8x80x2304 .bf16)
    (h : Fin 8) (k' : Vec Ideal S1x1x256x128 .bf16) (q' : Vec Ideal S1x1x256x128 .f32) (v' : Vec Ideal S1x1x80x256 .bf16)
    (hk : ∀ j x, k' (ix4 0 0 j x) = k (ix4 0 h ⟨j.val, by omega⟩ x)) (hq : ∀ r x, q' (ix4 0 0 r x) = q (ix4 0 h r x))
    (hv : ∀ e j, v' (ix4 0 0 e j) = v (ix4 0 h e ⟨j.val, by omega⟩)) (e : Fin 64) (r : Fin 256) :
    headCtx k' q' v' e r = rowCtx q k v h e r := by
  unfold headCtx rowCtx
  simp only [hk, hq, hv]

/-- A stored pair, from the point's blocks. -/
theorem piece_ctx (q : Vec Ideal S1x8x256x128 .f32) (k : Vec Ideal S1x8x2304x128 .bf16) (v : Vec Ideal S1x8x80x2304 .bf16)
    (h h' : Fin 8) (k1 k2 : Vec Ideal S1x1x256x128 .bf16) (q1 q2 : Vec Ideal S1x1x256x128 .f32) (v1 v2 : Vec Ideal S1x1x80x256 .bf16)
    (hk : ∀ j x, k1 (ix4 0 0 j x) = k (ix4 0 h ⟨j.val, by omega⟩ x)) (hq : ∀ r x, q1 (ix4 0 0 r x) = q (ix4 0 h r x))
    (hv : ∀ e j, v1 (ix4 0 0 e j) = v (ix4 0 h e ⟨j.val, by omega⟩))
    (hk' : ∀ j x, k2 (ix4 0 0 j x) = k (ix4 0 h' ⟨j.val, by omega⟩ x)) (hq' : ∀ r x, q2 (ix4 0 0 r x) = q (ix4 0 h' r x))
    (hv' : ∀ e j, v2 (ix4 0 0 e j) = v (ix4 0 h' e ⟨j.val, by omega⟩))
    (x : S1x256x128.Idx) (H : Fin 8) (e : Fin 64) (r : Fin 256) (hr : r.val = (x 1).val)
    (he : H.val * 64 + e.val = h.val * 64 + (x 2).val) (hh : h'.val = h.val + 1) :
    k0_pay1 (k0_pay25 (k0_pay3 k1 q1) v1) (k0_pay3 k2 q2) v2 x = rowCtx q k v H e r := by
  have hx : (x 2).val < 128 := (x 2).isLt
  obtain rfl : r = x 1 := Fin.ext hr
  refine (pair_ctx _ _ _ _ _ _ x).trans ?_
  split_ifs with c
  · refine (headCtx_eq q k v h k1 q1 v1 hk hq hv _ _).trans ?_
    obtain rfl : H = h := Fin.ext (by omega)
    congr 1
    exact Fin.ext (by show (x 2).val = e.val; omega)
  · refine (headCtx_eq q k v h' k2 q2 v2 hk' hq' hv' _ _).trans ?_
    obtain rfl : H = h' := Fin.ext (by omega)
    congr 1
    exact Fin.ext (by show (x 2).val - 64 = e.val; omega)

/-- What a batch's first point stores: each head's rows, against the context keys. -/
theorem tile_ctx (c : Dev nD) (t : Fin cfg0.N) (h0 : t.val % 9 = 0) (h1 : ¬1 ≤ t.val % 9) (y : S1x256x512.Idx) :
    outsAt0 m c t.val t.isLt y = rowCtx (iblk m c 0 t) (iblk m c 1 t) (iblk m c 2 t)
      ⟨(y 2).val / 64, by have : (y 2).val < 512 := (y 2).isLt; omega⟩ ⟨(y 2).val % 64, Nat.mod_lt _ (by decide)⟩ (y 1) := by
  rw [outsAt0_A m c t h0 h1]
  frame_open
  simp (disch := decide) only [↓ View.readCov_skip, ↓ View.readCov_cons_toLoadRect, ↓ View.readCov_fill]
  frame_out
  canon_tiles x h
  · refine piece_ctx _ _ _ 6 7 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_ctx _ _ _ 4 5 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_ctx _ _ _ 2 3 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm
  · refine piece_ctx _ _ _ 0 1 _ _ _ _ _ _ ?_ ?_ ?_ ?_ ?_ ?_ x _ _ _ h1 (by dsimp only; omega) rfl
    all_goals intros; exact View.ld_unit_apply_of _ _ _ _ _ _ fun a => match a with
      | ⟨0, _⟩ => rfl | ⟨1, _⟩ => rfl | ⟨2, _⟩ => (Nat.zero_add _).symm | ⟨3, _⟩ => (Nat.zero_add _).symm

/-! ## The blocks in the arguments -/

theorem idx : ∀ t : Fin cfg0.N, win0_0.index t = ![(grid0.coords t 0).val, 0, (grid0.coords t 1).val, 0]
    ∧ win0_1.index t = ![(grid0.coords t 0).val, 0, 0, 0] ∧ win0_2.index t = ![(grid0.coords t 0).val, 0, 0, 0]
    ∧ win0_3.index t = ![(grid0.coords t 0).val, (grid0.coords t 1).val, 0] ∧ (grid0.coords t 1).val = t.val % 9 := by
  intro t
  revert t
  show ∀ t : Fin grid0.N, _
  decide +kernel

/-- A head's 96 numbers in a slot of 128, the rest zero. -/
def slot (a : Vec Ideal S4x2304x8x96 .f32) : Vec Ideal S4x2304x8x128 .f32 := fun i =>
  if h : (i 3).val < 96 then a (ix4 (i 0) (i 1) (i 2) ⟨(i 3).val, h⟩) else (0 : EReal)

/-- The queries, by head. -/
theorem keys0 (c : Dev nD) (i : S4x8x2304x128.Idx) :
    (V m c main_v2 : Vec Ideal S4x8x2304x128 .f32) i = slot (m ((c : Thread nD τ).loc main_arg0)) (ix4 (i 0) (i 2) (i 1) (i 3)) := by
  unfold slot
  entry_read
  pointwise

/-- The keys, by head. -/
theorem keys1 (c : Dev nD) (i : S4x8x2304x128.Idx) :
    (V m c main_v6 : Vec Ideal S4x8x2304x128 .bf16) i = slot (m ((c : Thread nD τ).loc main_arg1)) (ix4 (i 0) (i 2) (i 1) (i 3)) := by
  unfold slot
  entry_read
  pointwise

/-- A query's element. -/
theorem blk0 (c : Dev nD) (t : Fin cfg0.N) (h : Fin 8) (r : Fin 256) (x : Fin 128) (b : Fin 4) (s : Fin 2304)
    (hb : b.val = (grid0.coords t 0).val) (hs : s.val = (grid0.coords t 1).val * 256 + r.val) :
    iblk m c 0 t (ix4 0 h r x) = slot (m ((c : Thread nD τ).loc main_arg0)) (ix4 b s h x) := by
  have e := (idx t).1
  blk_simp [iblk]
  refine (keys0 m c _).trans ?_
  blk_ext [e]

/-- A key's element. -/
theorem blk1 (c : Dev nD) (t : Fin cfg0.N) (g : Fin 8) (j : Fin 2304) (x : Fin 128) (b : Fin 4)
    (hb : b.val = (grid0.coords t 0).val) :
    iblk m c 1 t (ix4 0 g j x) = slot (m ((c : Thread nD τ).loc main_arg1)) (ix4 b j g x) := by
  have e := (idx t).2.1
  blk_simp [iblk]
  refine (keys1 m c _).trans ?_
  blk_ext [e]

/-- The values, transposed, over their row of ones. -/
theorem vals (c : Dev nD) (i : S4x8x80x2304.Idx) (h : (i 2).val < 64) :
    (V m c main_v12 : Vec Ideal S4x8x80x2304 .bf16) i = m ((c : Thread nD τ).loc main_arg2) (ix4 (i 0) (i 3) (i 1) ⟨(i 2).val, h⟩) := by
  entry_read
  pointwise
  rw [dif_pos h]

theorem vals_one (c : Dev nD) (i : S4x8x80x2304.Idx) (h : (i 2).val = 64) :
    (V m c main_v12 : Vec Ideal S4x8x80x2304 .bf16) i = (1 : EReal) := by
  entry_read
  pointwise
  rw [dif_neg (by omega), dif_pos (by omega)]

/-- A value's element. -/
theorem blk2 (c : Dev nD) (t : Fin cfg0.N) (g : Fin 8) (j : Fin 2304) (e : Fin 64) (b : Fin 4)
    (hb : b.val = (grid0.coords t 0).val) :
    iblk m c 2 t (ix4 0 g ⟨e.val, by omega⟩ j) = m ((c : Thread nD τ).loc main_arg2) (ix4 b j g e) := by
  have e' := (idx t).2.2.1
  blk_simp [iblk]
  refine (vals m c _ ?_).trans ?_
  · blk_simp [e']
    exact e.isLt
  · blk_ext [e']

/-- The row of ones under the values. -/
theorem blk2_one (c : Dev nD) (t : Fin cfg0.N) (g : Fin 8) (j : Fin 2304) :
    iblk m c 2 t (ix4 0 g 64 j) = (1 : EReal) := by
  have e' := (idx t).2.2.1
  blk_simp [iblk]
  refine vals_one m c _ ?_
  blk_simp [e']
  rfl

/-! ## The array after the run -/

/-- The attention's rows as the kernel leaves them: a context query reads the context keys, a latent query all. -/
def rows (q k : Vec Ideal S4x2304x8x96 .f32) (v : Vec Ideal S4x2304x8x64 .f32) (b : Fin 4) (s : Fin 2304) (h : Fin 8) (e : Fin 64) :
    EReal :=
  if s.val < 256 then
    mean (fun j : Fin 256 => ∑ x : Fin 128, slot k (ix4 b ⟨j.val, by omega⟩ h x) * (slot q (ix4 b s h x) * scale))
      (maxCtx fun j : Fin 256 => ∑ x : Fin 128, slot k (ix4 b ⟨j.val, by omega⟩ h x) * (slot q (ix4 b s h x) * scale))
      (fun j : Fin 256 => v (ix4 b ⟨j.val, by omega⟩ h e)) (fun _ => 1)
  else
    mean (fun j : Fin 2304 => ∑ x : Fin 128, slot k (ix4 b j h x) * (slot q (ix4 b s h x) * scale))
      (maxAll fun j : Fin 2304 => ∑ x : Fin 128, slot k (ix4 b j h x) * (slot q (ix4 b s h x) * scale))
      (fun j : Fin 2304 => v (ix4 b j h e)) (fun _ => 1)

/-- Each head's rows at its 64 columns. -/
def out (q k : Vec Ideal S4x2304x8x96 .f32) (v : Vec Ideal S4x2304x8x64 .f32) : Vec Ideal S4x2304x512 .bf16 := fun y =>
  rows q k v (y 0) (y 1) ⟨(y 2).val / 64, by have : (y 2).val < 512 := (y 2).isLt; omega⟩ ⟨(y 2).val % 64, Nat.mod_lt _ (by decide)⟩

/-- The result array after the run: each head's rows at its 64 columns. -/
theorem final (c : Dev nD) : (dats m 0 c).arrAt 3 cfg0.N =
    out (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3, e4⟩ := idx t
  have hg0 : (grid0.coords t 0).val < 4 := (grid0.coords t 0).isLt
  have hy1 : (y 1).val < 256 := (y 1).isLt
  have hy2 : (y 2).val < 512 := (y 2).isLt
  blk_simp
  rw [after0_3]
  generalize hj : ((View.whole main_v13).slice (win0_3.rect t)).emb y = j
  have hj0 : (j 0).val = (grid0.coords t 0).val := by subst hj; blk_simp [e3]
  have hj1 : (j 1).val = (grid0.coords t 1).val * 256 + (y 1).val := by subst hj; blk_simp [e3]
  have hj2 : (j 2).val = (y 2).val := by subst hj; blk_simp [e3]
  unfold out rows
  dsimp only
  by_cases h0 : t.val % 9 = 0
  · rw [if_pos (by omega)]
    refine (tile_ctx m c t h0 (by omega) y).trans ?_
    unfold rowCtx
    simp only [blk1 m c t _ _ _ (j 0) hj0, blk0 m c t _ _ _ (j 0) (j 1) hj0 hj1, blk2_one m c t, hj2]
    congr 1
    exact funext fun _ => blk2 m c t _ _ ⟨(y 2).val % 64, Nat.mod_lt _ (by decide)⟩ (j 0) hj0
  · rw [if_neg (by omega)]
    refine (tile_all m c t h0 (by omega) y).trans ?_
    unfold rowAll
    simp only [blk1 m c t _ _ _ (j 0) hj0, blk0 m c t _ _ _ (j 0) (j 1) hj0 hj1, blk2_one m c t, hj2]
    congr 1
    exact funext fun _ => blk2 m c t _ _ ⟨(y 2).val % 64, Nat.mod_lt _ (by decide)⟩ (j 0) hj0

end Cert.KernelMlaIdeal.Attention

end
-- ==== Proof.MlaRefCtx.lean ====
module

public import proofs.«01_k».proof.Proof.Gen.ReferenceMlaIdeal.Read
public import proofs.«01_k».proof.Proof.Softmax

/-!
The latent (multi-head) attention reference's context queries: their scores, their weights and their rows, each read at an index.
-/

@[expose] public section

set_option maxRecDepth 16384

noncomputable section

namespace Cert.ReferenceMlaIdeal.Attention

open Cert.ReferenceMlaIdeal Cert.ReferenceMlaIdeal.Read Idealize.ShloMosaic Idealize.ShloMosaic.TcCoe Idealize.SL.Sem Cert.Softmax

variable (q : (⟨S4x2304x8x96, .f32⟩ : BufTy).Contents (Elt Ideal)) (k : (⟨S4x2304x8x96, .f32⟩ : BufTy).Contents (Elt Ideal))
  (v : (⟨S4x2304x8x64, .f32⟩ : BufTy).Contents (Elt Ideal))

/-- A context query's score against a key. -/
theorem refScore_ctx (b : Fin 4) (g : Fin 8) (r : Fin 1) (s : Fin 256) (j : Fin 256) :
    val_main_v7 (F := Ideal) q k (ix5 b g r s j)
      = (∑ x : Fin 96, k (ix4 b ⟨j.val, by omega⟩ g x) * q (ix4 b ⟨s.val, by omega⟩ g x)) * Ideal.ofBits .f32 0x3DD105EC#32 := by
  obtain rfl : r = 0 := Subsingleton.elim _ _
  simp only [val_main_v7, val_main_v5, val_main_v4, val_main_v3, val_main_v1, val_main_v0, val_main_v6, val_main_cst]
  pointwise

/-- The fold of the maximum over a context query's scores. -/
theorem fold_ctx (b : Fin 4) (g : Fin 8) (r : Fin 1) (i : Fin 256) :
    val_main_v8 (F := Ideal) q k (ix4 b g r i)
      = Finset.univ.fold max (Ideal.ofBits .f32 0xFF800000#32) fun j => val_main_v7 (F := Ideal) q k (ix5 b g r i j) := by
  rw [val_main_v8]
  generalize val_main_v7 (F := Ideal) q k = s
  exact reduce_max s _ _ (by decide) _ b g r i

/-- The maximum taken from a context query's scores. -/
theorem top_ctx (b : Fin 4) (g : Fin 8) (r : Fin 1) (s : Fin 256) (j : Fin 256) :
    val_main_v12 (F := Ideal) q k (ix5 b g r s j)
      = max (Ideal.ofBits .f32 0xFF800000#32)
          (Finset.univ.fold max (Ideal.ofBits .f32 0xFF800000#32) fun j => val_main_v7 (F := Ideal) q k (ix5 b g r s j)) := by
  obtain rfl : r = 0 := Subsingleton.elim _ _
  rw [← fold_ctx, val_main_v12_apply, val_main_v11_apply]
  have e : idx_main_v11 (idx_main_v12 (ix5 b g 0 s j)) = ix4 b g 0 s := by
    funext i
    apply Fin.ext
    fin_cases i <;> rfl
  rw [e, val_main_v10_apply, val_main_v9_apply]
  generalize val_main_v8 (F := Ideal) q k = w
  rfl

/-- The exponential of a context query's score less the maximum. -/
theorem exp_ctx (b : Fin 4) (g : Fin 8) (r : Fin 1) (s : Fin 256) (j : Fin 256) :
    val_main_v14 (F := Ideal) q k (ix5 b g r s j)
      = Ideal.exp (val_main_v7 (F := Ideal) q k (ix5 b g r s j) - max (Ideal.ofBits .f32 0xFF800000#32)
          (Finset.univ.fold max (Ideal.ofBits .f32 0xFF800000#32) fun j => val_main_v7 (F := Ideal) q k (ix5 b g r s j))) := by
  rw [val_main_v14_apply, val_main_v13_apply, top_ctx]
  generalize val_main_v7 (F := Ideal) q k = w
  rfl

/-- The sum of a context query's exponentials. -/
theorem sum_ctx (b : Fin 4) (g : Fin 8) (r : Fin 1) (s : Fin 256) (j : Fin 256) :
    val_main_v17 (F := Ideal) q k (ix5 b g r s j) = ∑ j, val_main_v14 (F := Ideal) q k (ix5 b g r s j) := by
  obtain rfl : r = 0 := Subsingleton.elim _ _
  simp only [val_main_v17, val_main_v16, val_main_v15]
  generalize val_main_v14 (F := Ideal) q k = s
  simp only [val_main_cst_2]
  pointwise

/-- A context query's weight on a key. -/
theorem weight_ctx (b : Fin 4) (g : Fin 8) (r : Fin 1) (s : Fin 256) (j : Fin 256) :
    val_main_v18 (F := Ideal) q k (ix5 b g r s j)
      = weight (fun j => val_main_v7 (F := Ideal) q k (ix5 b g r s j)) j := by
  rw [val_main_v18_apply, sum_ctx]
  simp only [exp_ctx]
  generalize val_main_v7 (F := Ideal) q k = w
  rfl

/-- A context row, from its weights. -/
theorem row_ctx (b : Fin 4) (s : Fin 256) (c : Fin 512) (g : Fin 8) (r : Fin 1) (e : Fin 64)
    (hg : c.val = (g.val) * 64 + e.val) :
    val_main_v21 (F := Ideal) q k v (ix3 b s c)
      = ∑ j : Fin 256, v (ix4 b ⟨j.val, by omega⟩ g e) * val_main_v18 (F := Ideal) q k (ix5 b g r s j) := by
  simp only [val_main_v21, val_main_v20, val_main_v19, val_main_v2]
  generalize val_main_v18 (F := Ideal) q k = w
  obtain rfl : r = 0 := Subsingleton.elim _ _
  pointwise
  refine Finset.sum_congr rfl fun j _ => ?_
  congr 2 <;> congr 1 <;> first | rfl | exact Fin.ext (by omega) | exact Fin.ext (by dsimp only; omega)

end Cert.ReferenceMlaIdeal.Attention

end
-- ==== Proof.MlaRefLat.lean ====
module

public import proofs.«01_k».proof.Proof.Gen.ReferenceMlaIdeal.Read
public import proofs.«01_k».proof.Proof.Softmax

/-!
The latent (multi-head) attention reference's latent queries: their scores, their weights and their rows, each read at an index.
-/

@[expose] public section

set_option maxRecDepth 16384

noncomputable section

namespace Cert.ReferenceMlaIdeal.Attention

open Cert.ReferenceMlaIdeal Cert.ReferenceMlaIdeal.Read Idealize.ShloMosaic Idealize.ShloMosaic.TcCoe Idealize.SL.Sem Cert.Softmax

variable (q : (⟨S4x2304x8x96, .f32⟩ : BufTy).Contents (Elt Ideal)) (k : (⟨S4x2304x8x96, .f32⟩ : BufTy).Contents (Elt Ideal))
  (v : (⟨S4x2304x8x64, .f32⟩ : BufTy).Contents (Elt Ideal))

/-- A latent query's score against a key. -/
theorem refScore_lat (b : Fin 4) (g : Fin 8) (r : Fin 1) (s : Fin 2048) (j : Fin 2304) :
    val_main_v27 (F := Ideal) q k (ix5 b g r s j)
      = (∑ x : Fin 96, k (ix4 b j g x) * q (ix4 b ⟨256 + s.val, by omega⟩ g x)) * Ideal.ofBits .f32 0x3DD105EC#32 := by
  obtain rfl : r = 0 := Subsingleton.elim _ _
  simp only [val_main_v27, val_main_v25, val_main_v24, val_main_v23, val_main_v22, val_main_v26, val_main_cst_3]
  pointwise

/-- The fold of the maximum over a latent query's scores. -/
theorem fold_lat (b : Fin 4) (g : Fin 8) (r : Fin 1) (i : Fin 2048) :
    val_main_v28 (F := Ideal) q k (ix4 b g r i)
      = Finset.univ.fold max (Ideal.ofBits .f32 0xFF800000#32) fun j => val_main_v27 (F := Ideal) q k (ix5 b g r i j) := by
  rw [val_main_v28]
  generalize val_main_v27 (F := Ideal) q k = s
  exact reduce_max s _ _ (by decide) _ b g r i

/-- The maximum taken from a latent query's scores. -/
theorem top_lat (b : Fin 4) (g : Fin 8) (r : Fin 1) (s : Fin 2048) (j : Fin 2304) :
    val_main_v32 (F := Ideal) q k (ix5 b g r s j)
      = max (Ideal.ofBits .f32 0xFF800000#32)
          (Finset.univ.fold max (Ideal.ofBits .f32 0xFF800000#32) fun j => val_main_v27 (F := Ideal) q k (ix5 b g r s j)) := by
  obtain rfl : r = 0 := Subsingleton.elim _ _
  rw [← fold_lat, val_main_v32_apply, val_main_v31_apply]
  have e : idx_main_v31 (idx_main_v32 (ix5 b g 0 s j)) = ix4 b g 0 s := by
    funext i
    apply Fin.ext
    fin_cases i <;> rfl
  rw [e, val_main_v30_apply, val_main_v29_apply]
  generalize val_main_v28 (F := Ideal) q k = w
  rfl

/-- The exponential of a latent query's score less the maximum. -/
theorem exp_lat (b : Fin 4) (g : Fin 8) (r : Fin 1) (s : Fin 2048) (j : Fin 2304) :
    val_main_v34 (F := Ideal) q k (ix5 b g r s j)
      = Ideal.exp (val_main_v27 (F := Ideal) q k (ix5 b g r s j) - max (Ideal.ofBits .f32 0xFF800000#32)
          (Finset.univ.fold max (Ideal.ofBits .f32 0xFF800000#32) fun j => val_main_v27 (F := Ideal) q k (ix5 b g r s j))) := by
  rw [val_main_v34_apply, val_main_v33_apply, top_lat]
  generalize val_main_v27 (F := Ideal) q k = w
  rfl

/-- The sum of a latent query's exponentials. -/
theorem sum_lat (b : Fin 4) (g : Fin 8) (r : Fin 1) (s : Fin 2048) (j : Fin 2304) :
    val_main_v37 (F := Ideal) q k (ix5 b g r s j) = ∑ j, val_main_v34 (F := Ideal) q k (ix5 b g r s j) := by
  obtain rfl : r = 0 := Subsingleton.elim _ _
  simp only [val_main_v37, val_main_v36, val_main_v35]
  generalize val_main_v34 (F := Ideal) q k = s
  simp only [val_main_cst_6]
  pointwise

/-- A latent query's weight on a key. -/
theorem weight_lat (b : Fin 4) (g : Fin 8) (r : Fin 1) (s : Fin 2048) (j : Fin 2304) :
    val_main_v38 (F := Ideal) q k (ix5 b g r s j)
      = weight (fun j => val_main_v27 (F := Ideal) q k (ix5 b g r s j)) j := by
  rw [val_main_v38_apply, sum_lat]
  simp only [exp_lat]
  generalize val_main_v27 (F := Ideal) q k = w
  rfl

/-- A latent row, from its weights. -/
theorem row_lat (b : Fin 4) (s : Fin 2048) (c : Fin 512) (g : Fin 8) (r : Fin 1) (e : Fin 64)
    (hg : c.val = (g.val) * 64 + e.val) :
    val_main_v41 (F := Ideal) q k v (ix3 b s c)
      = ∑ j : Fin 2304, v (ix4 b j g e) * val_main_v38 (F := Ideal) q k (ix5 b g r s j) := by
  simp only [val_main_v41, val_main_v40, val_main_v39]
  generalize val_main_v38 (F := Ideal) q k = w
  obtain rfl : r = 0 := Subsingleton.elim _ _
  pointwise
  refine Finset.sum_congr rfl fun j _ => ?_
  congr 2 <;> congr 1 <;> first | rfl | exact Fin.ext (by omega) | exact Fin.ext (by dsimp only; omega)

end Cert.ReferenceMlaIdeal.Attention

end
-- ==== Proof.MlaEq.lean ====
module

public import proofs.«01_k».proof.Defs
public import proofs.«01_k».proof.Proof.Finite
public import proofs.«01_k».proof.Proof.Mla
public import proofs.«01_k».proof.Proof.MlaRefCtx
public import proofs.«01_k».proof.Proof.MlaRefLat

/-!
Latent attention: where queries and keys are finite, the kernel's rows are its reference's.
-/

@[expose] public section

set_option maxRecDepth 16384

noncomputable section

namespace Cert.KernelMlaIdeal.Attention

open Cert.KernelMlaIdeal Idealize.ShloMosaic Idealize.ShloMosaic.TcCoe Idealize.SL.Sem Cert.Softmax

variable (q : Vec Ideal S4x2304x8x96 .f32) (k : Vec Ideal S4x2304x8x96 .f32) (v : Vec Ideal S4x2304x8x64 .f32)

/-- The reference's factor is the rational number its bit pattern stands for. -/
theorem factor_eq : Ideal.ofBits .f32 0x3DD105EC#32 = ((3424635 / 33554432 : ℝ) : EReal) := by
  simp [Ideal.ofBits, Ideal.ieee]
  rw [← EReal.coe_mul]
  norm_num

/-- A score in the reference's scale, and the same in the kernel's. -/
theorem score_real (hq : ∀ i, IsReal (q i)) (hk : ∀ i, IsReal (k i)) (b : Fin 4) (s j : Fin 2304) (h : Fin 8) (g : Fin 8) :
    ∃ r : ℝ, (∑ x : Fin 96, k (ix4 b j g x) * q (ix4 b s h x)) * Ideal.ofBits .f32 0x3DD105EC#32 = (r : EReal)
      ∧ (∑ x : Fin 96, k (ix4 b j g x) * (q (ix4 b s h x) * scale)) = ((r / Real.log 2 : ℝ) : EReal) := by
  rw [factor_eq]
  exact score_pair _ _ (fun x => hk _) (fun x => hq _) (3424635 / 33554432) _ (by field_simp)

/-- A slot's sum is the sum over its 96 entries. -/
theorem slot_sum (b : Fin 4) (s j : Fin 2304) (h g : Fin 8) :
    (∑ x : Fin 128, slot k (ix4 b j g x) * (slot q (ix4 b s h x) * scale)) = ∑ x : Fin 96, k (ix4 b j g x) * (q (ix4 b s h x) * scale) := by
  refine (Fin.sum_univ_add (a := 96) (b := 32) fun x => slot k (ix4 b j g x) * (slot q (ix4 b s h x) * scale)).trans ?_
  have z : ∀ x : Fin 32, slot k (ix4 b j g (Fin.natAdd 96 x)) = 0 := fun x => dif_neg (by show ¬ 96 + x.val < 96; omega)
  have e : ∀ x : Fin 96, slot k (ix4 b j g (Fin.castAdd 32 x)) = k (ix4 b j g x) := fun x => dif_pos x.isLt
  have e' : ∀ x : Fin 96, slot q (ix4 b s h (Fin.castAdd 32 x)) = q (ix4 b s h x) := fun x => dif_pos x.isLt
  simp only [z, e, e', zero_mul, Finset.sum_const_zero, add_zero]

/-- A context query's row: the kernel's weighted mean is the softmax's. -/
theorem mean_ctx (hq : ∀ i, IsReal (q i)) (hk : ∀ i, IsReal (k i)) (b : Fin 4) (s : Fin 2304) (h : Fin 8) (g : Fin 8) (e : Fin 64) :
    mean (fun j : Fin 256 => ∑ x : Fin 96, k (ix4 b ⟨j.val, by omega⟩ g x) * (q (ix4 b s h x) * scale))
      (maxCtx fun j : Fin 256 => ∑ x : Fin 96, k (ix4 b ⟨j.val, by omega⟩ g x) * (q (ix4 b s h x) * scale))
      (fun j : Fin 256 => v (ix4 b ⟨j.val, by omega⟩ g e)) (fun _ => 1)
    = ∑ j : Fin 256, v (ix4 b ⟨j.val, by omega⟩ g e) * weight (fun j : Fin 256 =>
        (∑ x : Fin 96, k (ix4 b ⟨j.val, by omega⟩ g x) * q (ix4 b s h x)) * Ideal.ofBits .f32 0x3DD105EC#32) j :=
  mean_weight _ _ _ _ _ (maxCtx_isReal _ fun j => (score_real q k hq hk b s ⟨j.val, by omega⟩ h g).elim fun _ h => ⟨_, h.2⟩)
    (fun j => score_real q k hq hk b s ⟨j.val, by omega⟩ h g) fun _ => rfl

/-- A latent query's row. -/
theorem mean_lat (hq : ∀ i, IsReal (q i)) (hk : ∀ i, IsReal (k i)) (b : Fin 4) (s : Fin 2304) (h : Fin 8) (g : Fin 8) (e : Fin 64) :
    mean (fun j : Fin 2304 => ∑ x : Fin 96, k (ix4 b j g x) * (q (ix4 b s h x) * scale))
      (maxAll fun j : Fin 2304 => ∑ x : Fin 96, k (ix4 b j g x) * (q (ix4 b s h x) * scale))
      (fun j : Fin 2304 => v (ix4 b j g e)) (fun _ => 1)
    = ∑ j : Fin 2304, v (ix4 b j g e) * weight (fun j : Fin 2304 =>
        (∑ x : Fin 96, k (ix4 b j g x) * q (ix4 b s h x)) * Ideal.ofBits .f32 0x3DD105EC#32) j :=
  mean_weight _ _ _ _ _ (maxAll_isReal _ fun j => (score_real q k hq hk b s j h g).elim fun _ h => ⟨_, h.2⟩)
    (fun j => score_real q k hq hk b s j h g) fun _ => rfl

/-- The same, over the slots. -/
theorem slot_mean_ctx (hq : ∀ i, IsReal (q i)) (hk : ∀ i, IsReal (k i)) (b : Fin 4) (s : Fin 2304) (h g : Fin 8) (e : Fin 64) :
    mean (fun j : Fin 256 => ∑ x : Fin 128, slot k (ix4 b ⟨j.val, by omega⟩ g x) * (slot q (ix4 b s h x) * scale))
      (maxCtx fun j : Fin 256 => ∑ x : Fin 128, slot k (ix4 b ⟨j.val, by omega⟩ g x) * (slot q (ix4 b s h x) * scale))
      (fun j : Fin 256 => v (ix4 b ⟨j.val, by omega⟩ g e)) (fun _ => 1)
    = ∑ j : Fin 256, v (ix4 b ⟨j.val, by omega⟩ g e) * weight (fun j : Fin 256 =>
        (∑ x : Fin 96, k (ix4 b ⟨j.val, by omega⟩ g x) * q (ix4 b s h x)) * Ideal.ofBits .f32 0x3DD105EC#32) j := by
  have hs : (fun j : Fin 256 => ∑ x : Fin 128, slot k (ix4 b ⟨j.val, by omega⟩ g x) * (slot q (ix4 b s h x) * scale))
      = fun j : Fin 256 => ∑ x : Fin 96, k (ix4 b ⟨j.val, by omega⟩ g x) * (q (ix4 b s h x) * scale) := funext fun j => slot_sum q k b s _ h g
  rw [hs]
  exact mean_ctx q k v hq hk b s h g e

/-- The same, over the slots. -/
theorem slot_mean_lat (hq : ∀ i, IsReal (q i)) (hk : ∀ i, IsReal (k i)) (b : Fin 4) (s : Fin 2304) (h g : Fin 8) (e : Fin 64) :
    mean (fun j : Fin 2304 => ∑ x : Fin 128, slot k (ix4 b j g x) * (slot q (ix4 b s h x) * scale))
      (maxAll fun j : Fin 2304 => ∑ x : Fin 128, slot k (ix4 b j g x) * (slot q (ix4 b s h x) * scale))
      (fun j : Fin 2304 => v (ix4 b j g e)) (fun _ => 1)
    = ∑ j : Fin 2304, v (ix4 b j g e) * weight (fun j : Fin 2304 =>
        (∑ x : Fin 96, k (ix4 b j g x) * q (ix4 b s h x)) * Ideal.ofBits .f32 0x3DD105EC#32) j := by
  have hs : (fun j : Fin 2304 => ∑ x : Fin 128, slot k (ix4 b j g x) * (slot q (ix4 b s h x) * scale))
      = fun j : Fin 2304 => ∑ x : Fin 96, k (ix4 b j g x) * (q (ix4 b s h x) * scale) := funext fun j => slot_sum q k b s _ h g
  rw [hs]
  exact mean_lat q k v hq hk b s h g e

open Cert.ReferenceMlaIdeal.Read Cert.ReferenceMlaIdeal.Attention in
/-- The reference's context rows come first. -/
theorem joined_ctx (y : S4x2304x512.Idx) (hs : (y 1).val < 256) :
    val_main_v43 (F := Ideal) q k v y = val_main_v21 (F := Ideal) q k v (ix3 (y 0) ⟨(y 1).val, hs⟩ (y 2)) := by
  simp only [val_main_v43, val_main_v42]
  generalize val_main_v21 (F := Ideal) q k v = a
  generalize val_main_v41 (F := Ideal) q k v = b
  pointwise
  rw [dif_pos hs]

open Cert.ReferenceMlaIdeal.Read Cert.ReferenceMlaIdeal.Attention in
/-- The reference's latent rows follow. -/
theorem joined_lat (y : S4x2304x512.Idx) (hs : ¬ (y 1).val < 256) :
    val_main_v43 (F := Ideal) q k v y = val_main_v41 (F := Ideal) q k v
      (ix3 (y 0) ⟨(y 1).val - 256, by have : (y 1).val < 2304 := (y 1).isLt; omega⟩ (y 2)) := by
  simp only [val_main_v43, val_main_v42]
  generalize val_main_v21 (F := Ideal) q k v = a
  generalize val_main_v41 (F := Ideal) q k v = b
  pointwise
  rw [dif_neg hs]

open Cert.ReferenceMlaIdeal.Read Cert.ReferenceMlaIdeal.Attention in
/-- A context query's row in the reference, head by head. -/
theorem ref_ctx (b : Fin 4) (s : Fin 256) (c : Fin 512) :
    val_main_v21 (F := Ideal) q k v (ix3 b s c)
      = ∑ j : Fin 256, v (ix4 b ⟨j.val, by omega⟩ ⟨c.val / 64, by omega⟩ ⟨c.val % 64, by omega⟩) * weight (fun j : Fin 256 =>
        (∑ x : Fin 96, k (ix4 b ⟨j.val, by omega⟩ ⟨c.val / 64, by omega⟩ x) * q (ix4 b ⟨s.val, by omega⟩ ⟨c.val / 64, by omega⟩ x)) * Ideal.ofBits .f32 0x3DD105EC#32) j := by
  rw [row_ctx q k v b s c ⟨c.val / 64, by omega⟩ ⟨0, by omega⟩ ⟨c.val % 64, by omega⟩ (by dsimp only; omega)]
  refine Finset.sum_congr rfl fun j _ => ?_
  rw [weight_ctx]
  refine congrArg (v _ * ·) (congrArg (weight · j) (funext fun j => ?_))
  rw [refScore_ctx]

open Cert.ReferenceMlaIdeal.Read Cert.ReferenceMlaIdeal.Attention in
/-- A latent query's row in the reference, head by head. -/
theorem ref_lat (b : Fin 4) (s : Fin 2048) (c : Fin 512) :
    val_main_v41 (F := Ideal) q k v (ix3 b s c)
      = ∑ j : Fin 2304, v (ix4 b j ⟨c.val / 64, by omega⟩ ⟨c.val % 64, by omega⟩) * weight (fun j : Fin 2304 =>
        (∑ x : Fin 96, k (ix4 b j ⟨c.val / 64, by omega⟩ x) * q (ix4 b ⟨256 + s.val, by omega⟩ ⟨c.val / 64, by omega⟩ x)) * Ideal.ofBits .f32 0x3DD105EC#32) j := by
  rw [row_lat q k v b s c ⟨c.val / 64, by omega⟩ ⟨0, by omega⟩ ⟨c.val % 64, by omega⟩ (by dsimp only; omega)]
  refine Finset.sum_congr rfl fun j _ => ?_
  rw [weight_lat]
  refine congrArg (v _ * ·) (congrArg (weight · j) (funext fun j => ?_))
  rw [refScore_lat]

open Cert.ReferenceMlaIdeal.Read in
/-- The kernel's rows are the reference's. -/
theorem equal (hq : ∀ i, IsReal (q i)) (hk : ∀ i, IsReal (k i)) : val_main_v43 (F := Ideal) q k v = out q k v := by
  funext y
  by_cases hs : (y 1).val < 256
  · refine (joined_ctx q k v y hs).trans ((ref_ctx q k v (y 0) ⟨(y 1).val, hs⟩ (y 2)).trans ?_)
    refine Eq.trans ?_ (if_pos hs).symm
    exact (slot_mean_ctx q k v hq hk (y 0) (y 1) _ _ _).symm
  · refine (joined_lat q k v y hs).trans ((ref_lat q k v (y 0) _ (y 2)).trans ?_)
    refine Eq.trans ?_ (if_neg hs).symm
    have hi : (⟨256 + ((y 1).val - 256), by have : (y 1).val < 2304 := (y 1).isLt; omega⟩ : Fin 2304) = y 1 :=
      Fin.ext (by show 256 + ((y 1).val - 256) = (y 1).val; omega)
    rw [hi]
    exact (slot_mean_lat q k v hq hk (y 0) (y 1) _ _ _).symm

end Cert.KernelMlaIdeal.Attention

namespace Cert.Proof.AttentionClaims

open Idealize.ShloMosaic Idealize.SL.Sem

/-- Kernel and reference leave the same attention rows. -/
theorem algebraic_mla :
    Cert.algebraic_KernelMlaIdeal_ReferenceMlaIdeal_pre_finite_qk_mla (hPre_finite_qk_mla := Cert.Finite.facts_mla) := by
  intro m ρ m' ρ' hpre hagree
  refine ⟨fun c => (Cert.KernelMlaIdeal.Gen.dats m 0 c).arrAt 3 Cert.KernelMlaIdeal.cfg0.N, ?_, ?_⟩
  · exact Cert.KernelMlaIdeal.Value.run_blocks (F := Ideal) m ρ
  · refine (θ_run Cert.ReferenceMlaIdeal.defs _ _).mono (fun _ h c => ⟨(h c).1.trans ?_, (h c).2⟩)
      (Cert.ReferenceMlaIdeal.Value.run (F := Ideal) m' ρ')
    refine Eq.trans ?_ (Cert.KernelMlaIdeal.Attention.final m c).symm
    refine (Cert.ReferenceMlaIdeal.Read.val_main_v43_eq (F := Ideal) m' c).trans ?_
    obtain ⟨h0, h1, h2⟩ := hagree c
    rw [h0, h1, h2]
    exact Cert.KernelMlaIdeal.Attention.equal _ _ _ (fun i => Finite.real _ _ i (congrFun (hpre c).1 i))
      (fun i => Finite.real _ _ i (congrFun (hpre c).2 i))

end Cert.Proof.AttentionClaims

end
-- ==== Proof.Outproj.lean ====
module

public import proofs.«01_k».proof.Defs
public import proofs.«01_k».proof.Proof.Gen.KernelOutprojIdeal.Value
public import proofs.«01_k».proof.Proof.Softmax
public import Idealize.ShloMosaic.Lib.Pipeline.ReadBack

/-!
The output projection call: what a grid point stores in its three output blocks, as a function of the blocks it reads.
-/

@[expose] public section

set_option maxRecDepth 16384

noncomputable section

namespace Cert.KernelOutprojIdeal.Projected

open Cert.KernelOutprojIdeal Cert.KernelOutprojIdeal.Gen Idealize.ShloMosaic Idealize.ShloMosaic.TcCoe Idealize.SL.Sem Cert.Softmax

variable (m : (ℓ : Loc nD τ sig) → Buf (Elt Ideal) ℓ)

/-- A token's row `x` normalised, at column `d`: over the root of its mean square and a small number, times the gain. -/
def normed (x : Fin 2048 → EReal) (g : EReal) (d : Fin 2048) : EReal :=
  x d * Ideal.rsqrt (Ideal.div (∑ k : Fin 2048, x k * x k) (Ideal.ofBits .f32 0x45000000#32) + Ideal.ofBits .f32 0x358637BD#32) * g

/-- The projected row added to the residual stream, gated. -/
theorem stream_apply (v0 : Vec Ideal S1x256x2048 .bf16) (v2 : Vec Ideal S1x2048x2048 .bf16) (v9 : Vec Ideal S1x1x2048 .f32)
    (v11 : Vec Ideal S1x256x2048 .f32) (r : Fin 256) (d : Fin 2048) :
    k0_pay4 v0 v2 v9 v11 (ix2 r d)
      = (v11 (ix3 0 r d) + v9 (ix3 0 0 d) * ∑ k : Fin 2048, v0 (ix3 0 r k) * v2 (ix3 0 k d) : EReal) := by
  open_payloads
  pointwise

/-- The normalised row. -/
theorem normed_apply (v0 : Vec Ideal S1x256x2048 .bf16) (v2 : Vec Ideal S1x2048x2048 .bf16) (v9 : Vec Ideal S1x1x2048 .f32)
    (v11 : Vec Ideal S1x256x2048 .f32) (v19 : Vec Ideal S1x2048 .f32) (r : Fin 256) (d : Fin 2048) :
    k0_pay6 v0 v2 v9 v11 v19 (ix2 r d) = normed (fun d => k0_pay4 v0 v2 v9 v11 (ix2 r d)) (v19 (ix2 0 d)) d := by
  unfold k0_pay6
  generalize k0_pay4 v0 v2 v9 v11 = w
  pointwise
  rfl

/-- The modulated row. -/
theorem modulated_apply (v32 : FVec Ideal S256x2048 .f32) (v37 v41 : Vec Ideal S1x1x2048 .f32) (r : Fin 256) (d : Fin 2048) :
    k0_pay1 v32 v37 v41 (ix2 r d)
      = (v32 (ix2 r d) * (Ideal.ofBits .f32 0x3F800000#32 + v37 (ix3 0 0 d)) + v41 (ix3 0 0 d) : EReal) := by
  open_payloads
  pointwise

/-- The routing weights of a token, over the experts. -/
theorem affinity_apply (v32 : FVec Ideal S256x2048 .f32) (v37 v41 : Vec Ideal S1x1x2048 .f32) (v53 : Vec Ideal S16x2048 .bf16)
    (e : Fin 16) (r : Fin 256) :
    k0_pay3 v32 v37 v41 v53 (ix3 0 e r)
      = weight (fun e : Fin 16 => ∑ d : Fin 2048, v53 (ix2 e d) * k0_pay1 v32 v37 v41 (ix2 r d)) e := by
  unfold k0_pay3 weight
  generalize k0_pay1 v32 v37 v41 = w
  rw [ofBits_neg_inf, max_eq_right bot_le, ← ofBits_neg_inf]
  pointwise

/-- The stored stream block is the stream's rows. -/
theorem stored6 (v0 : Vec Ideal S1x256x2048 .bf16) (v2 : Vec Ideal S1x2048x2048 .bf16) (v9 : Vec Ideal S1x1x2048 .f32)
    (v11 : Vec Ideal S1x256x2048 .f32) (y : S1x256x2048.Idx) : k0_pay5 v0 v2 v9 v11 y = k0_pay4 v0 v2 v9 v11 (ix2 (y 1) (y 2)) := by
  unfold k0_pay5
  generalize k0_pay4 v0 v2 v9 v11 = w
  pointwise

/-- The stored modulated block is the modulated rows. -/
theorem stored7 (v32 : FVec Ideal S256x2048 .f32) (v37 v41 : Vec Ideal S1x1x2048 .f32) (y : S1x256x2048.Idx) :
    k0_pay2 v32 v37 v41 y = k0_pay1 v32 v37 v41 (ix2 (y 1) (y 2)) := by
  unfold k0_pay2
  generalize k0_pay1 v32 v37 v41 = w
  pointwise

/-- Which of the twelve modulation rows the point reads: the context's in its batch's first token block, the latents' after. -/
theorem row_off (i : grid0.Coords) (n : Fin 3) : k0_off1 i (BitVec.ofNat 32 (2 + n.val)) = ![0, min (i 1).val 1 * 6 + (2 + n.val), 0] := by
  revert i n
  decide +kernel

/-- The modulation row `n` of batch `b` at a token: the context's own in the first 256 tokens, the batch's latent row after. -/
def row (x4 : Vec Ideal S4x6x2048 .f32) (x5 : Vec Ideal S6x2048 .f32) (n : Fin 6) (b : Fin 4) (s : Fin 2304) (d : Fin 2048) : EReal :=
  if s.val < 256 then x5 (ix2 n d) else x4 (ix3 b n d)

/-- The residual stream after the gated output projection. -/
def stream (x0 : Vec Ideal S4x2304x2048 .f32) (x1 : Vec Ideal S4x2048x2048 .f32) (x2 : Vec Ideal S4x2304x2048 .f32)
    (x4 : Vec Ideal S4x6x2048 .f32) (x5 : Vec Ideal S6x2048 .f32) (b : Fin 4) (s : Fin 2304) (d : Fin 2048) : EReal :=
  x2 (ix3 b s d) + row x4 x5 2 b s d * ∑ k : Fin 2048, x0 (ix3 b s k) * x1 (ix3 1 k d)

/-- The stream normalised and modulated. -/
def modulated (x0 : Vec Ideal S4x2304x2048 .f32) (x1 : Vec Ideal S4x2048x2048 .f32) (x2 : Vec Ideal S4x2304x2048 .f32)
    (x3 : Vec Ideal S4x2048 .f32) (x4 : Vec Ideal S4x6x2048 .f32) (x5 : Vec Ideal S6x2048 .f32) (b : Fin 4) (s : Fin 2304) (d : Fin 2048) : EReal :=
  normed (stream x0 x1 x2 x4 x5 b s) (x3 (ix2 1 d)) d * (Ideal.ofBits .f32 0x3F800000#32 + row x4 x5 4 b s d) + row x4 x5 3 b s d

/-- The routing weight of expert `e` at a token. -/
def affinity (x0 : Vec Ideal S4x2304x2048 .f32) (x1 : Vec Ideal S4x2048x2048 .f32) (x2 : Vec Ideal S4x2304x2048 .f32)
    (x3 : Vec Ideal S4x2048 .f32) (x4 : Vec Ideal S4x6x2048 .f32) (x5 : Vec Ideal S6x2048 .f32) (x6 : Vec Ideal S4x2048x16 .f32)
    (b : Fin 4) (e : Fin 16) (s : Fin 2304) : EReal :=
  weight (fun e : Fin 16 => ∑ d : Fin 2048, modulated x0 x1 x2 x3 x4 x5 b s d * x6 (ix3 1 d e)) e

/-- Where each window's block stands. -/
theorem idx (t : Fin cfg0.N) : win0_0.index t = ![(grid0.coords t 0).val, (grid0.coords t 1).val, 0] ∧ win0_1.index t = ![1, 0, 0]
    ∧ win0_2.index t = ![(grid0.coords t 0).val, (grid0.coords t 1).val, 0] ∧ win0_3.index t = ![0, 0]
    ∧ win0_4.index t = ![(grid0.coords t 0).val, 0, 0] ∧ win0_5.index t = ![0, 0]
    ∧ win0_6.index t = ![(grid0.coords t 0).val, (grid0.coords t 1).val, 0] ∧ win0_7.index t = ![(grid0.coords t 0).val, (grid0.coords t 1).val, 0]
    ∧ win0_8.index t = ![(grid0.coords t 0).val, 0, (grid0.coords t 1).val] := by
  revert t; show ∀ t : Fin grid0.N, _; decide +kernel

/-- The branches' rows. -/
theorem blk0 (c : Dev nD) (t : Fin cfg0.N) (r : Fin 256) (k : Fin 2048) (b : Fin 4) (s : Fin 2304)
    (hb : b.val = (grid0.coords t 0).val) (hs : s.val = (grid0.coords t 1).val * 256 + r.val) :
    iblk m c 0 t (ix3 0 r k) = m ((c : Thread nD τ).loc main_arg0) (ix3 b s k) := by
  have e := (idx t).1
  blk_simp [iblk, V]
  entry_read
  pointwise
  blk_ext [e]

/-- The projection's weights. -/
theorem blk1 (c : Dev nD) (t : Fin cfg0.N) (k d : Fin 2048) :
    iblk m c 1 t (ix3 0 k d) = m ((c : Thread nD τ).loc main_arg1) (ix3 1 k d) := by
  have e := (idx t).2.1
  blk_simp [iblk, V]
  entry_read
  pointwise
  blk_ext [e]

/-- The residual stream's rows. -/
theorem blk2 (c : Dev nD) (t : Fin cfg0.N) (r : Fin 256) (k : Fin 2048) (b : Fin 4) (s : Fin 2304)
    (hb : b.val = (grid0.coords t 0).val) (hs : s.val = (grid0.coords t 1).val * 256 + r.val) :
    iblk m c 2 t (ix3 0 r k) = m ((c : Thread nD τ).loc main_arg2) (ix3 b s k) := by
  have e := (idx t).2.2.1
  blk_simp [iblk, V]
  entry_read
  blk_ext [e]

/-- The norm's gain. -/
theorem blk3 (c : Dev nD) (t : Fin cfg0.N) (d : Fin 2048) :
    iblk m c 3 t (ix2 0 d) = m ((c : Thread nD τ).loc main_arg3) (ix2 1 d) := by
  have e := (idx t).2.2.2.1
  blk_simp [iblk, V]
  entry_read
  pointwise
  blk_ext [e]

/-- The stacked modulation rows: the context's six, then the batch's six. -/
theorem rows_ctx (c : Dev nD) (i : S4x12x2048.Idx) (h : (i 1).val < 6) :
    (V m c main_v6 : Vec Ideal S4x12x2048 .f32) i = m ((c : Thread nD τ).loc main_arg5) (ix2 ⟨(i 1).val, h⟩ (i 2)) := by
  entry_read
  pointwise
  rw [dif_pos h]

theorem rows_lat (c : Dev nD) (i : S4x12x2048.Idx) (h : ¬(i 1).val < 6) :
    (V m c main_v6 : Vec Ideal S4x12x2048 .f32) i = m ((c : Thread nD τ).loc main_arg4)
      (ix3 (i 0) ⟨(i 1).val - 6, by have : (i 1).val < 12 := (i 1).isLt; omega⟩ (i 2)) := by
  entry_read
  pointwise
  rw [dif_neg h]

/-- The block of the stacked modulation rows. -/
theorem blk4 (c : Dev nD) (t : Fin cfg0.N) (n : Fin 12) (d : Fin 2048) (b : Fin 4) (hb : b.val = (grid0.coords t 0).val) :
    iblk m c 4 t (ix3 0 n d) = (V m c main_v6 : Vec Ideal S4x12x2048 .f32) (ix3 b n d) := by
  have e := (idx t).2.2.2.2.1
  blk_simp [iblk]
  blk_ext [e]

/-- The router's weights, transposed. -/
theorem blk5 (c : Dev nD) (t : Fin cfg0.N) (j : Fin 16) (d : Fin 2048) :
    iblk m c 5 t (ix2 j d) = m ((c : Thread nD τ).loc main_arg6) (ix3 1 d j) := by
  have e := (idx t).2.2.2.2.2.1
  blk_simp [iblk, V]
  entry_read
  pointwise
  blk_ext [e]

/-- The modulation row the point loads is the token's. -/
theorem load_row (c : Dev nD) (t : Fin cfg0.N) (n : Fin 3) (v : BitVec 32) (hv : v = BitVec.ofNat 32 (2 + n.val))
    (hb : ∀ a, k0_off1 (grid0.coords t) v a + ![1, 1, 2048] a ≤ S1x12x2048.size a)
    (r : Fin 256) (d : Fin 2048) (b : Fin 4) (s : Fin 2304)
    (hb' : b.val = (grid0.coords t 0).val) (hs : s.val = (grid0.coords t 1).val * 256 + r.val) :
    View.ld (iblk m c 4 t) (Rect.unit (s := S1x12x2048) (k0_off1 (grid0.coords t) v) ![1, 1, 2048] hb) (ix3 0 0 d)
      = row (m ((c : Thread nD τ).loc main_arg4)) (m ((c : Thread nD τ).loc main_arg5)) ⟨2 + n.val, by omega⟩ b s d := by
  subst hv
  have h1 : (grid0.coords t 1).val < 9 := (grid0.coords t 1).isLt
  have hr := row_off (grid0.coords t) n
  revert hb
  rw [hr]
  intro hb
  refine (View.ld_unit_apply_of (S := S1x12x2048) (iblk m c 4 t) _ ![1, 1, 2048] hb (ix3 0 0 d)
    (ix3 0 ⟨min (grid0.coords t 1).val 1 * 6 + (2 + n.val), by omega⟩ d) fun a => match a with
      | ⟨0, _⟩ => ?_ | ⟨1, _⟩ => ?_ | ⟨2, _⟩ => ?_).trans ?_
  · rfl
  · rfl
  · exact (Nat.zero_add _).symm
  · rw [blk4 m c t _ d b hb']
    unfold row
    split_ifs with h
    · have hn : (⟨min (grid0.coords t 1).val 1 * 6 + (2 + n.val), by omega⟩ : Fin 6) = ⟨2 + n.val, by omega⟩ := Fin.ext (by dsimp only; omega)
      exact (rows_ctx m c _ (by show min (grid0.coords t 1).val 1 * 6 + (2 + n.val) < 6; omega)).trans
        (congrArg (fun n => m ((c : Thread nD τ).loc main_arg5) (ix2 n d)) hn)
    · have hn : (⟨min (grid0.coords t 1).val 1 * 6 + (2 + n.val) - 6, by omega⟩ : Fin 6) = ⟨2 + n.val, by omega⟩ := Fin.ext (by dsimp only; omega)
      exact (rows_lat m c _ (by show ¬ min (grid0.coords t 1).val 1 * 6 + (2 + n.val) < 6; omega)).trans
        (congrArg (fun n => m ((c : Thread nD τ).loc main_arg4) (ix3 b n d)) hn)

/-- The point's stream rows are the call's. -/
theorem stream_blk (c : Dev nD) (t : Fin cfg0.N) (hb : ∀ a, k0_off1 (grid0.coords t) 2#32 a + ![1, 1, 2048] a ≤ S1x12x2048.size a)
    (r : Fin 256) (d : Fin 2048) (b : Fin 4) (s : Fin 2304)
    (hb' : b.val = (grid0.coords t 0).val) (hs : s.val = (grid0.coords t 1).val * 256 + r.val) :
    k0_pay4 (iblk m c 0 t) (iblk m c 1 t) (View.ld (iblk m c 4 t) (Rect.unit (s := S1x12x2048) (k0_off1 (grid0.coords t) 2#32) ![1, 1, 2048] hb))
      (iblk m c 2 t) (ix2 r d)
    = stream (m ((c : Thread nD τ).loc main_arg0)) (m ((c : Thread nD τ).loc main_arg1)) (m ((c : Thread nD τ).loc main_arg2))
        (m ((c : Thread nD τ).loc main_arg4)) (m ((c : Thread nD τ).loc main_arg5)) b s d := by
  refine (stream_apply _ _ _ _ r d).trans ?_
  refine congrArg₂ (· + ·) (blk2 m c t r d b s hb' hs) (congrArg₂ (· * ·) (load_row m c t 0 _ rfl _ r d b s hb' hs) ?_)
  exact Finset.sum_congr rfl fun k _ => congrArg₂ (· * ·) (blk0 m c t r k b s hb' hs) (blk1 m c t k d)

/-- The point's normalised and modulated rows are the call's. -/
theorem modulated_blk (c : Dev nD) (t : Fin cfg0.N) (h2 : ∀ a, k0_off1 (grid0.coords t) 2#32 a + ![1, 1, 2048] a ≤ S1x12x2048.size a)
    (h3 : ∀ a, k0_off1 (grid0.coords t) 3#32 a + ![1, 1, 2048] a ≤ S1x12x2048.size a)
    (h4 : ∀ a, k0_off1 (grid0.coords t) 4#32 a + ![1, 1, 2048] a ≤ S1x12x2048.size a)
    (r : Fin 256) (d : Fin 2048) (b : Fin 4) (s : Fin 2304)
    (hb' : b.val = (grid0.coords t 0).val) (hs : s.val = (grid0.coords t 1).val * 256 + r.val) :
    k0_pay1 (k0_pay6 (iblk m c 0 t) (iblk m c 1 t) (View.ld (iblk m c 4 t) (Rect.unit (s := S1x12x2048) (k0_off1 (grid0.coords t) 2#32) ![1, 1, 2048] h2))
        (iblk m c 2 t) (iblk m c 3 t))
      (View.ld (iblk m c 4 t) (Rect.unit (s := S1x12x2048) (k0_off1 (grid0.coords t) 4#32) ![1, 1, 2048] h4))
      (View.ld (iblk m c 4 t) (Rect.unit (s := S1x12x2048) (k0_off1 (grid0.coords t) 3#32) ![1, 1, 2048] h3)) (ix2 r d)
    = modulated (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b s d := by
  refine (modulated_apply _ _ _ r d).trans ?_
  refine congrArg₂ (· + ·) (congrArg₂ (· * ·) ?_ (congrArg _ (load_row m c t 2 _ rfl _ r d b s hb' hs))) (load_row m c t 1 _ rfl _ r d b s hb' hs)
  refine (normed_apply _ _ _ _ _ r d).trans ?_
  rw [blk3 m c t d]
  congr 1
  exact funext fun k => stream_blk m c t _ r k b s hb' hs

/-- The stream the call leaves. -/
theorem final6 (c : Dev nD) : (dats m 0 c).arrAt 6 cfg0.N = fun i : S4x2304x2048.Idx =>
    stream (m ((c : Thread nD τ).loc main_arg0)) (m ((c : Thread nD τ).loc main_arg1)) (m ((c : Thread nD τ).loc main_arg2))
        (m ((c : Thread nD τ).loc main_arg4)) (m ((c : Thread nD τ).loc main_arg5)) (i 0) (i 1) (i 2) := by
  refine (dats m 0 c).arrAt_eq_of_covers 6 _ (by decide +kernel) fun t hf y => ?_
  have e := (idx t).2.2.2.2.2.2.1
  blk_simp
  rw [after0_6]
  generalize hj : ((View.whole main_v12_0).slice (win0_6.rect t)).emb y = j
  have hj0 : (j 0).val = (grid0.coords t 0).val := by subst hj; blk_simp [e]
  have hj1 : (j 1).val = (grid0.coords t 1).val * 256 + (y 1).val := by subst hj; blk_simp [e]
  have hj2 : j 2 = y 2 := by subst hj; apply Fin.ext; blk_simp [e]
  rw [hj2]
  unfold outsAt0
  dsimp only
  frame_out
  exact (stored6 _ _ _ _ y).trans (stream_blk m c t _ (y 1) (y 2) (j 0) (j 1) hj0 hj1)

/-- The normalised and modulated stream the call leaves. -/
theorem final7 (c : Dev nD) : (dats m 0 c).arrAt 7 cfg0.N = fun i : S4x2304x2048.Idx =>
    (modulated (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) (i 2) : EReal) := by
  refine (dats m 0 c).arrAt_eq_of_covers 7 _ (by decide +kernel) fun t hf y => ?_
  have e := (idx t).2.2.2.2.2.2.2.1
  blk_simp
  rw [after0_7]
  generalize hj : ((View.whole main_v12_1).slice (win0_7.rect t)).emb y = j
  have hj0 : (j 0).val = (grid0.coords t 0).val := by subst hj; blk_simp [e]
  have hj1 : (j 1).val = (grid0.coords t 1).val * 256 + (y 1).val := by subst hj; blk_simp [e]
  have hj2 : j 2 = y 2 := by subst hj; apply Fin.ext; blk_simp [e]
  rw [hj2]
  unfold outsAt0
  dsimp only
  frame_out
  exact (stored7 _ _ _ y).trans (modulated_blk m c t _ _ _ (y 1) (y 2) (j 0) (j 1) hj0 hj1)

/-- The routing weights the call leaves. -/
theorem final8 (c : Dev nD) : (dats m 0 c).arrAt 8 cfg0.N = fun i : S4x16x2304.Idx =>
    affinity (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (i 0) (i 1) (i 2) := by
  refine (dats m 0 c).arrAt_eq_of_covers 8 _ (by decide +kernel) fun t hf y => ?_
  have e := (idx t).2.2.2.2.2.2.2.2
  blk_simp
  rw [after0_8]
  generalize hj : ((View.whole main_v12_2).slice (win0_8.rect t)).emb y = j
  have hj0 : (j 0).val = (grid0.coords t 0).val := by subst hj; blk_simp [e]
  have hj1 : j 1 = y 1 := by subst hj; apply Fin.ext; blk_simp [e]
  have hj2 : (j 2).val = (grid0.coords t 1).val * 256 + (y 2).val := by subst hj; blk_simp [e]
  rw [hj1]
  unfold outsAt0
  dsimp only
  frame_out
  have hy : y = ix3 0 (y 1) (y 2) := by
    funext a; apply Fin.ext; match a with
      | ⟨0, _⟩ => exact Nat.lt_one_iff.mp (y 0).isLt | ⟨1, _⟩ => rfl | ⟨2, _⟩ => rfl
  refine (congrArg _ hy).trans ((affinity_apply _ _ _ _ (y 1) (y 2)).trans ?_)
  unfold affinity
  congr 1
  refine funext fun e => Finset.sum_congr rfl fun d _ => ?_
  refine (mul_comm _ _).trans (congrArg₂ (· * ·) (modulated_blk m c t _ _ _ (y 2) d (j 0) (j 2) hj0 hj2) (blk5 m c t e d))

end Cert.KernelOutprojIdeal.Projected

end
-- ==== Proof.OutprojEq.lean ====
module

public import proofs.«01_k».proof.Defs
public import proofs.«01_k».proof.Proof.Outproj
public import proofs.«01_k».proof.Proof.Gen.ReferenceOutprojIdeal.Read
public import Idealize.ShloMosaic.Lib.Quiescent

/-!
The output projection call's reference, read at an index, and its equality with the call.
-/

@[expose] public section

set_option maxRecDepth 16384

noncomputable section

namespace Cert.ReferenceOutprojIdeal.Projected

open Cert.ReferenceOutprojIdeal Cert.ReferenceOutprojIdeal.Read Idealize.ShloMosaic Idealize.ShloMosaic.TcCoe Cert.Softmax
open Cert.KernelOutprojIdeal.Projected (row stream modulated affinity normed)

variable (x0 : Vec Ideal S4x2304x2048 .f32) (x1 : Vec Ideal S4x2048x2048 .f32) (x2 : Vec Ideal S4x2304x2048 .f32)
    (x3 : Vec Ideal S4x2048 .f32) (x4 : Vec Ideal S4x6x2048 .f32) (x5 : Vec Ideal S6x2048 .f32) (x6 : Vec Ideal S4x2048x16 .f32)

/-- The residual gate's rows over the tokens. -/
theorem row2 (b : Fin 4) (s : Fin 2304) (d : Fin 2048) : val_main_v7 (F := Ideal) x4 x5 (ix3 b s d) = row x4 x5 2 b s d := by
  simp only [val_main_v7, val_main_v6, val_main_v5, val_main_v4, val_main_v3, val_main_v2, val_main_v1, val_main_v0]
  unfold row
  pointwise
  split_ifs <;> rfl

/-- The scale's rows over the tokens. -/
theorem row4 (b : Fin 4) (s : Fin 2304) (d : Fin 2048) : val_main_v35 (F := Ideal) x4 x5 (ix3 b s d) = row x4 x5 4 b s d := by
  simp only [val_main_v35, val_main_v34, val_main_v33, val_main_v32, val_main_v31, val_main_v30, val_main_v29, val_main_v28]
  unfold row
  pointwise
  split_ifs <;> rfl

/-- The shift's rows over the tokens. -/
theorem row3 (b : Fin 4) (s : Fin 2304) (d : Fin 2048) : val_main_v46 (F := Ideal) x4 x5 (ix3 b s d) = row x4 x5 3 b s d := by
  simp only [val_main_v46, val_main_v45, val_main_v44, val_main_v43, val_main_v42, val_main_v41, val_main_v40, val_main_v39]
  unfold row
  pointwise
  split_ifs <;> rfl

/-- The residual stream after the gated projection. -/
theorem stream_eq (b : Fin 4) (s : Fin 2304) (d : Fin 2048) :
    val_main_v12 (F := Ideal) x0 x1 x2 x4 x5 (ix3 b s d) = stream x0 x1 x2 x4 x5 b s d := by
  unfold stream
  rw [← row2 x4 x5 b s d]
  simp only [val_main_v12, val_main_v11, val_main_v10, val_main_v9, val_main_v8]
  generalize val_main_v7 (F := Ideal) x4 x5 = w
  pointwise

/-- The normalised stream. -/
theorem normed_eq (b : Fin 4) (s : Fin 2304) (d : Fin 2048) :
    val_main_v27 (F := Ideal) x0 x1 x2 x3 x4 x5 (ix3 b s d) = normed (stream x0 x1 x2 x4 x5 b s) (x3 (ix2 1 d)) d := by
  rw [← show (fun d => val_main_v12 (F := Ideal) x0 x1 x2 x4 x5 (ix3 b s d)) = stream x0 x1 x2 x4 x5 b s from
    funext fun d => stream_eq x0 x1 x2 x4 x5 b s d]
  simp only [val_main_v27, val_main_v26, val_main_v25, val_main_v24, val_main_v23, val_main_v22, val_main_v21, val_main_v20,
    val_main_v19, val_main_v18, val_main_v17, val_main_v16, val_main_v15, val_main_v14, val_main_v13, val_main_cst, val_main_cst_0, val_main_cst_1]
  generalize val_main_v12 (F := Ideal) x0 x1 x2 x4 x5 = w
  unfold normed
  pointwise

/-- The modulated stream. -/
theorem modulated_eq (b : Fin 4) (s : Fin 2304) (d : Fin 2048) :
    val_main_v47 (F := Ideal) x0 x1 x2 x3 x4 x5 (ix3 b s d) = modulated x0 x1 x2 x3 x4 x5 b s d := by
  unfold modulated
  rw [← row4 x4 x5 b s d, ← row3 x4 x5 b s d, ← normed_eq x0 x1 x2 x3 x4 x5 b s d]
  simp only [val_main_v47, val_main_v38, val_main_v37, val_main_v36, val_main_cst_2]
  generalize val_main_v27 (F := Ideal) x0 x1 x2 x3 x4 x5 = w
  generalize val_main_v35 (F := Ideal) x4 x5 = w4
  generalize val_main_v46 (F := Ideal) x4 x5 = w3
  pointwise

/-- The routing logits. -/
theorem logit_eq (b : Fin 4) (s : Fin 2304) (e : Fin 16) :
    val_main_v50 (F := Ideal) x0 x1 x2 x3 x4 x5 x6 (ix3 b s e)
      = ∑ d : Fin 2048, modulated x0 x1 x2 x3 x4 x5 b s d * x6 (ix3 1 d e) := by
  simp only [← modulated_eq]
  simp only [val_main_v50, val_main_v49, val_main_v48]
  generalize val_main_v47 (F := Ideal) x0 x1 x2 x3 x4 x5 = w
  pointwise

/-- A token's largest logit. -/
theorem max_eq (b : Fin 4) (s : Fin 2304) :
    val_main_v51 (F := Ideal) x0 x1 x2 x3 x4 x5 x6 (ix2 b s)
      = Finset.univ.fold max (Ideal.ofBits .f32 0xFF800000#32) fun e => val_main_v50 (F := Ideal) x0 x1 x2 x3 x4 x5 x6 (ix3 b s e) := by
  unfold val_main_v51
  generalize val_main_v50 (F := Ideal) x0 x1 x2 x3 x4 x5 x6 = w
  exact reduce_max3 w _ _ ⟨by decide, by decide +kernel⟩ _ b s

/-- The exponential of a logit less the largest. -/
theorem exp_eq (b : Fin 4) (s : Fin 2304) (e : Fin 16) :
    val_main_v57 (F := Ideal) x0 x1 x2 x3 x4 x5 x6 (ix3 b s e)
      = Ideal.exp (val_main_v50 (F := Ideal) x0 x1 x2 x3 x4 x5 x6 (ix3 b s e) - max (Ideal.ofBits .f32 0xFF800000#32)
          (Finset.univ.fold max (Ideal.ofBits .f32 0xFF800000#32) fun e => val_main_v50 (F := Ideal) x0 x1 x2 x3 x4 x5 x6 (ix3 b s e))) := by
  rw [val_main_v57_apply, val_main_v56_apply, val_main_v55_apply, val_main_v54_apply, val_main_v53_apply, val_main_v52_apply, val_main_cst_4_apply]
  rw [← max_eq]
  have hi : idx_main_v54 (idx_main_v55 (ix3 b s e)) = ix2 b s := by
    funext i; apply Fin.ext; fin_cases i <;> rfl
  rw [hi]
  rfl

/-- The routing weights. -/
theorem affinity_eq (b : Fin 4) (e : Fin 16) (s : Fin 2304) :
    val_main_v63 (F := Ideal) x0 x1 x2 x3 x4 x5 x6 (ix3 b e s) = affinity x0 x1 x2 x3 x4 x5 x6 b e s := by
  rw [val_main_v63_apply, val_main_v61_apply, val_main_v60_apply, val_main_v59_apply]
  have hi : idx_main_v63 (ix3 b e s) = ix3 b s e := by funext i; apply Fin.ext; fin_cases i <;> rfl
  have hj : idx_main_v59 (idx_main_v60 (ix3 b s e)) = ix2 b s := by funext i; apply Fin.ext; fin_cases i <;> rfl
  have hk : ∀ k, idx_main_v58 (ix2 b s) k = ix3 b s k := fun k => by funext i; apply Fin.ext; fin_cases i <;> rfl
  rw [hi, hj, val_main_v58_apply]
  simp only [hk, exp_eq]
  unfold affinity weight
  simp only [← logit_eq]
  rw [val_main_cst_5_apply]
  refine congrArg₂ Ideal.div rfl ?_
  exact (congrArg (· + _) ofBits_zero).trans (zero_add _)

end Cert.ReferenceOutprojIdeal.Projected

namespace Cert.Proof.OutprojClaims

open Idealize.ShloMosaic Idealize.ShloMosaic.TcCoe Idealize.SL.Sem

theorem preserves : Cert.preserves_KernelOutproj_KernelOutprojIdeal := trivial

/-- The reference leaves its arguments and holds no semaphore. -/
theorem frame_reference : Cert.quiescent_ReferenceOutprojIdeal := fun m ρ _ =>
  (θ_run Cert.ReferenceOutprojIdeal.defs _ _).mono (fun r h => ⟨fun c => (h c).2.2.2,
      Idealize.ShloMosaic.sem_eq_zero_of_no_sems (by decide) r.2⟩)
    (Cert.ReferenceOutprojIdeal.Value.run (F := Ideal) m ρ)

/-- An index of three coordinates, put together again. -/
theorem ix3_eta {A B C : ℕ} (i : (⟨3, ![A, B, C]⟩ : Shape).Idx) : i = ix3 (i 0) (i 1) (i 2) := by
  funext a; fin_cases a <;> rfl

/-- Kernel and reference leave the same stream, the same modulated stream and the same routing weights. -/
theorem algebraic : Cert.algebraic_KernelOutprojIdeal_ReferenceOutprojIdeal := by
  intro m ρ m' ρ' _ hagree
  refine ⟨fun c => (Cert.KernelOutprojIdeal.Gen.dats m 0 c).arrAt 6 Cert.KernelOutprojIdeal.cfg0.N,
    fun c => (Cert.KernelOutprojIdeal.Gen.dats m 0 c).arrAt 7 Cert.KernelOutprojIdeal.cfg0.N,
    fun c => (Cert.KernelOutprojIdeal.Gen.dats m 0 c).arrAt 8 Cert.KernelOutprojIdeal.cfg0.N, ?_, ?_⟩
  · exact Cert.KernelOutprojIdeal.Value.run_blocks (F := Ideal) m ρ
  · refine (θ_run Cert.ReferenceOutprojIdeal.defs _ _).mono
      (fun _ h c => ⟨(h c).1.trans ?_, (h c).2.1.trans ?_, (h c).2.2.1.trans ?_, (h c).2.2.2⟩)
      (Cert.ReferenceOutprojIdeal.Value.run (F := Ideal) m' ρ')
    · refine Eq.trans ?_ (Cert.KernelOutprojIdeal.Projected.final6 m c).symm
      refine (Cert.ReferenceOutprojIdeal.Read.val_main_v12_eq (F := Ideal) _ _ _ _ _).trans ?_
      obtain ⟨h0, h1, h2, h3, h4, h5, h6⟩ := hagree c
      rw [h0, h1, h2, h4, h5]
      exact funext fun i => (congrArg _ (ix3_eta i)).trans (Cert.ReferenceOutprojIdeal.Projected.stream_eq _ _ _ _ _ _ _ _)
    · refine Eq.trans ?_ (Cert.KernelOutprojIdeal.Projected.final7 m c).symm
      refine (Cert.ReferenceOutprojIdeal.Read.val_main_v62_eq (F := Ideal) m' c).trans ?_
      obtain ⟨h0, h1, h2, h3, h4, h5, h6⟩ := hagree c
      rw [h0, h1, h2, h3, h4, h5]
      exact funext fun i => (Cert.ReferenceOutprojIdeal.Read.val_main_v62_apply _ _ _ _ _ _ _).trans
        ((congrArg _ (ix3_eta i)).trans (Cert.ReferenceOutprojIdeal.Projected.modulated_eq _ _ _ _ _ _ _ _ _))
    · refine Eq.trans ?_ (Cert.KernelOutprojIdeal.Projected.final8 m c).symm
      refine (Cert.ReferenceOutprojIdeal.Read.val_main_v63_eq (F := Ideal) m' c).trans ?_
      obtain ⟨h0, h1, h2, h3, h4, h5, h6⟩ := hagree c
      rw [h0, h1, h2, h3, h4, h5, h6]
      exact funext fun i => (congrArg _ (ix3_eta i)).trans (Cert.ReferenceOutprojIdeal.Projected.affinity_eq _ _ _ _ _ _ _ _ _ _)

end Cert.Proof.OutprojClaims

end
-- ==== Proof.Combine.lean ====
module

public import proofs.«01_k».proof.Defs
public import proofs.«01_k».proof.Proof.Gen.KernelCombineIdeal.Value
public import proofs.«01_k».proof.Proof.Softmax
public import Idealize.ShloMosaic.Lib.Pipeline.ReadBack

/-!
The combining call: what a grid point stores, as a function of the blocks it reads and of the table of slots it carries.
-/

@[expose] public section

set_option maxRecDepth 16384

noncomputable section

namespace Cert.KernelCombineIdeal.Combined

open Cert.KernelCombineIdeal Cert.KernelCombineIdeal.Gen Idealize.ShloMosaic Idealize.ShloMosaic.TcCoe Idealize.SL.Sem Cert.Softmax

variable (m : (ℓ : Loc nD τ sig) → Buf (Elt Ideal) ℓ)

/-- An integer as an extended real. -/
def real (z : ℤ) : EReal := ((z : ℝ) : EReal)

theorem shift_slot (n : Fin 4096) : IntOp.shrsi .vector (BitVec.ofNat 32 n.val) 8#32 = BitVec.ofNat 32 (n.val / 256) := by
  revert n; decide +kernel

theorem low_slot (n : Fin 4096) : (IntOp.andi (BitVec.ofNat 32 n.val) 255#32).toInt = ((n.val % 256 : ℕ) : ℤ) := by
  revert n; decide +kernel

theorem expert_eq (a b : Fin 16) : IntOp.cmpi .eq (BitVec.ofNat 32 a.val) (BitVec.ofNat 32 b.val) = if a = b then 1#1 else 0#1 := by
  revert a b; decide +kernel

/-- Which of the 16 * 256 slots a token sits at, from its slot at each expert. -/
def hot (v : Vec Ideal S1x128x16 .f32) : FVec Ideal S128x4096 .bf16 := fun x =>
  if v (ix3 0 (x 0) ⟨(x 1).val / 256, by have : (x 1).val < 4096 := (x 1).isLt; omega⟩) = real ((x 1).val % 256 : ℕ) then (1 : EReal) else (0 : EReal)

/-- The slots are told apart by their expert first, then by the place among the expert's. -/
theorem hot_of_sum (v : Vec Ideal S1x128x16 .f32) (x : S128x4096.Idx) :
    (if ∑ e : Fin 16, (Scalar.select (IntOp.cmpi .eq (IntOp.shrsi .vector (BitVec.ofNat 32 (x 1).val) 8#32) (BitVec.ofNat 32 e.val))
        (v (ix3 0 (x 0) e)) 0 : EReal) = (FloatOps.sitofp .f32 (IntOp.andi (BitVec.ofNat 32 (x 1).val) 255#32) : Ideal .f32) then (1 : EReal) else (0 : EReal)) = hot v x := by
  have hx : (x 1).val < 4096 := (x 1).isLt
  unfold hot
  have h1 : ∑ e : Fin 16, (Scalar.select (IntOp.cmpi .eq (IntOp.shrsi .vector (BitVec.ofNat 32 (x 1).val) 8#32) (BitVec.ofNat 32 e.val))
        (v (ix3 0 (x 0) e)) 0 : EReal) = v (ix3 0 (x 0) ⟨(x 1).val / 256, by omega⟩) := by
    rw [shift_slot ⟨(x 1).val, hx⟩]
    refine (Finset.sum_congr rfl fun e _ => ?_).trans (Finset.sum_ite_eq Finset.univ (⟨(x 1).val / 256, by omega⟩ : Fin 16) fun e => (v (ix3 0 (x 0) e) : EReal)) |>.trans (if_pos (Finset.mem_univ _))
    rw [expert_eq ⟨(x 1).val / 256, by omega⟩ e]
    split_ifs <;> rfl
  have h2 : (FloatOps.sitofp .f32 (IntOp.andi (BitVec.ofNat 32 (x 1).val) 255#32) : Ideal .f32) = real ((x 1).val % 256 : ℕ) :=
    congrArg real (low_slot ⟨(x 1).val, hx⟩)
  rw [h1, h2]

theorem hot3 (v : Vec Ideal S1x128x16 .f32) : (k0_pay3 v : FVec Ideal S128x4096 .bf16) = hot v := by
  funext x
  unfold k0_pay3
  pointwise
  exact hot_of_sum v x

theorem hot5 (v : Vec Ideal S1x128x16 .f32) (J : IVec S128x4096 32) (hJ : J = iota .tc S128x4096 32 [1] iota_S128x4096_d1_w32) :
    (k0_pay5 (k0_pay4 v) J 255#32 : FVec Ideal S128x4096 .bf16) = hot v := by
  subst hJ
  funext x
  unfold k0_pay5 k0_pay4
  pointwise
  exact hot_of_sum v x

theorem hot6 (v : Vec Ideal S1x128x16 .f32) : (k0_pay6 v : FVec Ideal S128x4096 .bf16) = hot v := by
  funext x
  unfold k0_pay6
  pointwise
  exact hot_of_sum v x

theorem hot8 (v : Vec Ideal S1x128x16 .f32) (J : IVec S16x4096 32) (hJ : J = iota .tc S16x4096 32 [1] iota_S16x4096_d1_w32) :
    (k0_pay8 (k0_pay7 v) J : FVec Ideal S128x4096 .bf16) = hot v := by
  subst hJ
  funext x
  unfold k0_pay8 k0_pay7
  pointwise
  exact hot_of_sum v x

theorem hot10 (v : Vec Ideal S1x128x16 .f32) : (k0_pay10 (k0_pay9 v) (FloatOps.ofBits .f32 0x3F800000#32) (FloatOps.ofBits .f32 0x00000000#32) : FVec Ideal S128x4096 .bf16) = hot v := by
  funext x
  unfold k0_pay10 k0_pay9
  pointwise
  exact hot_of_sum v x

theorem hot11 (v : Vec Ideal S1x128x16 .f32) : (k0_pay11 v : FVec Ideal S128x4096 .bf16) = hot v := by
  funext x
  unfold k0_pay11
  pointwise
  exact hot_of_sum v x

theorem hot14 (v : Vec Ideal S1x128x16 .f32) : (k0_pay14 (k0_pay12 v) k0_pay13 (FloatOps.ofBits .f32 0x3F800000#32) : FVec Ideal S128x4096 .bf16) = hot v := by
  funext x
  unfold k0_pay14 k0_pay13 k0_pay12
  pointwise
  exact hot_of_sum v x

theorem hot16 (v : Vec Ideal S1x128x16 .f32) : (k0_pay16 (k0_pay15 v) : FVec Ideal S128x4096 .bf16) = hot v := by
  funext x
  unfold k0_pay16 k0_pay15
  pointwise
  exact hot_of_sum v x

theorem hot17 (v : Vec Ideal S1x128x16 .f32) : (k0_pay17 v : FVec Ideal S128x4096 .bf16) = hot v := by
  funext x
  unfold k0_pay17
  pointwise
  exact hot_of_sum v x

theorem hot20 (v : Vec Ideal S1x128x16 .f32) : (k0_pay20 k0_pay18 (k0_pay19 v) : FVec Ideal S128x4096 .bf16) = hot v := by
  funext x
  unfold k0_pay20 k0_pay19 k0_pay18
  pointwise
  exact hot_of_sum v x

theorem hot21 (v : Vec Ideal S1x128x16 .f32) : (k0_pay21 v : FVec Ideal S128x4096 .bf16) = hot v := by
  funext x
  unfold k0_pay21
  pointwise
  exact hot_of_sum v x

theorem hot22 (v : Vec Ideal S1x128x16 .f32) : (k0_pay22 v : FVec Ideal S128x4096 .bf16) = hot v := by
  funext x
  unfold k0_pay22
  pointwise
  exact hot_of_sum v x

theorem hot25 (v : Vec Ideal S1x128x16 .f32) : (k0_pay25 (k0_pay23 v) k0_pay24 : FVec Ideal S128x4096 .bf16) = hot v := by
  funext x
  unfold k0_pay25 k0_pay24 k0_pay23
  pointwise
  exact hot_of_sum v x

theorem hot26 (v : Vec Ideal S1x128x16 .f32) : (k0_pay26 v : FVec Ideal S128x4096 .bf16) = hot v := by
  funext x
  unfold k0_pay26
  pointwise
  exact hot_of_sum v x

theorem hot29 (v : Vec Ideal S1x128x16 .f32) (J : IVec S16x4096 32) (hJ : J = iota .tc S16x4096 32 [1] iota_S16x4096_d1_w32) :
    (k0_pay29 (k0_pay27 v) J k0_pay28 : FVec Ideal S128x4096 .bf16) = hot v := by
  subst hJ
  funext x
  unfold k0_pay29 k0_pay28 k0_pay27
  pointwise
  exact hot_of_sum v x

theorem hot33 (v : Vec Ideal S1x128x16 .f32) : (k0_pay33 (k0_pay30 v) k0_pay31 k0_pay32 : FVec Ideal S128x4096 .bf16) = hot v := by
  funext x
  unfold k0_pay33 k0_pay32 k0_pay31 k0_pay30
  pointwise
  exact hot_of_sum v x

/-- Which slot a latent token sits at, from the block of slots. -/
def sits (X : Vec Ideal S1x2304x16 .f32) : Vec Ideal S2048x4096 .bf16 := fun y =>
  if X (ix3 0 ⟨256 + (y 0).val, by have : (y 0).val < 2048 := (y 0).isLt; omega⟩ ⟨(y 1).val / 256, by have : (y 1).val < 4096 := (y 1).isLt; omega⟩)
    = real ((y 1).val % 256 : ℕ) then (1 : EReal) else (0 : EReal)

/-- A stored band of rows is those rows of the whole. -/
theorem hot_ld (X : Vec Ideal S1x2304x16 .f32) (o : ℕ) (inb : ∀ a, (![0, o, 0] : Fin 3 → ℕ) a + ![1, 128, 16] a ≤ S1x2304x16.size a) (x : S128x4096.Idx) (y : S2048x4096.Idx)
    (h0 : 256 + (y 0).val = o + (x 0).val) (h1 : (y 1).val = (x 1).val) :
    hot (View.ld X (Rect.unit (s := S1x2304x16) ![0, o, 0] ![1, 128, 16] inb)) x = sits X y := by
  have hx : (x 1).val < 4096 := (x 1).isLt
  have hy : (y 0).val < 2048 := (y 0).isLt
  have e : View.ld X (Rect.unit (s := S1x2304x16) ![0, o, 0] ![1, 128, 16] inb) (ix3 0 (x 0) ⟨(x 1).val / 256, by omega⟩)
      = X (ix3 0 ⟨256 + (y 0).val, by omega⟩ ⟨(y 1).val / 256, by omega⟩) :=
    View.ld_unit_apply_of X _ _ inb _ _ fun a => match a with
      | ⟨0, _⟩ => rfl | ⟨1, _⟩ => h0 | ⟨2, _⟩ => (congrArg (· / 256) h1).trans (Nat.zero_add _).symm
  unfold hot sits
  rw [e]
  simp only [h1]

/-- The sixteen bands of rows the table is stored in. -/
def rows (X : Vec Ideal S1x2304x16 .f32) : List (View.Piece (Elt Ideal) S2048x4096 .bf16) := [
  ⟨Rect.unit ![1920, 0] ![128, 4096] inb_S2048x4096_S128x4096_1920_0, hot (View.ld X (Rect.unit ![0, 2176, 0] ![1, 128, 16] inb_S1x2304x16_S1x128x16_0_2176_0))⟩,
  ⟨Rect.unit ![1792, 0] ![128, 4096] inb_S2048x4096_S128x4096_1792_0, hot (View.ld X (Rect.unit ![0, 2048, 0] ![1, 128, 16] inb_S1x2304x16_S1x128x16_0_2048_0))⟩,
  ⟨Rect.unit ![1664, 0] ![128, 4096] inb_S2048x4096_S128x4096_1664_0, hot (View.ld X (Rect.unit ![0, 1920, 0] ![1, 128, 16] inb_S1x2304x16_S1x128x16_0_1920_0))⟩,
  ⟨Rect.unit ![1536, 0] ![128, 4096] inb_S2048x4096_S128x4096_1536_0, hot (View.ld X (Rect.unit ![0, 1792, 0] ![1, 128, 16] inb_S1x2304x16_S1x128x16_0_1792_0))⟩,
  ⟨Rect.unit ![1408, 0] ![128, 4096] inb_S2048x4096_S128x4096_1408_0, hot (View.ld X (Rect.unit ![0, 1664, 0] ![1, 128, 16] inb_S1x2304x16_S1x128x16_0_1664_0))⟩,
  ⟨Rect.unit ![1280, 0] ![128, 4096] inb_S2048x4096_S128x4096_1280_0, hot (View.ld X (Rect.unit ![0, 1536, 0] ![1, 128, 16] inb_S1x2304x16_S1x128x16_0_1536_0))⟩,
  ⟨Rect.unit ![1152, 0] ![128, 4096] inb_S2048x4096_S128x4096_1152_0, hot (View.ld X (Rect.unit ![0, 1408, 0] ![1, 128, 16] inb_S1x2304x16_S1x128x16_0_1408_0))⟩,
  ⟨Rect.unit ![1024, 0] ![128, 4096] inb_S2048x4096_S128x4096_1024_0, hot (View.ld X (Rect.unit ![0, 1280, 0] ![1, 128, 16] inb_S1x2304x16_S1x128x16_0_1280_0))⟩,
  ⟨Rect.unit ![896, 0] ![128, 4096] inb_S2048x4096_S128x4096_896_0, hot (View.ld X (Rect.unit ![0, 1152, 0] ![1, 128, 16] inb_S1x2304x16_S1x128x16_0_1152_0))⟩,
  ⟨Rect.unit ![768, 0] ![128, 4096] inb_S2048x4096_S128x4096_768_0, hot (View.ld X (Rect.unit ![0, 1024, 0] ![1, 128, 16] inb_S1x2304x16_S1x128x16_0_1024_0))⟩,
  ⟨Rect.unit ![640, 0] ![128, 4096] inb_S2048x4096_S128x4096_640_0, hot (View.ld X (Rect.unit ![0, 896, 0] ![1, 128, 16] inb_S1x2304x16_S1x128x16_0_896_0))⟩,
  ⟨Rect.unit ![512, 0] ![128, 4096] inb_S2048x4096_S128x4096_512_0, hot (View.ld X (Rect.unit ![0, 768, 0] ![1, 128, 16] inb_S1x2304x16_S1x128x16_0_768_0))⟩,
  ⟨Rect.unit ![384, 0] ![128, 4096] inb_S2048x4096_S128x4096_384_0, hot (View.ld X (Rect.unit ![0, 640, 0] ![1, 128, 16] inb_S1x2304x16_S1x128x16_0_640_0))⟩,
  ⟨Rect.unit ![256, 0] ![128, 4096] inb_S2048x4096_S128x4096_256_0, hot (View.ld X (Rect.unit ![0, 512, 0] ![1, 128, 16] inb_S1x2304x16_S1x128x16_0_512_0))⟩,
  ⟨Rect.unit ![128, 0] ![128, 4096] inb_S2048x4096_S128x4096_128_0, hot (View.ld X (Rect.unit ![0, 384, 0] ![1, 128, 16] inb_S1x2304x16_S1x128x16_0_384_0))⟩,
  ⟨Rect.unit ![0, 0] ![128, 4096] inb_S2048x4096_S128x4096_0_0, hot (View.ld X (Rect.unit ![0, 256, 0] ![1, 128, 16] inb_S1x2304x16_S1x128x16_0_256_0))⟩]

/-- Put together they are the table. -/
theorem canon_rows (X : Vec Ideal S1x2304x16 .f32) : View.canon (rows X) = sits X := by
  funext y
  unfold rows
  canon_tiles x h
  all_goals exact hot_ld X _ _ x y (by omega) h1

/-- What a batch's first point leaves in the table. -/
theorem table_A (c : Dev nD) (t : Fin cfg0.N) (h : t.val % 4 = 0) : (outsAt0 m c t.val t.isLt).2 = sits (iblk m c 0 t) := by
  funext y
  rw [outsAt0_A m c t h]
  frame_open
  frame_out
  simp (disch := exact rfl) only [hot3, hot5, hot6, hot8, hot10, hot11, hot14, hot16, hot17, hot20, hot21, hot22, hot25, hot26, hot29, hot33]
  have e := canon_rows (iblk m c 0 t)
  unfold rows at e
  exact congrFun e y

/-- The later points leave it as it is. -/
theorem table_B (c : Dev nD) (t : Fin cfg0.N) (h : ¬t.val % 4 = 0) :
    (outsAt0 m c t.val t.isLt).2 = (outsAt0 m c (t.val - 1) (Nat.lt_of_le_of_lt (Nat.sub_le _ _) t.isLt)).2 := by
  rw [outsAt0_B m c t h]
  rfl

/-- A stored tile: the stream's rows and the gated sum of the rows at the slots. -/
def added (g : Vec Ideal S1x1x512 .f32) (w : Vec Ideal S16x256x512 .bf16) (p : Vec Ideal S512x4096 .bf16) (x : Vec Ideal S1x512x512 .f32) :
    FVec Ideal S1x512x512 .f32 := fun i =>
  (x i + g (ix3 0 0 (i 2)) * ∑ n : Fin 4096, p (ix2 (i 1) n) * w (ix3 ⟨n.val / 256, by omega⟩ ⟨n.val % 256, by omega⟩ (i 2)) : EReal)

theorem added36 (g : Vec Ideal S1x1x512 .f32) (w : Vec Ideal S16x256x512 .bf16) (p : Vec Ideal S512x4096 .bf16) (x : Vec Ideal S1x512x512 .f32) :
    k0_pay36 g w p x = added g w p x := by
  funext i
  unfold k0_pay36 k0_pay35 k0_pay34
  pointwise
  rfl

theorem added37 (g : Vec Ideal S1x1x512 .f32) (w : Vec Ideal S16x256x512 .bf16) (p : Vec Ideal S512x4096 .bf16) (x : Vec Ideal S1x512x512 .f32) :
    k0_pay37 g w p x = added g w p x := by
  funext i
  unfold k0_pay37 k0_pay35 k0_pay34
  pointwise
  rfl

theorem added1 (g : Vec Ideal S1x1x512 .f32) (w : Vec Ideal S16x256x512 .bf16) (p : Vec Ideal S512x4096 .bf16) (x : Vec Ideal S1x512x512 .f32) :
    k0_pay1 (k0_pay34 g) (k0_pay35 w) p x = added g w p x := by
  funext i
  unfold k0_pay1 k0_pay35 k0_pay34
  pointwise
  rfl

theorem added2 (g : Vec Ideal S1x1x512 .f32) (w : Vec Ideal S16x256x512 .bf16) (p : Vec Ideal S512x4096 .bf16) (x : Vec Ideal S1x512x512 .f32) :
    k0_pay2 (k0_pay34 g) (k0_pay35 w) p x = added g w p x := by
  funext i
  unfold k0_pay2 k0_pay35 k0_pay34
  pointwise
  rfl

/-- The point's output block, from the table and the blocks. -/
def tile (T : Vec Ideal S2048x4096 .bf16) (w : Vec Ideal S16x256x512 .bf16) (X : Vec Ideal S1x2304x512 .f32) (G : Vec Ideal S1x12x512 .f32)
    (r : Fin 2048) (d : Fin 512) : EReal :=
  X (ix3 0 ⟨256 + r.val, by omega⟩ d) + G (ix3 0 11 d) * ∑ n : Fin 4096, T (ix2 r n) * w (ix3 ⟨n.val / 256, by omega⟩ ⟨n.val % 256, by omega⟩ d)

/-- A stored tile is a part of the output block. -/
theorem tile_of (T : Vec Ideal S2048x4096 .bf16) (w : Vec Ideal S16x256x512 .bf16) (X : Vec Ideal S1x2304x512 .f32) (G : Vec Ideal S1x12x512 .f32)
    (p : Vec Ideal S512x4096 .bf16) (o a : ℕ) (ha : a = 256 + o)
    (ig : ∀ a, (![0, 11, 0] : Fin 3 → ℕ) a + ![1, 1, 512] a ≤ S1x12x512.size a)
    (ix : ∀ i, (![0, a, 0] : Fin 3 → ℕ) i + ![1, 512, 512] i ≤ S1x2304x512.size i) (ho : o + 512 ≤ 2048)
    (hp : ∀ (r : Fin 512) (n : Fin 4096), p (ix2 r n) = T (ix2 ⟨o + r.val, by omega⟩ n)) (x : S1x512x512.Idx) (y : S1x2048x512.Idx)
    (h1 : (y 1).val = o + (x 1).val) (h2 : (y 2).val = (x 2).val) :
    added (View.ld G (Rect.unit (s := S1x12x512) ![0, 11, 0] ![1, 1, 512] ig)) w p (View.ld X (Rect.unit (s := S1x2304x512) ![0, a, 0] ![1, 512, 512] ix)) x
      = tile T w X G (y 1) (y 2) := by
  subst ha
  have hx : (x 1).val < 512 := (x 1).isLt
  have hy : (y 1).val < 2048 := (y 1).isLt
  have e2 : (x 2 : Fin 512) = y 2 := Fin.ext h2.symm
  have e1 : (⟨o + (x 1).val, by omega⟩ : Fin 2048) = y 1 := Fin.ext h1.symm
  have eX : View.ld X (Rect.unit (s := S1x2304x512) ![0, 256 + o, 0] ![1, 512, 512] ix) x = X (ix3 0 ⟨256 + (y 1).val, by omega⟩ (y 2)) :=
    View.ld_unit_apply_of X _ _ ix _ _ fun a => match a with
      | ⟨0, _⟩ => (by have : (x 0).val < 1 := (x 0).isLt; show 0 = 0 + (x 0).val; omega) | ⟨1, _⟩ => (congrArg (256 + ·) h1).trans (Nat.add_assoc _ _ _).symm | ⟨2, _⟩ => h2.trans (Nat.zero_add _).symm
  have eG : View.ld G (Rect.unit (s := S1x12x512) ![0, 11, 0] ![1, 1, 512] ig) (ix3 0 0 (x 2)) = G (ix3 0 11 (y 2)) :=
    View.ld_unit_apply_of G _ _ ig _ _ fun a => match a with
      | ⟨0, _⟩ => rfl | ⟨1, _⟩ => rfl | ⟨2, _⟩ => h2.trans (Nat.zero_add _).symm
  unfold added tile
  rw [eX, eG]
  refine congrArg₂ (· + ·) rfl (congrArg₂ (· * ·) rfl (Finset.sum_congr rfl fun n _ => ?_))
  rw [hp (x 1) n, e1, e2]

/-- A batch's first point reads the table it has just stored. -/
theorem tile_A (c : Dev nD) (t : Fin cfg0.N) (h : t.val % 4 = 0) (y : S1x2048x512.Idx) :
    (outsAt0 m c t.val t.isLt).1 y = tile (outsAt0 m c t.val t.isLt).2 (iblk m c 1 t) (iblk m c 3 t) (iblk m c 4 t) (y 1) (y 2) := by
  rw [table_A m c t h, outsAt0_A m c t h]
  frame_open
  frame_out
  simp (disch := exact rfl) only [added36, added37, added1, added2, hot3, hot5, hot6, hot8, hot10, hot11, hot14, hot16, hot17, hot20, hot21, hot22, hot25, hot26, hot29, hot33]
  have e := canon_rows (iblk m c 0 t)
  unfold rows at e
  canon_tiles x h
  · refine tile_of _ _ _ _ _ 1536 _ rfl _ _ (by decide) (fun r n => ?_) x y h1 h2
    rw [View.readCov_eq_canon', e]
    exact congrArg _ (funext fun a => Fin.ext ((Rect.idx_unit_val _ _ _ _ a).trans (match a with
      | ⟨0, _⟩ => rfl | ⟨1, _⟩ => Nat.zero_add _)))
  · refine tile_of _ _ _ _ _ 1024 _ rfl _ _ (by decide) (fun r n => ?_) x y h1 h2
    rw [View.readCov_eq_canon', e]
    exact congrArg _ (funext fun a => Fin.ext ((Rect.idx_unit_val _ _ _ _ a).trans (match a with
      | ⟨0, _⟩ => rfl | ⟨1, _⟩ => Nat.zero_add _)))
  · refine tile_of _ _ _ _ _ 512 _ rfl _ _ (by decide) (fun r n => ?_) x y h1 h2
    rw [View.readCov_eq_canon', e]
    exact congrArg _ (funext fun a => Fin.ext ((Rect.idx_unit_val _ _ _ _ a).trans (match a with
      | ⟨0, _⟩ => rfl | ⟨1, _⟩ => Nat.zero_add _)))
  · refine tile_of _ _ _ _ _ 0 _ rfl _ _ (by decide) (fun r n => ?_) x y (by omega) h2
    rw [View.readCov_eq_canon', e]
    exact congrArg _ (funext fun a => Fin.ext ((Rect.idx_unit_val _ _ _ _ a).trans (match a with
      | ⟨0, _⟩ => rfl | ⟨1, _⟩ => Nat.zero_add _)))

/-- The later points read the table the batch's first point left. -/
theorem tile_B (c : Dev nD) (t : Fin cfg0.N) (h : ¬t.val % 4 = 0) (y : S1x2048x512.Idx) :
    (outsAt0 m c t.val t.isLt).1 y = tile (outsAt0 m c t.val t.isLt).2 (iblk m c 1 t) (iblk m c 3 t) (iblk m c 4 t) (y 1) (y 2) := by
  rw [table_B m c t h, outsAt0_B m c t h]
  frame_open
  frame_out
  simp only [added36, added37, added1, added2, read_unread_whole]
  canon_tiles x h
  · exact tile_of _ _ _ _ _ 1536 _ rfl _ _ (by decide) (fun r n => View.ld_unit_apply_of (S := S2048x4096) (outsAt0 m c (t.val - 1) _).2 _ _ _ _ _ fun a => match a with
      | ⟨0, _⟩ => rfl | ⟨1, _⟩ => (Nat.zero_add _).symm) x y h1 h2
  · exact tile_of _ _ _ _ _ 1024 _ rfl _ _ (by decide) (fun r n => View.ld_unit_apply_of (S := S2048x4096) (outsAt0 m c (t.val - 1) _).2 _ _ _ _ _ fun a => match a with
      | ⟨0, _⟩ => rfl | ⟨1, _⟩ => (Nat.zero_add _).symm) x y h1 h2
  · exact tile_of _ _ _ _ _ 512 _ rfl _ _ (by decide) (fun r n => View.ld_unit_apply_of (S := S2048x4096) (outsAt0 m c (t.val - 1) _).2 _ _ _ _ _ fun a => match a with
      | ⟨0, _⟩ => rfl | ⟨1, _⟩ => (Nat.zero_add _).symm) x y h1 h2
  · exact tile_of _ _ _ _ _ 0 _ rfl _ _ (by decide) (fun r n => View.ld_unit_apply_of (S := S2048x4096) (outsAt0 m c (t.val - 1) _).2 _ _ _ _ _ fun a => match a with
      | ⟨0, _⟩ => rfl | ⟨1, _⟩ => (Nat.zero_add _).symm) x y (by omega) h2

/-- Where each window's block stands. -/
theorem idx (t : Fin cfg0.N) : win0_0.index t = ![t.val / 4, 0, 0] ∧ win0_1.index t = ![0, t.val / 4, t.val % 4]
    ∧ win0_3.index t = ![t.val / 4, 0, t.val % 4] ∧ win0_4.index t = ![t.val / 4, 0, t.val % 4]
    ∧ win0_5.index t = ![t.val / 4, 0, t.val % 4] := by
  revert t; show ∀ t : Fin grid0.N, _; decide +kernel

/-- The tokens' slots, as numbers. -/
theorem blk0 (c : Dev nD) (t : Fin cfg0.N) (s : Fin 2304) (e : Fin 16) (b : Fin 4) (hb : b.val = t.val / 4) :
    iblk m c 0 t (ix3 0 s e) = real ((m ((c : Thread nD τ).loc main_arg0) (ix3 b e s) : BitVec 32).toInt) := by
  have w := (idx t).1
  blk_simp [iblk, V]
  entry_read
  pointwise
  refine congrArg (fun z : BitVec 32 => real z.toInt) ?_
  blk_ext [w]

/-- The experts' rows. -/
theorem blk1 (c : Dev nD) (t : Fin cfg0.N) (e : Fin 16) (r : Fin 256) (d : Fin 512) (R : Fin 1024) (D : Fin 2048)
    (hR : R.val = t.val / 4 * 256 + r.val) (hD : D.val = t.val % 4 * 512 + d.val) :
    iblk m c 1 t (ix3 e r d) = m ((c : Thread nD τ).loc main_arg1) (ix3 e R D) := by
  have e := (idx t).2.1
  blk_simp [iblk, V]
  entry_read
  pointwise
  blk_ext [e]

/-- The residual stream. -/
theorem blk3 (c : Dev nD) (t : Fin cfg0.N) (s : Fin 2304) (d : Fin 512) (b : Fin 4) (D : Fin 2048)
    (hb : b.val = t.val / 4) (hD : D.val = t.val % 4 * 512 + d.val) :
    iblk m c 3 t (ix3 0 s d) = m ((c : Thread nD τ).loc main_arg3) (ix3 b s D) := by
  have e := (idx t).2.2.1
  blk_simp [iblk, V]
  entry_read
  blk_ext [e]

/-- The stacked modulation rows: the context's six, then the batch's six. -/
theorem rows_lat (c : Dev nD) (i : S4x12x2048.Idx) (h : ¬(i 1).val < 6) :
    (V m c main_v6 : Vec Ideal S4x12x2048 .f32) i = m ((c : Thread nD τ).loc main_arg4)
      (ix3 (i 0) ⟨(i 1).val - 6, by have : (i 1).val < 12 := (i 1).isLt; omega⟩ (i 2)) := by
  entry_read
  pointwise
  rw [dif_neg h]

/-- The gate's row. -/
theorem blk4 (c : Dev nD) (t : Fin cfg0.N) (d : Fin 512) (b : Fin 4) (D : Fin 2048)
    (hb : b.val = t.val / 4) (hD : D.val = t.val % 4 * 512 + d.val) :
    iblk m c 4 t (ix3 0 11 d) = m ((c : Thread nD τ).loc main_arg4) (ix3 b 5 D) := by
  have e := (idx t).2.2.2.1
  have h : iblk m c 4 t (ix3 0 11 d) = (V m c main_v6 : Vec Ideal S4x12x2048 .f32) (ix3 b 11 D) := by
    blk_simp [iblk]
    blk_ext [e]
  exact h.trans (rows_lat m c _ (by show ¬11 < 6; decide))

/-- Whether batch `b`'s latent token `r` sits at slot `n`, told from its slots. -/
def seated (x0 : (⟨S4x16x2304, .i32⟩ : BufTy).Contents (Elt Ideal)) (b : Fin 4) (r : Fin 2048) (n : Fin 4096) : EReal :=
  if (x0 (ix3 b ⟨n.val / 256, by omega⟩ ⟨256 + r.val, by omega⟩) : BitVec 32).toInt = ((n.val % 256 : ℕ) : ℤ) then 1 else 0

theorem real_inj (a b : ℤ) : real a = real b ↔ a = b := by
  unfold real
  exact EReal.coe_eq_coe_iff.trans Int.cast_inj

/-- The table holds it, at every point of the batch. -/
theorem table (c : Dev nD) (n : ℕ) (hn : n < cfg0.N) (b : Fin 4) (hb : b.val = n / 4) (r : Fin 2048) (k : Fin 4096) :
    (outsAt0 m c n hn).2 (ix2 r k) = seated (m ((c : Thread nD τ).loc main_arg0)) b r k := by
  induction n with
  | zero =>
    rw [table_A m c ⟨0, hn⟩ rfl]
    unfold sits seated
    rw [blk0 m c ⟨0, hn⟩ _ _ b hb]
    simp only [real_inj]
    rfl
  | succ n ih =>
    by_cases h : (n + 1) % 4 = 0
    · rw [table_A m c ⟨n + 1, hn⟩ h]
      unfold sits seated
      rw [blk0 m c ⟨n + 1, hn⟩ _ _ b hb]
      simp only [real_inj]
      rfl
    · rw [table_B m c ⟨n + 1, hn⟩ h]
      exact ih _ (by omega)

/-- The latent stream after the experts. -/
def result (x0 : (⟨S4x16x2304, .i32⟩ : BufTy).Contents (Elt Ideal)) (x1 : Vec Ideal S16x1024x2048 .f32) (x3 : Vec Ideal S4x2304x2048 .f32)
    (x4 : Vec Ideal S4x6x2048 .f32) (b : Fin 4) (r : Fin 2048) (d : Fin 2048) : EReal :=
  x3 (ix3 b ⟨256 + r.val, by omega⟩ d) + x4 (ix3 b 5 d) * ∑ n : Fin 4096, seated x0 b r n
    * x1 (ix3 ⟨n.val / 256, by omega⟩ ⟨b.val * 256 + n.val % 256, by omega⟩ d)

/-- What the call leaves. -/
theorem final5 (c : Dev nD) : (dats m 0 c).arrAt 5 cfg0.N = fun i : S4x2048x2048.Idx =>
    result (m ((c : Thread nD τ).loc main_arg0)) (m ((c : Thread nD τ).loc main_arg1)) (m ((c : Thread nD τ).loc main_arg3))
        (m ((c : Thread nD τ).loc main_arg4)) (i 0) (i 1) (i 2) := by
  refine (dats m 0 c).arrAt_eq_of_covers 5 _ (by decide +kernel) fun t hf y => ?_
  have e := (idx t).2.2.2.2
  blk_simp
  rw [after0_5]
  generalize hj : ((View.whole main_v7).slice (win0_5.rect t)).emb y = j
  have hj0 : (j 0).val = t.val / 4 := by subst hj; blk_simp [e]
  have hj1 : j 1 = y 1 := by subst hj; apply Fin.ext; blk_simp [e]
  have hj2 : (j 2).val = t.val % 4 * 512 + (y 2).val := by subst hj; blk_simp [e]
  rw [hj1]
  have ht : (outsAt0 m c t.val t.isLt).1 y = tile (outsAt0 m c t.val t.isLt).2 (iblk m c 1 t) (iblk m c 3 t) (iblk m c 4 t) (y 1) (y 2) :=
    if h : t.val % 4 = 0 then tile_A m c t h y else tile_B m c t h y
  refine ht.trans ?_
  unfold tile result
  refine congrArg₂ (· + ·) (blk3 m c t _ _ (j 0) (j 2) hj0 hj2) (congrArg₂ (· * ·) (blk4 m c t _ (j 0) (j 2) hj0 hj2) (Finset.sum_congr rfl fun n _ => ?_))
  exact congrArg₂ (· * ·) (table m c t.val t.isLt (j 0) hj0 (y 1) n) (blk1 m c t _ _ _ _ (j 2) (by rw [← hj0]) hj2)

end Cert.KernelCombineIdeal.Combined

end
-- ==== Proof.CombineEq.lean ====
module

public import proofs.«01_k».proof.Defs
public import proofs.«01_k».proof.Proof.Combine
public import proofs.«01_k».proof.Proof.Gen.ReferenceCombineIdeal.Read
public import Idealize.ShloMosaic.Lib.Quiescent

/-!
The combining call's reference, read at an index, and its equality with the call: a product with a table holding one
1 per expert and token is the row that the 1 picks.
-/

@[expose] public section

set_option maxRecDepth 16384

noncomputable section

namespace Cert.ReferenceCombineIdeal.Combined

open Cert.ReferenceCombineIdeal Cert.ReferenceCombineIdeal.Gen Cert.ReferenceCombineIdeal.Read Idealize.ShloMosaic Idealize.ShloMosaic.TcCoe Cert.Softmax
open Cert.KernelCombineIdeal.Combined (seated result)

variable (x0 : (⟨S4x16x2304, .i32⟩ : BufTy).Contents (Elt Ideal)) (x1 : Vec Ideal S16x1024x2048 .f32) (x3 : Vec Ideal S4x2304x2048 .f32)
  (x4 : Vec Ideal S4x6x2048 .f32)

/-- The row that the row numbers name, each clamped into the array. -/
theorem row_lookup (x : Vec Ideal S16384x2048 .f32) (z : IVec S4x2048x16x1 32) (i : S4x2048x16x2048.Idx) :
    Host.gather gather_S16384x2048_S4x2048x16x1_S4x2048x16x2048_3_0_n_n_0_3_12048 x z i
      = x (ix2 ⟨min (z (ix4 (i 0) (i 1) (i 2) 0)).toInt.toNat 16383, by omega⟩ (i 3)) := by
  refine congrArg x (funext fun a => Fin.ext ?_)
  show gather_S16384x2048_S4x2048x16x1_S4x2048x16x2048_3_0_n_n_0_3_12048.start i z a
    + gather_S16384x2048_S4x2048x16x1_S4x2048x16x2048_3_0_n_n_0_3_12048.batchCoord i a
    + gather_S16384x2048_S4x2048x16x1_S4x2048x16x2048_3_0_n_n_0_3_12048.offCoord i a = _
  rw [GatherDims.batchCoord_eq_zero _ i a List.not_mem_nil, Nat.add_zero]
  unfold GatherDims.start GatherDims.offCoord
  have h01 : a = 0 ∨ a = 1 := by fin_cases a <;> simp
  rcases h01 with rfl | rfl
  · rw [dif_pos (by decide), dif_neg (by decide), Nat.add_zero]
    have h : ∀ k, gather_S16384x2048_S4x2048x16x1_S4x2048x16x2048_3_0_n_n_0_3_12048.siIdx i k = ix4 (i 0) (i 1) (i 2) 0 := by
      intro k
      funext b
      apply Fin.ext
      fin_cases b
      · rfl
      · rfl
      · rfl
      · exact Nat.lt_one_iff.mp k.isLt
    rw [h]
    rfl
  · rw [dif_neg (by decide), dif_pos (by decide), Nat.zero_add]
    rfl

/-- A slot among the 256 is told by the two comparisons, -/
theorem inside : ∀ k : Fin 256, IntOp.andi (IntOp.cmpi .sge (BitVec.ofNat 32 k.val) 0#32) (IntOp.cmpi .slt (BitVec.ofNat 32 k.val) 256#32) = 1#1 := by
  decide +kernel

/-- and is what the clipping leaves as it is. -/
theorem clipped : ∀ k : Fin 256, IntOp.minsi 255#32 (IntOp.maxsi 0#32 (BitVec.ofNat 32 k.val)) = BitVec.ofNat 32 k.val := by
  decide +kernel

theorem slot_toInt : ∀ k : Fin 256, (BitVec.ofNat 32 k.val).toInt = ((k.val : ℕ) : ℤ) := by
  decide +kernel

/-- Any other slot fails one of them. -/
theorem outside (w : BitVec 32) (h : ∀ k : Fin 256, w.toInt ≠ ((k.val : ℕ) : ℤ)) :
    IntOp.andi (IntOp.cmpi .sge w 0#32) (IntOp.cmpi .slt w 256#32) = 0#1 := by
  have hw : ¬(0 ≤ w.toInt ∧ w.toInt < 256) := fun hk => h ⟨w.toInt.toNat, by omega⟩ (by simp only []; omega)
  have h1 : IntOp.cmpi .sge w 0#32 = BitVec.ofBool (decide (0 ≤ w.toInt)) := rfl
  have h2 : IntOp.cmpi .slt w 256#32 = BitVec.ofBool (decide (w.toInt < 256)) := rfl
  rw [h1, h2]
  by_cases ha : 0 ≤ w.toInt
  · have hb : ¬w.toInt < 256 := fun hb => hw ⟨ha, hb⟩
    rw [decide_eq_true ha, decide_eq_false hb]; decide
  · rw [decide_eq_false ha]; cases decide (w.toInt < 256) <;> decide

/-- The row of the experts' rows, laid end to end. -/
theorem place (e : Fin 16) (b : Fin 4) (k : Fin 256) :
    (IntOp.addi (IntOp.addi (IntOp.muli (BitVec.ofNat 32 e.val) 1024#32) (IntOp.muli (BitVec.ofNat 32 b.val) 256#32)) (BitVec.ofNat 32 k.val)).toInt.toNat
      = e.val * 1024 + b.val * 256 + k.val := by
  have h : IntOp.addi (IntOp.addi (IntOp.muli (BitVec.ofNat 32 e.val) 1024#32) (IntOp.muli (BitVec.ofNat 32 b.val) 256#32)) (BitVec.ofNat 32 k.val)
      = BitVec.ofNat 32 (e.val * 1024 + b.val * 256 + k.val) := by
    apply BitVec.eq_of_toNat_eq
    show ((BitVec.ofNat 32 e.val * 1024#32 + BitVec.ofNat 32 b.val * 256#32) + BitVec.ofNat 32 k.val).toNat = _
    simp only [BitVec.toNat_add, BitVec.toNat_mul, BitVec.toNat_ofNat]
    omega
  rw [h, BitVec.toInt_eq_toNat_of_lt (by rw [BitVec.toNat_ofNat]; omega), BitVec.toNat_ofNat]
  omega

/-- What a token takes of one expert: the row at its slot, or nothing. -/
theorem picked (w : BitVec 32) (f : Fin 256 → EReal) (g : EReal) (hg : ∀ k : Fin 256, w = BitVec.ofNat 32 k.val → g = f k) :
    ∑ k : Fin 256, (if w.toInt = ((k.val : ℕ) : ℤ) then (1 : EReal) else 0) * f k
      = Scalar.select (IntOp.andi (IntOp.cmpi .sge w 0#32) (IntOp.cmpi .slt w 256#32)) g 0 := by
  by_cases h : ∃ k : Fin 256, w.toInt = ((k.val : ℕ) : ℤ)
  · obtain ⟨k, hk⟩ := h
    obtain rfl : w = BitVec.ofNat 32 k.val := BitVec.eq_of_toInt_eq (hk.trans (slot_toInt k).symm)
    rw [inside, hg k rfl]
    refine (Finset.sum_eq_single k (fun n _ hn => ?_) (fun hn => absurd (Finset.mem_univ _) hn)).trans ?_
    · rw [if_neg (fun e => hn (Fin.ext (by rw [slot_toInt] at e; omega))), zero_mul]
    · rw [if_pos (slot_toInt k), one_mul]; rfl
  · rw [outside w (fun k hk => h ⟨k, hk⟩)]
    refine (Finset.sum_eq_zero fun n _ => ?_).trans rfl
    rw [if_neg (fun e => h ⟨n, e⟩), zero_mul]

/-- The reference's row of one expert. -/
theorem expert_row (b : Fin 4) (r : Fin 2048) (e : Fin 16) (d : Fin 2048) (k : Fin 256) (h : x0 (ix3 b e ⟨256 + r.val, by omega⟩) = BitVec.ofNat 32 k.val) :
    val_main_v22 (F := Ideal) x0 x1 (ix4 b r e d) = x1 (ix3 e ⟨b.val * 256 + k.val, by omega⟩ d) := by
  unfold val_main_v22
  rw [row_lookup]
  have hz : val_main_call1_v0 (F := Ideal) x0 (ix4 b r e 0) = IntOp.addi (IntOp.addi (IntOp.muli (BitVec.ofNat 32 e.val) 1024#32) (IntOp.muli (BitVec.ofNat 32 b.val) 256#32)) (BitVec.ofNat 32 k.val) := by
    rw [val_main_call1_v0_apply, val_main_v21_apply, val_main_v20_apply, val_main_v17_apply, val_main_v15_apply, val_main_v16_apply,
      val_main_v10_apply, val_main_v14_apply, val_main_v8_apply, val_main_v9_apply, val_main_v12_apply, val_main_v13_apply, val_main_v7_apply,
      val_main_v11_apply, val_main_v19_apply, val_main_call0_v4_apply, val_main_call0_v2_apply, val_main_call0_v1_apply, val_main_v1_apply, val_main_v0_apply]
    have hs : x0 (idx_main_v0 (idx_main_v1 (idx_main_call1_v0 (ix4 b r e 0)))) = BitVec.ofNat 32 k.val :=
      (congrArg x0 (by funext i; apply Fin.ext; fin_cases i <;> rfl)).trans h
    rw [hs]
    exact congrArg _ (clipped k)
  have hz' : (val_main_call1_v0 (F := Ideal) x0 (ix4 b r e 0)).toInt.toNat = e.val * 1024 + b.val * 256 + k.val := by rw [hz, place]
  rw [val_main_v18_apply]
  refine congrArg x1 (funext fun a => Fin.ext ?_)
  have h0 : (ix2 (⟨min (val_main_call1_v0 (F := Ideal) x0 (ix4 b r e 0)).toInt.toNat 16383, by omega⟩ : Fin 16384) d 0).val = e.val * 1024 + b.val * 256 + k.val := by
    show min _ _ = _
    rw [hz']; omega
  match a with
  | ⟨0, _⟩ => show ((ix2 (⟨min (val_main_call1_v0 (F := Ideal) x0 (ix4 b r e 0)).toInt.toNat 16383, by omega⟩ : Fin 16384) d 0).val * 2048 + d.val) / 2097152 = e.val; omega
  | ⟨1, _⟩ => show ((ix2 (⟨min (val_main_call1_v0 (F := Ideal) x0 (ix4 b r e 0)).toInt.toNat 16383, by omega⟩ : Fin 16384) d 0).val * 2048 + d.val) / 2048 % 1024 = b.val * 256 + k.val; omega
  | ⟨2, _⟩ => show ((ix2 (⟨min (val_main_call1_v0 (F := Ideal) x0 (ix4 b r e 0)).toInt.toNat 16383, by omega⟩ : Fin 16384) d 0).val * 2048 + d.val) % 2048 = d.val; omega

/-- The reference's term of one expert. -/
theorem expert_term (b : Fin 4) (r : Fin 2048) (e : Fin 16) (d : Fin 2048) :
    val_main_v24 (F := Ideal) x0 x1 (ix4 b r e d) = ∑ k : Fin 256, (if (x0 (ix3 b e ⟨256 + r.val, by omega⟩) : BitVec 32).toInt = ((k.val : ℕ) : ℤ) then (1 : EReal) else 0)
      * x1 (ix3 e ⟨b.val * 256 + k.val, by omega⟩ d) := by
  rw [picked _ _ (val_main_v22 (F := Ideal) x0 x1 (ix4 b r e d)) (fun k hk => expert_row x0 x1 b r e d k hk), val_main_v24_apply, val_main_call2_v1_apply,
    val_main_v23_apply, val_main_v6_apply, val_main_v3_apply, val_main_v5_apply, val_main_v1_apply, val_main_v0_apply]
  have hs : x0 (idx_main_v0 (idx_main_v1 (idx_main_v23 (idx_main_call2_v1 (ix4 b r e d))))) = x0 (ix3 b e ⟨256 + r.val, by omega⟩) :=
    congrArg x0 (by funext i; apply Fin.ext; fin_cases i <;> rfl)
  rw [hs]
  exact congrArg _ ofBits_zero

/-- The reference's result. -/
theorem result_eq (b : Fin 4) (r : Fin 2048) (d : Fin 2048) :
    val_main_v32 (F := Ideal) x0 x1 x3 x4 (ix3 b r d) = result x0 x1 x3 x4 b r d := by
  rw [val_main_v32_apply, val_main_v31_apply, val_main_v30_apply, val_main_v29_apply, val_main_v28_apply, val_main_v27_apply, val_main_v26_apply, val_main_v25_apply]
  unfold result
  refine congrArg₂ (· + ·) (congrArg x3 (by funext i; apply Fin.ext; fin_cases i <;> rfl))
    (congrArg₂ (· * ·) (congrArg x4 (by funext i; apply Fin.ext; fin_cases i <;> simp [ix3] <;> omega)) ?_)
  refine (congrArg₂ (· + ·) ofBits_zero (Finset.sum_congr rfl fun e _ => (congrArg _ (by funext i; apply Fin.ext; fin_cases i <;> rfl)).trans
    (expert_term x0 x1 b r e d))).trans ((zero_add _).trans ?_)
  refine (Fintype.sum_prod_type' (fun (e : Fin 16) (k : Fin 256) => (if (x0 (ix3 b e ⟨256 + r.val, by omega⟩) : BitVec 32).toInt = ((k.val : ℕ) : ℤ) then (1 : EReal) else 0)
      * x1 (ix3 e ⟨b.val * 256 + k.val, by omega⟩ d))).symm.trans ?_
  refine Fintype.sum_equiv (finProdFinEquiv (m := 16) (n := 256)) _ _ fun p => ?_
  have hv : (finProdFinEquiv p).val = p.2.val + 256 * p.1.val := rfl
  have h1 : ∀ h, (⟨(finProdFinEquiv p).val / 256, h⟩ : Fin 16) = p.1 := fun _ => Fin.ext (by show _ / 256 = _; rw [hv]; omega)
  have h2 : (finProdFinEquiv p).val % 256 = p.2.val := by rw [hv]; omega
  unfold seated
  simp only [h1, h2]

end Cert.ReferenceCombineIdeal.Combined

namespace Cert.Proof.CombineClaims

open Idealize.ShloMosaic Idealize.ShloMosaic.TcCoe Idealize.SL.Sem

theorem preserves : Cert.preserves_KernelCombine_KernelCombineIdeal := trivial

/-- The reference leaves its arguments and holds no semaphore. -/
theorem frame_reference : Cert.quiescent_ReferenceCombineIdeal := fun m ρ _ =>
  (θ_run Cert.ReferenceCombineIdeal.defs _ _).mono (fun r h => ⟨fun c => (h c).2,
      Idealize.ShloMosaic.sem_eq_zero_of_no_sems (by decide) r.2⟩)
    (Cert.ReferenceCombineIdeal.Value.run (F := Ideal) m ρ)

/-- An index of three coordinates, put together again. -/
theorem ix3_eta {A B C : ℕ} (i : (⟨3, ![A, B, C]⟩ : Shape).Idx) : i = ix3 (i 0) (i 1) (i 2) := by
  funext a; fin_cases a <;> rfl

/-- Kernel and reference leave the same stream. -/
theorem algebraic : Cert.algebraic_KernelCombineIdeal_ReferenceCombineIdeal := by
  intro m ρ m' ρ' _ hagree
  refine ⟨fun c => (Cert.KernelCombineIdeal.Gen.dats m 0 c).arrAt 5 Cert.KernelCombineIdeal.cfg0.N, ?_, ?_⟩
  · exact Cert.KernelCombineIdeal.Value.run_blocks (F := Ideal) m ρ
  · refine (θ_run Cert.ReferenceCombineIdeal.defs _ _).mono
      (fun _ h c => ⟨(h c).1.trans ?_, (h c).2⟩)
      (Cert.ReferenceCombineIdeal.Value.run (F := Ideal) m' ρ')
    refine Eq.trans ?_ (Cert.KernelCombineIdeal.Combined.final5 m c).symm
    refine (Cert.ReferenceCombineIdeal.Read.val_main_v32_eq (F := Ideal) _ _ _ _).trans ?_
    obtain ⟨h0, h1, h2, h3, h4, h5⟩ := hagree c
    rw [h0, h1, h3, h4]
    exact funext fun i => (congrArg _ (ix3_eta i)).trans (Cert.ReferenceCombineIdeal.Combined.result_eq _ _ _ _ _ _ _)

end Cert.Proof.CombineClaims

end
-- ==== Proof.PreparePay.lean ====
module

public import proofs.«01_k».proof.Defs
public import proofs.«01_k».proof.Proof.Gen.KernelPrepareIdeal.Skeleton
public import proofs.«01_k».proof.Proof.Outproj

/-!
The input projection call: what it computes of a tile of rows for its first three results.
-/

@[expose] public section

set_option maxRecDepth 16384

noncomputable section

namespace Cert.KernelPrepareIdeal.Prepared

open Cert.KernelPrepareIdeal Cert.KernelPrepareIdeal.Gen Idealize.ShloMosaic Idealize.ShloMosaic.TcCoe Idealize.SL.Sem Cert.Softmax
open Cert.KernelOutprojIdeal.Projected (row normed)

/-- The normalised row. -/
theorem normed_apply (x : Vec Ideal S1x256x2048 .f32) (g : Vec Ideal S1x2048 .f32) (r : Fin 256) (d : Fin 2048) :
    k0_pay3 x g (ix2 r d) = normed (fun d => x (ix3 0 r d)) (g (ix2 0 d)) d := by
  unfold k0_pay3 normed
  pointwise

/-- The modulated row. -/
theorem modulated_apply (w : FVec Ideal S256x2048 .f32) (a b : Vec Ideal S1x1x2048 .f32) (r : Fin 256) (d : Fin 2048) :
    k0_pay5 w (k0_pay4 a) b (ix2 r d)
      = (w (ix2 r d) * (Ideal.ofBits .f32 0x3F800000#32 + a (ix3 0 0 d)) + b (ix3 0 0 d) : EReal) := by
  unfold k0_pay5 k0_pay4
  pointwise

/-- The stored rows are the modulated rows. -/
theorem stored20 (w : FVec Ideal S256x2048 .f32) (a : FVec Ideal S1x2048 .f32) (b : Vec Ideal S1x1x2048 .f32) (y : S1x256x2048.Idx) :
    k0_pay6 w a b y = k0_pay5 w a b (ix2 (y 1) (y 2)) := by
  unfold k0_pay6
  generalize k0_pay5 w a b = u
  pointwise

/-- A value row of the tile: the weights' row against the modulated rows. -/
theorem value_apply (w : FVec Ideal S256x2048 .f32) (a : FVec Ideal S1x2048 .f32) (b : Vec Ideal S1x1x2048 .f32) (v : Vec Ideal S1x640x2048 .bf16)
    (n : Fin 640) (r : Fin 256) : k0_pay8 w a b v (ix2 n r) = (∑ d : Fin 2048, v (ix3 0 n d) * k0_pay5 w a b (ix2 r d) : EReal) := by
  unfold k0_pay8
  generalize k0_pay5 w a b = u
  pointwise

/-- The first eight heads' value rows, head by head. -/
theorem stored21 (w : FVec Ideal S256x2048 .f32) (a : FVec Ideal S1x2048 .f32) (b : Vec Ideal S1x1x2048 .f32) (v : Vec Ideal S1x640x2048 .bf16)
    (y : S1x8x64x256.Idx) : k0_pay9 w a b v y
      = k0_pay8 w a b v (ix2 ⟨(y 1).val * 64 + (y 2).val, by
          have h1 : (y 1).val < 8 := (y 1).isLt; have h2 : (y 2).val < 64 := (y 2).isLt; omega⟩ (y 3)) := by
  have h1 : (y 1).val < 8 := (y 1).isLt
  have h2 : (y 2).val < 64 := (y 2).isLt
  unfold k0_pay9
  generalize k0_pay8 w a b v = u
  pointwise

/-- The last two heads' value rows, head by head. -/
theorem stored22 (u : FVec Ideal S640x256 .bf16) (y : S1x2x64x256.Idx) : k0_pay12 u y
      = u (ix2 ⟨512 + ((y 1).val * 64 + (y 2).val), by
          have h1 : (y 1).val < 2 := (y 1).isLt; have h2 : (y 2).val < 64 := (y 2).isLt; omega⟩ (y 3)) := by
  have h1 : (y 1).val < 2 := (y 1).isLt
  have h2 : (y 2).val < 64 := (y 2).isLt
  unfold k0_pay12
  pointwise

/-- Of sixteen rows the first is picked. -/
theorem one_first (n : Fin 16) :
    Scalar.select (IntOp.cmpi CmpIPredicate.eq (BitVec.ofNat 32 n.val) 0#32) (1 : EReal) 0 = if n.val = 0 then 1 else 0 := by
  have h : ∀ n : Fin 16, IntOp.cmpi CmpIPredicate.eq (BitVec.ofNat 32 n.val) 0#32 = if n.val = 0 then 1#1 else 0#1 := by decide
  rw [h n]
  split_ifs <;> rfl

/-- The rows under the values: a row of ones, then zeros. -/
theorem ones21 (y : S1x8x16x256.Idx) : (k0_pay11 k0_pay10 : FVec Ideal S1x8x16x256 .bf16) y
    = (if (y 2).val = 0 then 1 else 0 : EReal) := by
  unfold k0_pay11 k0_pay10
  pointwise
  exact one_first (y 2)

theorem ones22 (y : S1x2x16x256.Idx) : (k0_pay13 : FVec Ideal S1x2x16x256 .bf16) y
    = (if (y 2).val = 0 then 1 else 0 : EReal) := by
  unfold k0_pay13
  pointwise
  exact one_first (y 2)

end Cert.KernelPrepareIdeal.Prepared

end
-- ==== Proof.PrepareCoverA.lean ====
module

public import proofs.«01_k».proof.Proof.Gen.KernelPrepareIdeal.Frame.RunA

/-!
The input projection at a first point: its stores cover each result's block, and what they leave there.
-/

@[expose] public section

set_option maxRecDepth 16384

noncomputable section

namespace Cert.KernelPrepareIdeal.Region

open Cert.KernelPrepareIdeal Cert.KernelPrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .vmem S1x256x2048 .f32) (harg1 : arg1.IsWhole) (arg2 : Memref sig .tc .vmem S1x2048 .f32)
  (harg2 : arg2.IsWhole) (arg3 : Memref sig .tc .vmem S1x12x2048 .f32) (harg3 : arg3.IsWhole) (arg4 : Memref sig .tc .vmem S1x2048x2560 .bf16) (harg4 :
  arg4.IsWhole) (arg5 : Memref sig .tc .vmem S1x640x2048 .bf16) (harg5 : arg5.IsWhole) (arg6 : Memref sig .tc .vmem S256x128 .f32) (harg6 :
  arg6.IsWhole) (arg7 : Memref sig .tc .vmem S256x128 .f32) (harg7 : arg7.IsWhole) (arg8 : Memref sig .tc .vmem S256x128 .f32) (harg8 : arg8.IsWhole)
  (arg9 : Memref sig .tc .vmem S256x128 .f32) (harg9 : arg9.IsWhole) (arg10 : Memref sig .tc .vmem S1x128 .f32) (harg10 : arg10.IsWhole) (arg11 : Memref
  sig .tc .vmem S1x128 .f32) (harg11 : arg11.IsWhole) (arg12 : Memref sig .tc .vmem S1x128 .f32) (harg12 : arg12.IsWhole) (arg13 : Memref sig .tc .vmem
  S1x128 .f32) (harg13 : arg13.IsWhole) (arg14 : Memref sig .tc .vmem S1x512 .f32) (harg14 : arg14.IsWhole) (arg15 : Memref sig .tc .vmem S1x256 .f32)
  (harg15 : arg15.IsWhole) (arg16 : Memref sig .tc .vmem S1x128 .f32) (harg16 : arg16.IsWhole) (arg17 : Memref sig .tc .vmem S1x128 .f32) (harg17 :
  arg17.IsWhole) (arg18 : Memref sig .tc .vmem S512x1024 .bf16) (harg18 : arg18.IsWhole) (arg19 : Memref sig .tc .vmem S256x1024 .bf16) (harg19 :
  arg19.IsWhole) (arg20 : Memref sig .tc .vmem S512x256 .bf16) (harg20 : arg20.IsWhole) (arg21 : Memref sig .tc .vmem S1x256x2048 .bf16) (harg21 :
  arg21.IsWhole) (arg22 : Memref sig .tc .vmem S1x8x80x256 .bf16) (harg22 : arg22.IsWhole) (arg23 : Memref sig .tc .vmem S1x2x80x256 .bf16) (harg23 :
  arg23.IsWhole) (arg24 : Memref sig .tc .vmem S1x8x256x64 .bf16) (harg24 : arg24.IsWhole) (arg25 : Memref sig .tc .vmem S1x8x256x64 .bf16) (harg25 :
  arg25.IsWhole) (arg26 : Memref sig .tc .vmem S1x8x256x128 .bf16) (harg26 : arg26.IsWhole) (arg27 : Memref sig .tc .vmem S1x8x256x128 .bf16) (harg27 :
  arg27.IsWhole) (arg28 : Memref sig .tc .vmem S1x8x80x256 .bf16) (harg28 : arg28.IsWhole) (arg29 : Memref sig .tc .vmem S1x8x256x64 .bf16) (harg29 :
  arg29.IsWhole) (arg30 : Memref sig .tc .vmem S1x2x256x64 .bf16) (harg30 : arg30.IsWhole) (arg31 : Memref sig .tc .vmem S2x256x2560 .f32) (harg31 :
  arg31.IsWhole) (arg32 : Memref sig .tc .vmem S256x2048 .f32) (harg32 : arg32.IsWhole) (hc0 : cond0_0 i) (hl0 : k0_off2 i = ![0, 0, 0]) (hl1 : k0_off3
  i = ![1, 0, 0]) (x0 : Vec F S1x256x2048 .f32) (x1 : Vec F S1x2048 .f32) (x2 : Vec F S1x12x2048 .f32) (x3 : Vec F S1x2048x2560 .bf16) (x4 : Vec F
  S1x640x2048 .bf16) (x5 : Vec F S256x128 .f32) (x6 : Vec F S256x128 .f32) (x7 : Vec F S256x128 .f32) (x8 : Vec F S256x128 .f32) (x9 : Vec F S1x128
  .f32) (x10 : Vec F S1x128 .f32) (x11 : Vec F S1x128 .f32) (x12 : Vec F S1x128 .f32) (x13 : Vec F S1x512 .f32) (x14 : Vec F S1x256 .f32) (x15 : Vec F
  S1x128 .f32) (x16 : Vec F S1x128 .f32) (x17 : Vec F S512x1024 .bf16) (x18 : Vec F S256x1024 .bf16) (x19 : Vec F S512x256 .bf16)

/-- The stores into window 20 cover its block. -/
theorem cover0_A_20 (y : S1x256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).1 S1x256x2048.size (by sl_kernel_rfl) y

/-- What is left in window 20's block. -/
def out0_A_20 : Vec F S1x256x2048 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).1)

/-- The stores into window 21 cover its block. -/
theorem cover0_A_21 (y : S1x8x80x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.1 ![1, 8, 16, 256] (by sl_kernel_rfl) y

/-- What is left in window 21's block. -/
def out0_A_21 : Vec F S1x8x80x256 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.1)

/-- The stores into window 22 cover its block. -/
theorem cover0_A_22 (y : S1x2x80x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.1 ![1, 2, 16, 256] (by sl_kernel_rfl) y

/-- What is left in window 22's block. -/
def out0_A_22 : Vec F S1x2x80x256 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.1)

/-- The stores into window 23 cover its block. -/
theorem cover0_A_23 (y : S1x8x256x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.1 S1x1x64x64.size (by sl_kernel_rfl) y

/-- What is left in window 23's block. -/
def out0_A_23 : Vec F S1x8x256x64 .bf16 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.1)

/-- The stores into window 24 cover its block. -/
theorem cover0_A_24 (y : S1x8x256x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.1 S1x1x64x64.size (by sl_kernel_rfl) y

/-- What is left in window 24's block. -/
def out0_A_24 : Vec F S1x8x256x64 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.1)

/-- The stores into window 25 cover its block. -/
theorem cover0_A_25 (y : S1x8x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.1 S1x1x64x128.size (by sl_kernel_rfl) y

/-- What is left in window 25's block. -/
def out0_A_25 : Vec F S1x8x256x128 .bf16 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.1)

/-- The stores into window 26 cover its block. -/
theorem cover0_A_26 (y : S1x8x256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.1 S1x1x64x128.size (by sl_kernel_rfl) y

/-- What is left in window 26's block. -/
def out0_A_26 : Vec F S1x8x256x128 .bf16 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.1)

/-- The stores into window 27 cover its block. -/
theorem cover0_A_27 (y : S1x8x80x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.1 ![1, 8, 16, 256] (by sl_kernel_rfl) y

/-- What is left in window 27's block. -/
def out0_A_27 : Vec F S1x8x80x256 .bf16 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.1)

/-- The stores into window 28 cover its block. -/
theorem cover0_A_28 (y : S1x8x256x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.1 S1x1x64x64.size (by sl_kernel_rfl) y

/-- What is left in window 28's block. -/
def out0_A_28 : Vec F S1x8x256x64 .bf16 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.1)

/-- The stores into window 29 cover its block. -/
theorem cover0_A_29 (y : S1x2x256x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.2.1 S1x1x64x64.size (by sl_kernel_rfl) y

/-- What is left in window 29's block. -/
def out0_A_29 : Vec F S1x2x256x64 .bf16 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.2.1)

/-- The stores into scratch 0 cover it. -/
theorem scover0_A_0 (y : S2x256x2560.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.2.2.1 S1x256x2560.size (by sl_kernel_rfl) y

/-- What is left in scratch 0. -/
def sout0_A_0 : Vec F S2x256x2560 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hl0 hl1 x0 x1 x2 x3 x4 x5 x6 x7 x8 x9 x10 x11 x12 x13 x14 x15 x16 x17 x18 x19).2.2.2.2.2.2.2.2.2.2.1)

end Cert.KernelPrepareIdeal.Region

end
-- ==== Proof.PrepareCoverB.lean ====
module

public import proofs.«01_k».proof.Proof.Gen.KernelPrepareIdeal.Frame.RunB

/-!
The input projection at an odd later point: its stores cover each result's block, and what they leave there.
-/

@[expose] public section

set_option maxRecDepth 16384

noncomputable section

namespace Cert.KernelPrepareIdeal.Region

open Cert.KernelPrepareIdeal Cert.KernelPrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .vmem S1x256x2048 .f32) (harg1 : arg1.IsWhole) (arg2 : Memref sig .tc .vmem S1x2048 .f32)
  (harg2 : arg2.IsWhole) (arg3 : Memref sig .tc .vmem S1x12x2048 .f32) (harg3 : arg3.IsWhole) (arg4 : Memref sig .tc .vmem S1x2048x2560 .bf16) (harg4 :
  arg4.IsWhole) (arg5 : Memref sig .tc .vmem S1x640x2048 .bf16) (harg5 : arg5.IsWhole) (arg6 : Memref sig .tc .vmem S256x128 .f32) (harg6 :
  arg6.IsWhole) (arg7 : Memref sig .tc .vmem S256x128 .f32) (harg7 : arg7.IsWhole) (arg8 : Memref sig .tc .vmem S256x128 .f32) (harg8 : arg8.IsWhole)
  (arg9 : Memref sig .tc .vmem S256x128 .f32) (harg9 : arg9.IsWhole) (arg10 : Memref sig .tc .vmem S1x128 .f32) (harg10 : arg10.IsWhole) (arg11 : Memref
  sig .tc .vmem S1x128 .f32) (harg11 : arg11.IsWhole) (arg12 : Memref sig .tc .vmem S1x128 .f32) (harg12 : arg12.IsWhole) (arg13 : Memref sig .tc .vmem
  S1x128 .f32) (harg13 : arg13.IsWhole) (arg14 : Memref sig .tc .vmem S1x512 .f32) (harg14 : arg14.IsWhole) (arg15 : Memref sig .tc .vmem S1x256 .f32)
  (harg15 : arg15.IsWhole) (arg16 : Memref sig .tc .vmem S1x128 .f32) (harg16 : arg16.IsWhole) (arg17 : Memref sig .tc .vmem S1x128 .f32) (harg17 :
  arg17.IsWhole) (arg18 : Memref sig .tc .vmem S512x1024 .bf16) (harg18 : arg18.IsWhole) (arg19 : Memref sig .tc .vmem S256x1024 .bf16) (harg19 :
  arg19.IsWhole) (arg20 : Memref sig .tc .vmem S512x256 .bf16) (harg20 : arg20.IsWhole) (arg21 : Memref sig .tc .vmem S1x256x2048 .bf16) (harg21 :
  arg21.IsWhole) (arg22 : Memref sig .tc .vmem S1x8x80x256 .bf16) (harg22 : arg22.IsWhole) (arg23 : Memref sig .tc .vmem S1x2x80x256 .bf16) (harg23 :
  arg23.IsWhole) (arg24 : Memref sig .tc .vmem S1x8x256x64 .bf16) (harg24 : arg24.IsWhole) (arg25 : Memref sig .tc .vmem S1x8x256x64 .bf16) (harg25 :
  arg25.IsWhole) (arg26 : Memref sig .tc .vmem S1x8x256x128 .bf16) (harg26 : arg26.IsWhole) (arg27 : Memref sig .tc .vmem S1x8x256x128 .bf16) (harg27 :
  arg27.IsWhole) (arg28 : Memref sig .tc .vmem S1x8x80x256 .bf16) (harg28 : arg28.IsWhole) (arg29 : Memref sig .tc .vmem S1x8x256x64 .bf16) (harg29 :
  arg29.IsWhole) (arg30 : Memref sig .tc .vmem S1x2x256x64 .bf16) (harg30 : arg30.IsWhole) (arg31 : Memref sig .tc .vmem S2x256x2560 .f32) (harg31 :
  arg31.IsWhole) (arg32 : Memref sig .tc .vmem S256x2048 .f32) (harg32 : arg32.IsWhole) (hc0 : ¬cond0_0 i) (hc1 : ¬cond0_1 i) (hl0 : k0_off2 i = ![1, 0,
  0]) (hl1 : k0_off3 i = ![0, 0, 0]) (x0 : Vec F S1x256x2048 .f32) (x1 : Vec F S1x2048 .f32) (x2 : Vec F S1x12x2048 .f32) (x3 : Vec F S1x2048x2560
  .bf16) (x4 : Vec F S1x640x2048 .bf16) (x5 : Vec F S256x128 .f32) (x6 : Vec F S256x128 .f32) (x7 : Vec F S256x128 .f32) (x8 : Vec F S256x128 .f32) (x9
  : Vec F S1x128 .f32) (x10 : Vec F S1x128 .f32) (x11 : Vec F S1x128 .f32) (x12 : Vec F S1x128 .f32) (x13 : Vec F S1x512 .f32) (x14 : Vec F S1x256 .f32)
  (x15 : Vec F S1x128 .f32) (x16 : Vec F S1x128 .f32) (x17 : Vec F S512x1024 .bf16) (x18 : Vec F S256x1024 .bf16) (x19 : Vec F S512x256 .bf16) (xs0 :
  Vec F S2x256x2560 .f32)

/-- The stores into window 20 cover its block. -/
theorem cover0_B_20 (y : S1x256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).1 S1x256x2048.size (by sl_kernel_rfl) y

/-- What is left in window 20's block. -/
def out0_B_20 : Vec F S1x256x2048 .bf16 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).1)

/-- The stores into window 21 cover its block. -/
theorem cover0_B_21 (y : S1x8x80x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.1 ![1, 8, 16, 256] (by sl_kernel_rfl) y

/-- What is left in window 21's block. -/
def out0_B_21 : Vec F S1x8x80x256 .bf16 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.1)

/-- The stores into window 22 cover its block. -/
theorem cover0_B_22 (y : S1x2x80x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.1 ![1, 2, 16, 256] (by sl_kernel_rfl) y

/-- What is left in window 22's block. -/
def out0_B_22 : Vec F S1x2x80x256 .bf16 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.1)

/-- The stores into window 23 cover its block. -/
theorem cover0_B_23 (y : S1x8x256x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.1 S1x1x64x64.size (by sl_kernel_rfl) y

/-- What is left in window 23's block. -/
def out0_B_23 : Vec F S1x8x256x64 .bf16 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.1)

/-- The stores into window 24 cover its block. -/
theorem cover0_B_24 (y : S1x8x256x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.1 S1x1x64x64.size (by sl_kernel_rfl) y

/-- What is left in window 24's block. -/
def out0_B_24 : Vec F S1x8x256x64 .bf16 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.1)

/-- The stores into window 25 cover its block. -/
theorem cover0_B_25 (y : S1x8x256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.1 S1x1x64x128.size (by sl_kernel_rfl) y

/-- What is left in window 25's block. -/
def out0_B_25 : Vec F S1x8x256x128 .bf16 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.1)

/-- The stores into window 26 cover its block. -/
theorem cover0_B_26 (y : S1x8x256x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.1 S1x1x64x128.size (by sl_kernel_rfl) y

/-- What is left in window 26's block. -/
def out0_B_26 : Vec F S1x8x256x128 .bf16 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.1)

/-- The stores into window 27 cover its block. -/
theorem cover0_B_27 (y : S1x8x80x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.1 ![1, 8, 16, 256] (by sl_kernel_rfl) y

/-- What is left in window 27's block. -/
def out0_B_27 : Vec F S1x8x80x256 .bf16 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.1)

/-- The stores into window 28 cover its block. -/
theorem cover0_B_28 (y : S1x8x256x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.1 S1x1x64x64.size (by sl_kernel_rfl) y

/-- What is left in window 28's block. -/
def out0_B_28 : Vec F S1x8x256x64 .bf16 :=
  VO0_28.read (Elt F) (VO0_28.writes (Elt F) VO0_28.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.1)

/-- The stores into window 29 cover its block. -/
theorem cover0_B_29 (y : S1x2x256x64.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.2.1 S1x1x64x64.size (by sl_kernel_rfl) y

/-- What is left in window 29's block. -/
def out0_B_29 : Vec F S1x2x256x64 .bf16 :=
  VO0_29.read (Elt F) (VO0_29.writes (Elt F) VO0_29.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.2.1)

/-- What is left in scratch 0. -/
def sout0_B_0 : Vec F S2x256x2560 .f32 :=
  arg31.view.read (Elt F) (arg31.view.writes (Elt F) (harg31.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.2.2.1)

end Cert.KernelPrepareIdeal.Region

end
-- ==== Proof.PrepareCoverC.lean ====
module

public import proofs.«01_k».proof.Proof.Gen.KernelPrepareIdeal.Frame.RunC

/-!
The input projection at an even later point: its stores cover each result's block, and what they leave there.
-/

@[expose] public section

set_option maxRecDepth 16384

noncomputable section

namespace Cert.KernelPrepareIdeal.Region

open Cert.KernelPrepareIdeal Cert.KernelPrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords) (arg1 : Memref sig .tc .vmem S1x256x2048 .f32) (harg1 : arg1.IsWhole) (arg2 : Memref sig .tc .vmem S1x2048 .f32)
  (harg2 : arg2.IsWhole) (arg3 : Memref sig .tc .vmem S1x12x2048 .f32) (harg3 : arg3.IsWhole) (arg4 : Memref sig .tc .vmem S1x2048x2560 .bf16) (harg4 :
  arg4.IsWhole) (arg5 : Memref sig .tc .vmem S1x640x2048 .bf16) (harg5 : arg5.IsWhole) (arg6 : Memref sig .tc .vmem S256x128 .f32) (harg6 :
  arg6.IsWhole) (arg7 : Memref sig .tc .vmem S256x128 .f32) (harg7 : arg7.IsWhole) (arg8 : Memref sig .tc .vmem S256x128 .f32) (harg8 : arg8.IsWhole)
  (arg9 : Memref sig .tc .vmem S256x128 .f32) (harg9 : arg9.IsWhole) (arg10 : Memref sig .tc .vmem S1x128 .f32) (harg10 : arg10.IsWhole) (arg11 : Memref
  sig .tc .vmem S1x128 .f32) (harg11 : arg11.IsWhole) (arg12 : Memref sig .tc .vmem S1x128 .f32) (harg12 : arg12.IsWhole) (arg13 : Memref sig .tc .vmem
  S1x128 .f32) (harg13 : arg13.IsWhole) (arg14 : Memref sig .tc .vmem S1x512 .f32) (harg14 : arg14.IsWhole) (arg15 : Memref sig .tc .vmem S1x256 .f32)
  (harg15 : arg15.IsWhole) (arg16 : Memref sig .tc .vmem S1x128 .f32) (harg16 : arg16.IsWhole) (arg17 : Memref sig .tc .vmem S1x128 .f32) (harg17 :
  arg17.IsWhole) (arg18 : Memref sig .tc .vmem S512x1024 .bf16) (harg18 : arg18.IsWhole) (arg19 : Memref sig .tc .vmem S256x1024 .bf16) (harg19 :
  arg19.IsWhole) (arg20 : Memref sig .tc .vmem S512x256 .bf16) (harg20 : arg20.IsWhole) (arg21 : Memref sig .tc .vmem S1x256x2048 .bf16) (harg21 :
  arg21.IsWhole) (arg22 : Memref sig .tc .vmem S1x8x80x256 .bf16) (harg22 : arg22.IsWhole) (arg23 : Memref sig .tc .vmem S1x2x80x256 .bf16) (harg23 :
  arg23.IsWhole) (arg24 : Memref sig .tc .vmem S1x8x256x64 .bf16) (harg24 : arg24.IsWhole) (arg25 : Memref sig .tc .vmem S1x8x256x64 .bf16) (harg25 :
  arg25.IsWhole) (arg26 : Memref sig .tc .vmem S1x8x256x128 .bf16) (harg26 : arg26.IsWhole) (arg27 : Memref sig .tc .vmem S1x8x256x128 .bf16) (harg27 :
  arg27.IsWhole) (arg28 : Memref sig .tc .vmem S1x8x80x256 .bf16) (harg28 : arg28.IsWhole) (arg29 : Memref sig .tc .vmem S1x8x256x64 .bf16) (harg29 :
  arg29.IsWhole) (arg30 : Memref sig .tc .vmem S1x2x256x64 .bf16) (harg30 : arg30.IsWhole) (arg31 : Memref sig .tc .vmem S2x256x2560 .f32) (harg31 :
  arg31.IsWhole) (arg32 : Memref sig .tc .vmem S256x2048 .f32) (harg32 : arg32.IsWhole) (hc0 : ¬cond0_0 i) (hc1 : cond0_1 i) (hl0 : k0_off2 i = ![0, 0,
  0]) (hl1 : k0_off3 i = ![1, 0, 0]) (x0 : Vec F S1x256x2048 .f32) (x1 : Vec F S1x2048 .f32) (x2 : Vec F S1x12x2048 .f32) (x3 : Vec F S1x2048x2560
  .bf16) (x4 : Vec F S1x640x2048 .bf16) (x5 : Vec F S256x128 .f32) (x6 : Vec F S256x128 .f32) (x7 : Vec F S256x128 .f32) (x8 : Vec F S256x128 .f32) (x9
  : Vec F S1x128 .f32) (x10 : Vec F S1x128 .f32) (x11 : Vec F S1x128 .f32) (x12 : Vec F S1x128 .f32) (x13 : Vec F S1x512 .f32) (x14 : Vec F S1x256 .f32)
  (x15 : Vec F S1x128 .f32) (x16 : Vec F S1x128 .f32) (x17 : Vec F S512x1024 .bf16) (x18 : Vec F S256x1024 .bf16) (x19 : Vec F S512x256 .bf16) (xs0 :
  Vec F S2x256x2560 .f32)

/-- The stores into window 20 cover its block. -/
theorem cover0_C_20 (y : S1x256x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).1 S1x256x2048.size (by sl_kernel_rfl) y

/-- What is left in window 20's block. -/
def out0_C_20 : Vec F S1x256x2048 .bf16 :=
  VO0_20.read (Elt F) (VO0_20.writes (Elt F) VO0_20.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).1)

/-- The stores into window 21 cover its block. -/
theorem cover0_C_21 (y : S1x8x80x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.1 ![1, 8, 16, 256] (by sl_kernel_rfl) y

/-- What is left in window 21's block. -/
def out0_C_21 : Vec F S1x8x80x256 .bf16 :=
  VO0_21.read (Elt F) (VO0_21.writes (Elt F) VO0_21.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.1)

/-- The stores into window 22 cover its block. -/
theorem cover0_C_22 (y : S1x2x80x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.1 ![1, 2, 16, 256] (by sl_kernel_rfl) y

/-- What is left in window 22's block. -/
def out0_C_22 : Vec F S1x2x80x256 .bf16 :=
  VO0_22.read (Elt F) (VO0_22.writes (Elt F) VO0_22.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.1)

/-- The stores into window 23 cover its block. -/
theorem cover0_C_23 (y : S1x8x256x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.1 S1x1x64x64.size (by sl_kernel_rfl) y

/-- What is left in window 23's block. -/
def out0_C_23 : Vec F S1x8x256x64 .bf16 :=
  VO0_23.read (Elt F) (VO0_23.writes (Elt F) VO0_23.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.1)

/-- The stores into window 24 cover its block. -/
theorem cover0_C_24 (y : S1x8x256x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.1 S1x1x64x64.size (by sl_kernel_rfl) y

/-- What is left in window 24's block. -/
def out0_C_24 : Vec F S1x8x256x64 .bf16 :=
  VO0_24.read (Elt F) (VO0_24.writes (Elt F) VO0_24.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.1)

/-- The stores into window 25 cover its block. -/
theorem cover0_C_25 (y : S1x8x256x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.1 S1x1x64x128.size (by sl_kernel_rfl) y

/-- What is left in window 25's block. -/
def out0_C_25 : Vec F S1x8x256x128 .bf16 :=
  VO0_25.read (Elt F) (VO0_25.writes (Elt F) VO0_25.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.1)

/-- The stores into window 26 cover its block. -/
theorem cover0_C_26 (y : S1x8x256x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.1 S1x1x64x128.size (by sl_kernel_rfl) y

/-- What is left in window 26's block. -/
def out0_C_26 : Vec F S1x8x256x128 .bf16 :=
  VO0_26.read (Elt F) (VO0_26.writes (Elt F) VO0_26.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.1)

/-- The stores into window 27 cover its block. -/
theorem cover0_C_27 (y : S1x8x80x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.1 ![1, 8, 16, 256] (by sl_kernel_rfl) y

/-- What is left in window 27's block. -/
def out0_C_27 : Vec F S1x8x80x256 .bf16 :=
  VO0_27.read (Elt F) (VO0_27.writes (Elt F) VO0_27.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.1)

/-- The stores into window 28 cover its block. -/
theorem cover0_C_28 (y : S1x8x256x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.1 S1x1x64x64.size (by sl_kernel_rfl) y

/-- What is left in window 28's block. -/
def out0_C_28 : Vec F S1x8x256x64 .bf16 :=
  VO0_28.read (Elt F) (VO0_28.writes (Elt F) VO0_28.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.1)

/-- The stores into window 29 cover its block. -/
theorem cover0_C_29 (y : S1x2x256x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.2.1 S1x1x64x64.size (by sl_kernel_rfl) y

/-- What is left in window 29's block. -/
def out0_C_29 : Vec F S1x2x256x64 .bf16 :=
  VO0_29.read (Elt F) (VO0_29.writes (Elt F) VO0_29.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.2.1)

/-- What is left in scratch 0. -/
def sout0_C_0 : Vec F S2x256x2560 .f32 :=
  arg31.view.read (Elt F) (arg31.view.writes (Elt F) (harg31.unread xs0) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hl0 hl1 x0 x1 x2 x3 x4 x5 x6 x7 x8 x9 x10 x11 x12 x13 x14 x15 x16 x17 x18 x19 xs0).2.2.2.2.2.2.2.2.2.2.1)

end Cert.KernelPrepareIdeal.Region

end
-- ==== Proof.PrepareOuts.lean ====
module

public import proofs.«01_k».proof.Proof.PrepareCoverA
public import proofs.«01_k».proof.Proof.PrepareCoverB
public import proofs.«01_k».proof.Proof.PrepareCoverC

/-!
What the input projection's results and scratch hold after each point.
-/

@[expose] public section

set_option maxRecDepth 16384

noncomputable section

namespace Cert.KernelPrepareIdeal.Region

open Cert.KernelPrepareIdeal Cert.KernelPrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The slot of the scratch that a point writes and the one it reads: they alternate. -/

theorem hoff0_k0_off2_c0 : ∀ t : Fin cfg0.N, t.val % 37 = 0 → k0_off2 (grid0.coords t) = ![0, 0, 0] := by
  decide +kernel

theorem hoff0_k0_off3_c0 : ∀ t : Fin cfg0.N, t.val % 37 = 0 → k0_off3 (grid0.coords t) = ![1, 0, 0] := by
  decide +kernel

theorem hoff0_k0_off2_n1 : ∀ t : Fin cfg0.N, ¬(t.val % 2 = 0) → k0_off2 (grid0.coords t) = ![1, 0, 0] := by
  decide +kernel

theorem hoff0_k0_off3_n1 : ∀ t : Fin cfg0.N, ¬(t.val % 2 = 0) → k0_off3 (grid0.coords t) = ![0, 0, 0] := by
  decide +kernel

theorem hoff0_k0_off2_c1 : ∀ t : Fin cfg0.N, t.val % 2 = 0 → k0_off2 (grid0.coords t) = ![0, 0, 0] := by
  decide +kernel

theorem hoff0_k0_off3_c1 : ∀ t : Fin cfg0.N, t.val % 2 = 0 → k0_off3 (grid0.coords t) = ![1, 0, 0] := by
  decide +kernel

/-- What the ten results' blocks and the scratch hold after a point: the scratch goes from one point to the next. -/
def outsAt0 (c : Dev nD) : (n : ℕ) → n < cfg0.N → Vec F S1x256x2048 .bf16 × Vec F S1x8x80x256 .bf16 × Vec F S1x2x80x256 .bf16 × Vec F S1x8x256x64 .bf16 × Vec F S1x8x256x64 .bf16 × Vec F S1x8x256x128 .bf16 × Vec F S1x8x256x128 .bf16 × Vec F S1x8x80x256 .bf16 × Vec F S1x8x256x64 .bf16 × Vec F S1x2x256x64 .bf16 × Vec F S2x256x2560 .f32
  | 0, hn => (out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_23 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_24 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_26 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_27 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_28 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), out0_A_29 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) scM0_0 (Memref.isWhole_whole _) scM0_1 (Memref.isWhole_whole _) ((hcond0_0 ⟨0, hn⟩).mpr (Nat.zero_mod _)) (hoff0_k0_off2_c0 ⟨0, hn⟩ (Nat.zero_mod _)) (hoff0_k0_off3_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩))
  | n + 1, hn =>
    if h0 : (n + 1) % 37 = 0 then
      (out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), out0_A_29 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) ((hcond0_0 ⟨n + 1, hn⟩).mpr h0) (hoff0_k0_off2_c0 ⟨n + 1, hn⟩ h0) (hoff0_k0_off3_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩))
    else
      if h1 : (n + 1) % 2 = 0 then
        (out0_C_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_C_29 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off2_c1 ⟨n + 1, hn⟩ h1) (hoff0_k0_off3_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2)
      else
        (out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_23 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_24 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_26 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_27 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_28 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, out0_B_29 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off2_n1 ⟨n + 1, hn⟩ h1) (hoff0_k0_off3_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2.2.2.2.2.2.2.2.2.2)

/-- The same at a first point, at an odd later one and at an even later one. -/
theorem outsAt0_A (c : Dev nD) (t : Fin cfg0.N) (h0 : t.val % 37 = 0) :
    outsAt0 m c t.val t.isLt = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  obtain ⟨n, hn⟩ := t
  cases n with
  | zero => exact rfl
  | succ n => exact (dif_pos h0).trans rfl

theorem outsAt0_B (c : Dev nD) (t : Fin cfg0.N) (h0 : ¬t.val % 37 = 0) (h1 : ¬t.val % 2 = 0) :
    outsAt0 m c t.val t.isLt = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_B_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 37 = 0) (h1 : t.val % 2 = 0) :
    outsAt0 m c t.val t.isLt = (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_28 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, out0_C_29 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2.2.2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

end Cert.KernelPrepareIdeal.Region

end
-- ==== Proof.PrepareData.lean ====
module

public import proofs.«01_k».proof.Proof.PrepareOuts

/-!
The input projection's region: its data, and what its body is called with and returns.
-/

@[expose] public section

set_option maxRecDepth 16384

noncomputable section

namespace Cert.KernelPrepareIdeal.Region

open Cert.KernelPrepareIdeal Cert.KernelPrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between points the core owns the scratch at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2) ∗ (∃ d, owns (c : Thread nD τ) scM0_1 fullShare d)) ∗ (∃ r, prngReg c r)) := by
  cases n with
  | zero => exact absurd rfl hz
  | succ n => rfl

/-- The data of the region: the arrays as launched, and what the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨21, _⟩ => (outsAt0 m c t.val t.isLt).2.1
    | ⟨22, _⟩ => (outsAt0 m c t.val t.isLt).2.2.1
    | ⟨23, _⟩ => (outsAt0 m c t.val t.isLt).2.2.2.1
    | ⟨24, _⟩ => (outsAt0 m c t.val t.isLt).2.2.2.2.1
    | ⟨25, _⟩ => (outsAt0 m c t.val t.isLt).2.2.2.2.2.1
    | ⟨26, _⟩ => (outsAt0 m c t.val t.isLt).2.2.2.2.2.2.1
    | ⟨27, _⟩ => (outsAt0 m c t.val t.isLt).2.2.2.2.2.2.2.1
    | ⟨28, _⟩ => (outsAt0 m c t.val t.isLt).2.2.2.2.2.2.2.2.1
    | ⟨29, _⟩ => (outsAt0 m c t.val t.isLt).2.2.2.2.2.2.2.2.2.1
    | ⟨_ + 30, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What each window holds after the body. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]
theorem after0_21 (c : Dev nD) (t : Fin cfg0.N) : (dats m 0 c).after 21 t = (outsAt0 m c t.val t.isLt).2.1 := by dsimp only [dats]
theorem after0_22 (c : Dev nD) (t : Fin cfg0.N) : (dats m 0 c).after 22 t = (outsAt0 m c t.val t.isLt).2.2.1 := by dsimp only [dats]
theorem after0_23 (c : Dev nD) (t : Fin cfg0.N) : (dats m 0 c).after 23 t = (outsAt0 m c t.val t.isLt).2.2.2.1 := by dsimp only [dats]
theorem after0_24 (c : Dev nD) (t : Fin cfg0.N) : (dats m 0 c).after 24 t = (outsAt0 m c t.val t.isLt).2.2.2.2.1 := by dsimp only [dats]
theorem after0_25 (c : Dev nD) (t : Fin cfg0.N) : (dats m 0 c).after 25 t = (outsAt0 m c t.val t.isLt).2.2.2.2.2.1 := by dsimp only [dats]
theorem after0_26 (c : Dev nD) (t : Fin cfg0.N) : (dats m 0 c).after 26 t = (outsAt0 m c t.val t.isLt).2.2.2.2.2.2.1 := by dsimp only [dats]
theorem after0_27 (c : Dev nD) (t : Fin cfg0.N) : (dats m 0 c).after 27 t = (outsAt0 m c t.val t.isLt).2.2.2.2.2.2.2.1 := by dsimp only [dats]
theorem after0_28 (c : Dev nD) (t : Fin cfg0.N) : (dats m 0 c).after 28 t = (outsAt0 m c t.val t.isLt).2.2.2.2.2.2.2.2.1 := by dsimp only [dats]
theorem after0_29 (c : Dev nD) (t : Fin cfg0.N) : (dats m 0 c).after 29 t = (outsAt0 m c t.val t.isLt).2.2.2.2.2.2.2.2.2.1 := by dsimp only [dats]

/-! What each operand's window holds before the body. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

end Cert.KernelPrepareIdeal.Region

end
-- ==== Proof.Prepare.lean ====
module

public import proofs.«01_k».proof.Defs
public import proofs.«01_k».proof.Proof.PreparePay
public import proofs.«01_k».proof.Proof.PrepareData
public import Idealize.ShloMosaic.Lib.Pipeline.ReadBack

/-!
The input projection call: what it leaves in its first three results.
-/

@[expose] public section

set_option maxRecDepth 16384

noncomputable section

namespace Cert.KernelPrepareIdeal.Prepared

open Cert.KernelPrepareIdeal Cert.KernelPrepareIdeal.Gen Cert.KernelPrepareIdeal.Region Idealize.ShloMosaic Idealize.ShloMosaic.TcCoe Idealize.SL.Sem Cert.Softmax
open Cert.KernelOutprojIdeal.Projected (row normed)

variable (m : (ℓ : Loc nD τ sig) → Buf (Elt Ideal) ℓ)

/-- The stream normalised and modulated. -/
def modulated (x0 : Vec Ideal S4x2304x2048 .f32) (x1 : Vec Ideal S4x2048 .f32) (x2 : Vec Ideal S4x6x2048 .f32) (x3 : Vec Ideal S6x2048 .f32)
    (b : Fin 4) (s : Fin 2304) (d : Fin 2048) : EReal :=
  normed (fun d => x0 (ix3 b s d)) (x1 (ix2 1 d)) d * (Ideal.ofBits .f32 0x3F800000#32 + row x2 x3 1 b s d) + row x2 x3 0 b s d

/-- Column `n` of the input projection at a token. -/
def projected (x0 : Vec Ideal S4x2304x2048 .f32) (x1 : Vec Ideal S4x2048 .f32) (x2 : Vec Ideal S4x6x2048 .f32) (x3 : Vec Ideal S6x2048 .f32)
    (x4 : Vec Ideal S4x2048x9248 .f32) (b : Fin 4) (s : Fin 2304) (n : Fin 9248) : EReal :=
  ∑ d : Fin 2048, modulated x0 x1 x2 x3 b s d * x4 (ix3 1 d n)

/-- A head's rows: its values in 64, the row of ones and the rows of zeros under them; `n` is the head's first column. -/
def laid (x0 : Vec Ideal S4x2304x2048 .f32) (x1 : Vec Ideal S4x2048 .f32) (x2 : Vec Ideal S4x6x2048 .f32) (x3 : Vec Ideal S6x2048 .f32)
    (x4 : Vec Ideal S4x2048x9248 .f32) (n : ℕ) (hn : n + 64 ≤ 9248) (b : Fin 4) (e : Fin 80) (s : Fin 2304) : EReal :=
  if h : e.val < 64 then projected x0 x1 x2 x3 x4 b s ⟨n + e.val, by omega⟩ else if e.val = 64 then 1 else 0

/-- Where the blocks stand. -/
theorem idx (t : Fin cfg0.N) : win0_0.index t = ![min t.val 35 / 9, min t.val 35 % 9, 0] ∧ win0_1.index t = ![0, 0]
    ∧ win0_2.index t = ![min t.val 35 / 9, 0, 0] ∧ win0_4.index t = ![1, 0, 0]
    ∧ win0_20.index t = ![min t.val 35 / 9, min t.val 35 % 9, 0] ∧ win0_21.index t = ![min t.val 35 / 9, 0, 0, min t.val 35 % 9]
    ∧ win0_22.index t = ![min t.val 35 / 9, 0, 0, min t.val 35 % 9] := by
  revert t; show ∀ t : Fin grid0.N, _; decide +kernel

/-- Which of the twelve modulation rows the point reads: the context's in its batch's first token block, the latents' after. -/
theorem row_off (t : Fin cfg0.N) (n : Fin 2) :
    k0_off1 (grid0.coords t) (BitVec.ofNat 32 n.val) = ![0, min (min t.val 35 % 9) 1 * 6 + n.val, 0] := by
  revert t n; show ∀ (t : Fin grid0.N) (n : Fin 2), _; decide +kernel

/-- The stream's rows. -/
theorem blk0 (c : Dev nD) (t : Fin cfg0.N) (r : Fin 256) (k : Fin 2048) (b : Fin 4) (s : Fin 2304)
    (hb : b.val = min t.val 35 / 9) (hs : s.val = min t.val 35 % 9 * 256 + r.val) :
    iblk m c 0 t (ix3 0 r k) = m ((c : Thread nD τ).loc main_arg0) (ix3 b s k) := by
  have e := (idx t).1
  blk_simp [iblk, V]
  entry_read
  blk_ext [e]

/-- The norm's gain: the layer's row of the argument. -/
theorem gain (c : Dev nD) (d : Fin 2048) :
    (V m c main_v123 : Vec Ideal S1x2048 .f32) (ix2 0 d) = m ((c : Thread nD τ).loc main_arg1) (ix2 1 d) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  entry_read
  pointwise

/-- The norm's gain, as the point holds it. -/
theorem blk1 (c : Dev nD) (t : Fin cfg0.N) (d : Fin 2048) :
    iblk m c 1 t (ix2 0 d) = m ((c : Thread nD τ).loc main_arg1) (ix2 1 d) := by
  have e := (idx t).2.1
  refine Eq.trans ?_ (gain m c d)
  blk_simp [iblk]
  blk_ext [e]

/-- The stacked modulation rows: the context's six, then the batch's six. -/
theorem rows_ctx (c : Dev nD) (i : S4x12x2048.Idx) (h : (i 1).val < 6) :
    (V m c main_v54 : Vec Ideal S4x12x2048 .f32) i = m ((c : Thread nD τ).loc main_arg3) (ix2 ⟨(i 1).val, h⟩ (i 2)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  entry_read
  pointwise
  rw [dif_pos h]

theorem rows_lat (c : Dev nD) (i : S4x12x2048.Idx) (h : ¬(i 1).val < 6) :
    (V m c main_v54 : Vec Ideal S4x12x2048 .f32) i = m ((c : Thread nD τ).loc main_arg2)
      (ix3 (i 0) ⟨(i 1).val - 6, by have : (i 1).val < 12 := (i 1).isLt; omega⟩ (i 2)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  entry_read
  pointwise
  rw [dif_neg h]

/-- The block of the stacked modulation rows. -/
theorem blk2 (c : Dev nD) (t : Fin cfg0.N) (n : Fin 12) (d : Fin 2048) (b : Fin 4) (hb : b.val = min t.val 35 / 9) :
    iblk m c 2 t (ix3 0 n d) = (V m c main_v54 : Vec Ideal S4x12x2048 .f32) (ix3 b n d) := by
  have e := (idx t).2.2.1
  blk_simp [iblk]
  blk_ext [e]

/-- The value columns of the projection, as rows: branch A's, then branch C's. -/
theorem values_a (c : Dev nD) (i : S4x640x2048.Idx) (h : (i 1).val < 512) :
    (V m c main_v14 : Vec Ideal S4x640x2048 .bf16) i = m ((c : Thread nD τ).loc main_arg4) (ix3 (i 0) (i 2) ⟨1024 + (i 1).val, by omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  entry_read
  pointwise
  rw [dif_pos h]

theorem values_c (c : Dev nD) (i : S4x640x2048.Idx) (h : ¬(i 1).val < 512) :
    (V m c main_v14 : Vec Ideal S4x640x2048 .bf16) i = m ((c : Thread nD τ).loc main_arg4)
      (ix3 (i 0) (i 2) ⟨2976 + ((i 1).val - 512), by have : (i 1).val < 640 := (i 1).isLt; omega⟩) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  entry_read
  pointwise
  rw [dif_neg h]

/-- The block of the value rows. -/
theorem blk4 (c : Dev nD) (t : Fin cfg0.N) (n : Fin 640) (d : Fin 2048) :
    iblk m c 4 t (ix3 0 n d) = (V m c main_v14 : Vec Ideal S4x640x2048 .bf16) (ix3 1 n d) := by
  have e := (idx t).2.2.2.1
  blk_simp [iblk]
  blk_ext [e]

/-- The modulation row the point loads is the token's. -/
theorem load_row (c : Dev nD) (t : Fin cfg0.N) (n : Fin 2) (v : BitVec 32) (hv : v = BitVec.ofNat 32 n.val)
    (hb : ∀ a, k0_off1 (grid0.coords t) v a + ![1, 1, 2048] a ≤ S1x12x2048.size a)
    (r : Fin 256) (d : Fin 2048) (b : Fin 4) (s : Fin 2304)
    (hb' : b.val = min t.val 35 / 9) (hs : s.val = min t.val 35 % 9 * 256 + r.val) :
    View.ld (iblk m c 2 t) (Rect.unit (s := S1x12x2048) (k0_off1 (grid0.coords t) v) ![1, 1, 2048] hb) (ix3 0 0 d)
      = row (m ((c : Thread nD τ).loc main_arg2)) (m ((c : Thread nD τ).loc main_arg3)) ⟨n.val, by omega⟩ b s d := by
  subst hv
  have hr := row_off t n
  revert hb
  rw [hr]
  intro hb
  refine (View.ld_unit_apply_of (S := S1x12x2048) (iblk m c 2 t) _ ![1, 1, 2048] hb (ix3 0 0 d)
    (ix3 0 ⟨min (min t.val 35 % 9) 1 * 6 + n.val, by omega⟩ d) fun a => match a with
      | ⟨0, _⟩ => ?_ | ⟨1, _⟩ => ?_ | ⟨2, _⟩ => ?_).trans ?_
  · rfl
  · rfl
  · exact (Nat.zero_add _).symm
  · rw [blk2 m c t _ d b hb']
    unfold row
    split_ifs with h
    · have hn : (⟨min (min t.val 35 % 9) 1 * 6 + n.val, by omega⟩ : Fin 6) = ⟨n.val, by omega⟩ := Fin.ext (by dsimp only; omega)
      exact (rows_ctx m c _ (by show min (min t.val 35 % 9) 1 * 6 + n.val < 6; omega)).trans
        (congrArg (fun n => m ((c : Thread nD τ).loc main_arg3) (ix2 n d)) hn)
    · have hn : (⟨min (min t.val 35 % 9) 1 * 6 + n.val - 6, by omega⟩ : Fin 6) = ⟨n.val, by omega⟩ := Fin.ext (by dsimp only; omega)
      exact (rows_lat m c _ (by show ¬ min (min t.val 35 % 9) 1 * 6 + n.val < 6; omega)).trans
        (congrArg (fun n => m ((c : Thread nD τ).loc main_arg2) (ix3 b n d)) hn)

/-- The point's modulated rows are the call's. -/
theorem modulated_blk (c : Dev nD) (t : Fin cfg0.N)
    (h1 : ∀ a, k0_off1 (grid0.coords t) 1#32 a + ![1, 1, 2048] a ≤ S1x12x2048.size a)
    (h0 : ∀ a, k0_off1 (grid0.coords t) 0#32 a + ![1, 1, 2048] a ≤ S1x12x2048.size a)
    (r : Fin 256) (d : Fin 2048) (b : Fin 4) (s : Fin 2304)
    (hb : b.val = min t.val 35 / 9) (hs : s.val = min t.val 35 % 9 * 256 + r.val) :
    k0_pay5 (k0_pay3 (iblk m c 0 t) (iblk m c 1 t))
      (k0_pay4 (View.ld (iblk m c 2 t) (Rect.unit (s := S1x12x2048) (k0_off1 (grid0.coords t) 1#32) ![1, 1, 2048] h1)))
      (View.ld (iblk m c 2 t) (Rect.unit (s := S1x12x2048) (k0_off1 (grid0.coords t) 0#32) ![1, 1, 2048] h0)) (ix2 r d)
    = modulated (m ((c : Thread nD τ).loc main_arg0)) (m ((c : Thread nD τ).loc main_arg1)) (m ((c : Thread nD τ).loc main_arg2))
        (m ((c : Thread nD τ).loc main_arg3)) b s d := by
  refine (modulated_apply _ _ _ r d).trans ?_
  refine congrArg₂ (· + ·) (congrArg₂ (· * ·) ?_ (congrArg _ (load_row m c t 1 _ rfl _ r d b s hb hs))) (load_row m c t 0 _ rfl _ r d b s hb hs)
  refine (normed_apply _ _ r d).trans ?_
  rw [blk1 m c t d]
  congr 1
  exact funext fun k => blk0 m c t r k b s hb hs

/-- The modulated stream the call leaves. -/
theorem final20 (c : Dev nD) : (dats m 0 c).arrAt 20 cfg0.N = fun i : S4x2304x2048.Idx =>
    (modulated (m ((c : Thread nD τ).loc main_arg0)) (m ((c : Thread nD τ).loc main_arg1)) (m ((c : Thread nD τ).loc main_arg2))
        (m ((c : Thread nD τ).loc main_arg3)) (i 0) (i 1) (i 2) : EReal) := by
  refine (dats m 0 c).arrAt_eq_of_covers 20 _ (by decide +kernel) fun t hf y => ?_
  have e := (idx t).2.2.2.2.1
  blk_simp
  rw [after0_20]
  generalize hj : ((View.whole main_v124_0).slice (win0_20.rect t)).emb y = j
  have hj0 : (j 0).val = min t.val 35 / 9 := by subst hj; blk_simp [e]
  have hj1 : (j 1).val = min t.val 35 % 9 * 256 + (y 1).val := by subst hj; blk_simp [e]
  have hj2 : j 2 = y 2 := by subst hj; apply Fin.ext; blk_simp [e]
  rw [hj2]
  by_cases h0 : t.val % 37 = 0
  · rw [outsAt0_A m c t h0]
    frame_out
    exact (stored20 _ _ _ y).trans (modulated_blk m c t _ _ (y 1) (y 2) (j 0) (j 1) hj0 hj1)
  · by_cases h1 : t.val % 2 = 0
    · rw [outsAt0_C m c t h0 h1]
      frame_out
      exact (stored20 _ _ _ y).trans (modulated_blk m c t _ _ (y 1) (y 2) (j 0) (j 1) hj0 hj1)
    · rw [outsAt0_B m c t h0 h1]
      frame_out
      exact (stored20 _ _ _ y).trans (modulated_blk m c t _ _ (y 1) (y 2) (j 0) (j 1) hj0 hj1)

/-- A row of the value weights, as the point holds it, is a column of the argument. -/
theorem weight_blk (c : Dev nD) (t : Fin cfg0.N) (n : Fin 640) (d : Fin 2048) (N : Fin 9248)
    (hN : N.val = if n.val < 512 then 1024 + n.val else 2976 + (n.val - 512)) :
    iblk m c 4 t (ix3 0 n d) = m ((c : Thread nD τ).loc main_arg4) (ix3 1 d N) := by
  refine (blk4 m c t n d).trans ?_
  by_cases h : n.val < 512
  · rw [if_pos h] at hN
    exact (values_a m c (ix3 1 n d) h).trans (congrArg (fun N => m ((c : Thread nD τ).loc main_arg4) (ix3 1 d N)) (Fin.ext hN.symm))
  · rw [if_neg h] at hN
    exact (values_c m c (ix3 1 n d) h).trans (congrArg (fun N => m ((c : Thread nD τ).loc main_arg4) (ix3 1 d N)) (Fin.ext hN.symm))

/-- The point's value rows are columns of the projection. -/
theorem value_blk (c : Dev nD) (t : Fin cfg0.N)
    (h1 : ∀ a, k0_off1 (grid0.coords t) 1#32 a + ![1, 1, 2048] a ≤ S1x12x2048.size a)
    (h0 : ∀ a, k0_off1 (grid0.coords t) 0#32 a + ![1, 1, 2048] a ≤ S1x12x2048.size a)
    (n : Fin 640) (r : Fin 256) (b : Fin 4) (s : Fin 2304) (N : Fin 9248)
    (hb : b.val = min t.val 35 / 9) (hs : s.val = min t.val 35 % 9 * 256 + r.val)
    (hN : N.val = if n.val < 512 then 1024 + n.val else 2976 + (n.val - 512)) :
    k0_pay8 (k0_pay3 (iblk m c 0 t) (iblk m c 1 t))
      (k0_pay4 (View.ld (iblk m c 2 t) (Rect.unit (s := S1x12x2048) (k0_off1 (grid0.coords t) 1#32) ![1, 1, 2048] h1)))
      (View.ld (iblk m c 2 t) (Rect.unit (s := S1x12x2048) (k0_off1 (grid0.coords t) 0#32) ![1, 1, 2048] h0)) (iblk m c 4 t) (ix2 n r)
    = projected (m ((c : Thread nD τ).loc main_arg0)) (m ((c : Thread nD τ).loc main_arg1)) (m ((c : Thread nD τ).loc main_arg2)) (m ((c : Thread nD τ).loc main_arg3)) (m ((c : Thread nD τ).loc main_arg4)) b s N := by
  refine (value_apply _ _ _ _ n r).trans (Finset.sum_congr rfl fun d _ => ?_)
  refine (mul_comm _ _).trans ?_
  exact congrArg₂ (· * ·) (modulated_blk m c t h1 h0 r d b s hb hs) (weight_blk m c t n d N hN)

/-- A head's rows of values among its eighty. -/
theorem laid_value (x0 : Vec Ideal S4x2304x2048 .f32) (x1 : Vec Ideal S4x2048 .f32) (x2 : Vec Ideal S4x6x2048 .f32) (x3 : Vec Ideal S6x2048 .f32)
    (x4 : Vec Ideal S4x2048x9248 .f32) (n : ℕ) (hn : n + 64 ≤ 9248) (b : Fin 4) (e : Fin 80) (s : Fin 2304) (he : e.val < 64) :
    projected x0 x1 x2 x3 x4 b s ⟨n + e.val, by omega⟩ = laid x0 x1 x2 x3 x4 n hn b e s := by
  unfold laid
  rw [dif_pos he]

/-- A head's rows under its values. -/
theorem laid_rest (x0 : Vec Ideal S4x2304x2048 .f32) (x1 : Vec Ideal S4x2048 .f32) (x2 : Vec Ideal S4x6x2048 .f32) (x3 : Vec Ideal S6x2048 .f32)
    (x4 : Vec Ideal S4x2048x9248 .f32) (n : ℕ) (hn : n + 64 ≤ 9248) (b : Fin 4) (e : Fin 80) (s : Fin 2304) (k : ℕ) (he : e.val = 64 + k) :
    (if k = 0 then 1 else 0 : EReal) = laid x0 x1 x2 x3 x4 n hn b e s := by
  unfold laid
  rw [dif_neg (by omega)]
  exact if_congr (by omega) rfl rfl

/-- What a point stores of the first branch's values, read at an index. -/
theorem piece21 (c : Dev nD) (t : Fin cfg0.N)
    (h1 : ∀ a, k0_off1 (grid0.coords t) 1#32 a + ![1, 1, 2048] a ≤ S1x12x2048.size a)
    (h0 : ∀ a, k0_off1 (grid0.coords t) 0#32 a + ![1, 1, 2048] a ≤ S1x12x2048.size a)
    (x : S1x8x64x256.Idx) (j : S4x8x80x2304.Idx)
    (hj0 : (j 0).val = min t.val 35 / 9) (hj1 : (j 1).val = (x 1).val) (hj2 : (j 2).val = (x 2).val)
    (hj3 : (j 3).val = min t.val 35 % 9 * 256 + (x 3).val) :
    k0_pay9 (k0_pay3 (iblk m c 0 t) (iblk m c 1 t))
      (k0_pay4 (View.ld (iblk m c 2 t) (Rect.unit (s := S1x12x2048) (k0_off1 (grid0.coords t) 1#32) ![1, 1, 2048] h1)))
      (View.ld (iblk m c 2 t) (Rect.unit (s := S1x12x2048) (k0_off1 (grid0.coords t) 0#32) ![1, 1, 2048] h0)) (iblk m c 4 t) x
    = laid (m ((c : Thread nD τ).loc main_arg0)) (m ((c : Thread nD τ).loc main_arg1)) (m ((c : Thread nD τ).loc main_arg2)) (m ((c : Thread nD τ).loc main_arg3)) (m ((c : Thread nD τ).loc main_arg4))
        (1024 + (j 1).val * 64) (by have : (j 1).val < 8 := (j 1).isLt; omega) (j 0) (j 2) (j 3) := by
  have l1 : (x 1).val < 8 := (x 1).isLt
  have l2 : (x 2).val < 64 := (x 2).isLt
  refine Eq.trans ?_ (laid_value _ _ _ _ _ _ _ _ _ _ (by omega))
  refine (stored21 _ _ _ _ x).trans (value_blk m c t h1 h0 _ (x 3) (j 0) (j 3) _ hj0 hj3 ?_)
  dsimp only
  split_ifs <;> omega

/-- The first branch's values, head by head, each head's row of ones and rows of zeros under them. -/
def left21 (c : Dev nD) (i : S4x8x80x2304.Idx) : EReal :=
    laid (m ((c : Thread nD τ).loc main_arg0)) (m ((c : Thread nD τ).loc main_arg1)) (m ((c : Thread nD τ).loc main_arg2)) (m ((c : Thread nD τ).loc main_arg3)) (m ((c : Thread nD τ).loc main_arg4))
        (1024 + (i 1).val * 64) (by have : (i 1).val < 8 := (i 1).isLt; omega) (i 0) (i 2) (i 3)

/-- They are what the call leaves. -/
theorem final21 (c : Dev nD) : (dats m 0 c).arrAt 21 cfg0.N = left21 m c := by
  refine (dats m 0 c).arrAt_eq_of_covers 21 _ (by decide +kernel) fun t hf y => ?_
  have e := (idx t).2.2.2.2.2.1
  blk_simp
  rw [after0_21]
  generalize hj : ((View.whole main_v124_1).slice (win0_21.rect t)).emb y = j
  unfold left21
  have hj0 : (j 0).val = min t.val 35 / 9 := by subst hj; blk_simp [e]
  have hj1 : (j 1).val = (y 1).val := by subst hj; blk_simp [e]
  have hj2 : (j 2).val = (y 2).val := by subst hj; blk_simp [e]
  have hj3 : (j 3).val = min t.val 35 % 9 * 256 + (y 3).val := by subst hj; blk_simp [e]
  by_cases h0 : t.val % 37 = 0
  · rw [outsAt0_A m c t h0]
    frame_out
    canon_tiles x h using View.cover_of_tiledBy _ ![1, 8, 16, 256] (by sl_kernel_rfl) y
    · exact (ones21 x).trans (laid_rest _ _ _ _ _ _ _ _ _ _ _ (hj2.trans h2))
    · exact piece21 m c t _ _ x j hj0 (hj1.trans h1) (hj2.trans h2) (hj3.trans (congrArg _ h3))
  · by_cases h1' : t.val % 2 = 0
    · rw [outsAt0_C m c t h0 h1']
      frame_out
      canon_tiles x h using View.cover_of_tiledBy _ ![1, 8, 16, 256] (by sl_kernel_rfl) y
      · exact (ones21 x).trans (laid_rest _ _ _ _ _ _ _ _ _ _ _ (hj2.trans h2))
      · exact piece21 m c t _ _ x j hj0 (hj1.trans h1) (hj2.trans h2) (hj3.trans (congrArg _ h3))
    · rw [outsAt0_B m c t h0 h1']
      frame_out
      canon_tiles x h using View.cover_of_tiledBy _ ![1, 8, 16, 256] (by sl_kernel_rfl) y
      · exact (ones21 x).trans (laid_rest _ _ _ _ _ _ _ _ _ _ _ (hj2.trans h2))
      · exact piece21 m c t _ _ x j hj0 (hj1.trans h1) (hj2.trans h2) (hj3.trans (congrArg _ h3))

/-- What a point stores of the second branch's values, read at an index. -/
theorem piece22 (c : Dev nD) (t : Fin cfg0.N)
    (h1 : ∀ a, k0_off1 (grid0.coords t) 1#32 a + ![1, 1, 2048] a ≤ S1x12x2048.size a)
    (h0 : ∀ a, k0_off1 (grid0.coords t) 0#32 a + ![1, 1, 2048] a ≤ S1x12x2048.size a)
    (x : S1x2x64x256.Idx) (j : S4x2x80x2304.Idx)
    (hj0 : (j 0).val = min t.val 35 / 9) (hj1 : (j 1).val = (x 1).val) (hj2 : (j 2).val = (x 2).val)
    (hj3 : (j 3).val = min t.val 35 % 9 * 256 + (x 3).val) :
    k0_pay12 (k0_pay8 (k0_pay3 (iblk m c 0 t) (iblk m c 1 t))
      (k0_pay4 (View.ld (iblk m c 2 t) (Rect.unit (s := S1x12x2048) (k0_off1 (grid0.coords t) 1#32) ![1, 1, 2048] h1)))
      (View.ld (iblk m c 2 t) (Rect.unit (s := S1x12x2048) (k0_off1 (grid0.coords t) 0#32) ![1, 1, 2048] h0)) (iblk m c 4 t)) x
    = laid (m ((c : Thread nD τ).loc main_arg0)) (m ((c : Thread nD τ).loc main_arg1)) (m ((c : Thread nD τ).loc main_arg2)) (m ((c : Thread nD τ).loc main_arg3)) (m ((c : Thread nD τ).loc main_arg4))
        (2976 + (j 1).val * 64) (by have : (j 1).val < 2 := (j 1).isLt; omega) (j 0) (j 2) (j 3) := by
  have l1 : (x 1).val < 2 := (x 1).isLt
  have l2 : (x 2).val < 64 := (x 2).isLt
  refine Eq.trans ?_ (laid_value _ _ _ _ _ _ _ _ _ _ (by omega))
  refine (stored22 _ x).trans (value_blk m c t h1 h0 _ (x 3) (j 0) (j 3) _ hj0 hj3 ?_)
  dsimp only
  split_ifs <;> omega

/-- The second branch's values, head by head, each head's row of ones and rows of zeros under them. -/
def left22 (c : Dev nD) (i : S4x2x80x2304.Idx) : EReal :=
    laid (m ((c : Thread nD τ).loc main_arg0)) (m ((c : Thread nD τ).loc main_arg1)) (m ((c : Thread nD τ).loc main_arg2)) (m ((c : Thread nD τ).loc main_arg3)) (m ((c : Thread nD τ).loc main_arg4))
        (2976 + (i 1).val * 64) (by have : (i 1).val < 2 := (i 1).isLt; omega) (i 0) (i 2) (i 3)

/-- They are what the call leaves. -/
theorem final22 (c : Dev nD) : (dats m 0 c).arrAt 22 cfg0.N = left22 m c := by
  refine (dats m 0 c).arrAt_eq_of_covers 22 _ (by decide +kernel) fun t hf y => ?_
  have e := (idx t).2.2.2.2.2.2
  blk_simp
  rw [after0_22]
  generalize hj : ((View.whole main_v124_2).slice (win0_22.rect t)).emb y = j
  unfold left22
  have hj0 : (j 0).val = min t.val 35 / 9 := by subst hj; blk_simp [e]
  have hj1 : (j 1).val = (y 1).val := by subst hj; blk_simp [e]
  have hj2 : (j 2).val = (y 2).val := by subst hj; blk_simp [e]
  have hj3 : (j 3).val = min t.val 35 % 9 * 256 + (y 3).val := by subst hj; blk_simp [e]
  by_cases h0 : t.val % 37 = 0
  · rw [outsAt0_A m c t h0]
    frame_out
    canon_tiles x h using View.cover_of_tiledBy _ ![1, 2, 16, 256] (by sl_kernel_rfl) y
    · exact (ones22 x).trans (laid_rest _ _ _ _ _ _ _ _ _ _ _ (hj2.trans h2))
    · exact piece22 m c t _ _ x j hj0 (hj1.trans h1) (hj2.trans h2) (hj3.trans (congrArg _ h3))
  · by_cases h1' : t.val % 2 = 0
    · rw [outsAt0_C m c t h0 h1']
      frame_out
      canon_tiles x h using View.cover_of_tiledBy _ ![1, 2, 16, 256] (by sl_kernel_rfl) y
      · exact (ones22 x).trans (laid_rest _ _ _ _ _ _ _ _ _ _ _ (hj2.trans h2))
      · exact piece22 m c t _ _ x j hj0 (hj1.trans h1) (hj2.trans h2) (hj3.trans (congrArg _ h3))
    · rw [outsAt0_B m c t h0 h1']
      frame_out
      canon_tiles x h using View.cover_of_tiledBy _ ![1, 2, 16, 256] (by sl_kernel_rfl) y
      · exact (ones22 x).trans (laid_rest _ _ _ _ _ _ _ _ _ _ _ (hj2.trans h2))
      · exact piece22 m c t _ _ x j hj0 (hj1.trans h1) (hj2.trans h2) (hj3.trans (congrArg _ h3))

end Cert.KernelPrepareIdeal.Prepared

end
-- ==== Proof.PrepareBody.lean ====
module

public import proofs.«01_k».proof.Proof.PrepareData

/-!
The input projection's body at any point.
-/

@[expose] public section

set_option maxRecDepth 16384

noncomputable section

namespace Cert.KernelPrepareIdeal.Region

open Cert.KernelPrepareIdeal Cert.KernelPrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 38400000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m 0 c).Φ t.succ = PhiS m c (t.val + 1) t.isLt from rfl, PhiS_succ]
  have hN : t.val < 37 := lt_of_lt_of_eq t.isLt (show cfg0.N = 37 from N_0)
  by_cases h0 : t.val % 37 = 0
  · by_cases hz : t.val = 0
    · rw [PhiS_castSucc m c t, PhiS_zero m c _ _ hz, PhiA0_eq]
      rw [outsAt0_A m c t h0]
      unfold out0_A_20 out0_A_21 out0_A_22 out0_A_23 out0_A_24 out0_A_25 out0_A_26 out0_A_27 out0_A_28 out0_A_29 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (hoff0_k0_off2_c0 t h0) (hoff0_k0_off3_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [HS0]; · iexact HS0
      isplitl [HS1]; · iexact HS1
      iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]
      · unfold owns; iexists _; isplitr
        swap; · iexact H20
        ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H26]
      · unfold owns; iexists _; isplitr
        swap; · iexact H26
        ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H27]
      · unfold owns; iexists _; isplitr
        swap; · iexact H27
        ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H28]
      · unfold owns; iexists _; isplitr
        swap; · iexact H28
        ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H29
      ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 37 := lt_of_lt_of_eq t.isLt (show cfg0.N = 37 from N_0); omega
  · by_cases h1 : t.val % 2 = 0
    · by_cases hz : t.val = 0
      · exfalso; have hN : t.val < 37 := lt_of_lt_of_eq t.isLt (show cfg0.N = 37 from N_0); omega
      · rw [PhiS_castSucc m c t, PhiS_pos m c _ _ hz]
        rw [outsAt0_C m c t h0 h1]
        unfold out0_C_20 out0_C_21 out0_C_22 out0_C_23 out0_C_24 out0_C_25 out0_C_26 out0_C_27 out0_C_28 out0_C_29 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (hoff0_k0_off2_c1 t h1) (hoff0_k0_off3_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _).2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [H21]; · iexists _; iexact H21
        isplitl [H22]; · iexists _; iexact H22
        isplitl [H23]; · iexists _; iexact H23
        isplitl [H24]; · iexists _; iexact H24
        isplitl [H25]; · iexists _; iexact H25
        isplitl [H26]; · iexists _; iexact H26
        isplitl [H27]; · iexists _; iexact H27
        isplitl [H28]; · iexists _; iexact H28
        isplitl [H29]; · iexists _; iexact H29
        isplitl [HS0]; · iexact HS0
        isplitl [HS1]; · iexact HS1
        iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, HS0, ⟨%fT1, HS1⟩⟩
        isplitl [HS0 HS1 Hg]
        · isplitl [HS0 HS1]
          · isplitl [HS0]
            · unfold owns; iexists _; isplitr
              swap; · iexact HS0
              ipureintro; rfl
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]
        · unfold owns; iexists _; isplitr
          swap; · iexact H20
          ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]
        · unfold owns; iexists _; isplitr
          swap; · iexact H22
          ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]
        · unfold owns; iexists _; isplitr
          swap; · iexact H23
          ipureintro; exact View.read_writes_of_cover _ _ _ _ _ (cover0_C_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H24]
        · unfold owns; iexists _; isplitr
          swap; · iexact H24
          ipureintro; exact View.read_writes_of_cover _ _ _ _ _ (cover0_C_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H25]
        · unfold owns; iexists _; isplitr
          swap; · iexact H25
          ipureintro; exact View.read_writes_of_cover _ _ _ _ _ (cover0_C_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H26]
        · unfold owns; iexists _; isplitr
          swap; · iexact H26
          ipureintro; exact View.read_writes_of_cover _ _ _ _ _ (cover0_C_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H27]
        · unfold owns; iexists _; isplitr
          swap; · iexact H27
          ipureintro; exact View.read_writes_of_cover _ _ _ _ _ (cover0_C_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H28]
        · unfold owns; iexists _; isplitr
          swap; · iexact H28
          ipureintro; exact View.read_writes_of_cover _ _ _ _ _ (cover0_C_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H29
        ipureintro; exact View.read_writes_of_cover _ _ _ _ _ (cover0_C_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases hz : t.val = 0
      · exfalso; have hN : t.val < 37 := lt_of_lt_of_eq t.isLt (show cfg0.N = 37 from N_0); omega
      · rw [PhiS_castSucc m c t, PhiS_pos m c _ _ hz]
        rw [outsAt0_B m c t h0 h1]
        unfold out0_B_20 out0_B_21 out0_B_22 out0_B_23 out0_B_24 out0_B_25 out0_B_26 out0_B_27 out0_B_28 out0_B_29 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (hoff0_k0_off2_n1 t h1) (hoff0_k0_off3_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _).2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [H21]; · iexists _; iexact H21
        isplitl [H22]; · iexists _; iexact H22
        isplitl [H23]; · iexists _; iexact H23
        isplitl [H24]; · iexists _; iexact H24
        isplitl [H25]; · iexists _; iexact H25
        isplitl [H26]; · iexists _; iexact H26
        isplitl [H27]; · iexists _; iexact H27
        isplitl [H28]; · iexists _; iexact H28
        isplitl [H29]; · iexists _; iexact H29
        isplitl [HS0]; · iexact HS0
        isplitl [HS1]; · iexact HS1
        iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, HS0, ⟨%fT1, HS1⟩⟩
        isplitl [HS0 HS1 Hg]
        · isplitl [HS0 HS1]
          · isplitl [HS0]
            · unfold owns; iexists _; isplitr
              swap; · iexact HS0
              ipureintro; rfl
            iexists _; unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]
        · unfold owns; iexists _; isplitr
          swap; · iexact H20
          ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H21]
        · unfold owns; iexists _; isplitr
          swap; · iexact H21
          ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H22]
        · unfold owns; iexists _; isplitr
          swap; · iexact H22
          ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H23]
        · unfold owns; iexists _; isplitr
          swap; · iexact H23
          ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H24]
        · unfold owns; iexists _; isplitr
          swap; · iexact H24
          ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H25]
        · unfold owns; iexists _; isplitr
          swap; · iexact H25
          ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H26]
        · unfold owns; iexists _; isplitr
          swap; · iexact H26
          ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H27]
        · unfold owns; iexists _; isplitr
          swap; · iexact H27
          ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H28]
        · unfold owns; iexists _; isplitr
          swap; · iexact H28
          ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H29
        ipureintro; exact View.read_writes_of_cover _ _ _ _ _ (cover0_B_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

end Cert.KernelPrepareIdeal.Region

end
-- ==== Proof.PrepareRun.lean ====
module

public import proofs.«01_k».proof.Proof.PrepareBody
public import Idealize.ShloMosaic.Lib.Claim

/-!
The run of the input projection: what its results hold after it, and its frame.
-/

@[expose] public section

set_option maxRecDepth 16384

noncomputable section

namespace Cert.KernelPrepareIdeal.Region

open Cert.KernelPrepareIdeal Cert.KernelPrepareIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple, as the region asks for it: window by window. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iterate 31 refine sep_mono .rfl ?_
  exact .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

theorem hout (c : Dev nD) : (dats m 0 c).Φ (Fin.last cfg0.N) ⊢ Pipeline.ΦA spec0 c :=
  Phi_out m c _ (by rw [Fin.val_last]; have : cfg0.N = 37 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments stay as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

/-- The run with the first three results and the arguments named. -/
theorem run_results : θ_run defs (onTc (τ := τ) (main (F := F))) ⟨m, fun _ => 0, ρ⟩ fun r => ∀ c : Dev nD,
    r.2.mem ((c.tc : Thread nD τ).loc main_v124_0) = (dats m 0 c).arrAt 20 cfg0.N
    ∧ r.2.mem ((c.tc : Thread nD τ).loc main_v124_1) = (dats m 0 c).arrAt 21 cfg0.N
    ∧ r.2.mem ((c.tc : Thread nD τ).loc main_v124_2) = (dats m 0 c).arrAt 22 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) :=
  (θ_run defs _ _).mono (fun r h c => ⟨(h.1 c).1 20, (h.1 c).1 21, (h.1 c).1 22, h.2 c⟩)
    (θ_run_and (run_main m ρ) (unchanged m ρ))

end Cert.KernelPrepareIdeal.Region

end
-- ==== Proof.PrepareEq.lean ====
module

public import proofs.«01_k».proof.Defs
public import proofs.«01_k».proof.Proof.Prepare
public import proofs.«01_k».proof.Proof.PrepareRun
public import proofs.«01_k».proof.Proof.Gen.ReferencePrepareIdeal.Read
public import Idealize.ShloMosaic.Lib.Quiescent

/-!
The input projection call's reference, read at an index, and its equality with the call.
-/

@[expose] public section

set_option maxRecDepth 16384

noncomputable section

namespace Cert.ReferencePrepareIdeal.Prepared

open Cert.ReferencePrepareIdeal Cert.ReferencePrepareIdeal.Read Idealize.ShloMosaic Idealize.ShloMosaic.TcCoe Cert.Softmax
open Cert.KernelOutprojIdeal.Projected (row normed)
open Cert.KernelPrepareIdeal.Prepared (modulated projected laid)

variable (x0 : Vec Ideal S4x2304x2048 .f32) (x1 : Vec Ideal S4x2048 .f32) (x2 : Vec Ideal S4x6x2048 .f32)
    (x3 : Vec Ideal S6x2048 .f32) (x4 : Vec Ideal S4x2048x9248 .f32)

/-- The scale's rows over the tokens. -/
theorem row1 (b : Fin 4) (s : Fin 2304) (d : Fin 2048) : val_main_v22 (F := Ideal) x2 x3 (ix3 b s d) = row x2 x3 1 b s d := by
  simp only [val_main_v22, val_main_v21, val_main_v20, val_main_v19, val_main_v18, val_main_v17, val_main_v16, val_main_v15]
  unfold row
  pointwise
  split_ifs <;> rfl

/-- The shift's rows over the tokens. -/
theorem row0 (b : Fin 4) (s : Fin 2304) (d : Fin 2048) : val_main_v33 (F := Ideal) x2 x3 (ix3 b s d) = row x2 x3 0 b s d := by
  simp only [val_main_v33, val_main_v32, val_main_v31, val_main_v30, val_main_v29, val_main_v28, val_main_v27, val_main_v26]
  unfold row
  pointwise
  split_ifs <;> rfl

/-- The normalised stream. -/
theorem normed_eq (b : Fin 4) (s : Fin 2304) (d : Fin 2048) :
    val_main_v14 (F := Ideal) x0 x1 (ix3 b s d) = normed (fun d => x0 (ix3 b s d)) (x1 (ix2 1 d)) d := by
  simp only [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  unfold normed
  pointwise

/-- The modulated stream. -/
theorem modulated_eq (b : Fin 4) (s : Fin 2304) (d : Fin 2048) :
    val_main_v34 (F := Ideal) x0 x1 x2 x3 (ix3 b s d) = modulated x0 x1 x2 x3 b s d := by
  unfold modulated
  rw [← row1 x2 x3 b s d, ← row0 x2 x3 b s d, ← normed_eq x0 x1 b s d]
  simp only [val_main_v34, val_main_v25, val_main_v24, val_main_v23, val_main_cst_2]
  generalize val_main_v14 (F := Ideal) x0 x1 = w
  generalize val_main_v22 (F := Ideal) x2 x3 = w1
  generalize val_main_v33 (F := Ideal) x2 x3 = w0
  pointwise

/-- A column of the projection. -/
theorem projected_eq (b : Fin 4) (s : Fin 2304) (n : Fin 9248) :
    val_main_v37 (F := Ideal) x0 x1 x2 x3 x4 (ix3 b s n) = projected x0 x1 x2 x3 x4 b s n := by
  unfold projected
  simp only [← modulated_eq]
  simp only [val_main_v37, val_main_v36, val_main_v35]
  generalize val_main_v34 (F := Ideal) x0 x1 x2 x3 = w
  pointwise

/-- The first branch's values, laid out. -/
theorem laid_a (b : Fin 4) (h : Fin 8) (e : Fin 80) (s : Fin 2304) :
    val_main_v45 (F := Ideal) x0 x1 x2 x3 x4 (ix4 b h e s)
      = laid x0 x1 x2 x3 x4 (1024 + h.val * 64) (by omega) b e s := by
  unfold laid
  simp only [← projected_eq]
  simp only [val_main_v45, val_main_v44, val_main_v43, val_main_v42, val_main_v41, val_main_v40, val_main_v39, val_main_cst_3, val_main_cst_4]
  generalize val_main_v37 (F := Ideal) x0 x1 x2 x3 x4 = w
  pointwise
  split_ifs <;> first | rfl | exact congrArg w (congrArg (ix3 b s) (Fin.ext (Nat.add_assoc _ _ _).symm)) | (exfalso; omega)

/-- The second branch's values, laid out. -/
theorem laid_c (b : Fin 4) (h : Fin 2) (e : Fin 80) (s : Fin 2304) :
    val_main_v52 (F := Ideal) x0 x1 x2 x3 x4 (ix4 b h e s)
      = laid x0 x1 x2 x3 x4 (2976 + h.val * 64) (by omega) b e s := by
  unfold laid
  simp only [← projected_eq]
  simp only [val_main_v52, val_main_v51, val_main_v50, val_main_v49, val_main_v48, val_main_v47, val_main_v46, val_main_cst_5, val_main_cst_6]
  generalize val_main_v37 (F := Ideal) x0 x1 x2 x3 x4 = w
  pointwise
  split_ifs <;> first | rfl | exact congrArg w (congrArg (ix3 b s) (Fin.ext (Nat.add_assoc _ _ _).symm)) | (exfalso; omega)

end Cert.ReferencePrepareIdeal.Prepared

namespace Cert.Proof.PrepareClaims

open Idealize.ShloMosaic Idealize.ShloMosaic.TcCoe Idealize.SL.Sem

/-- An index of three coordinates, or of four, put together again. -/
theorem eq_ix3 {A B C : ℕ} (i : (⟨3, ![A, B, C]⟩ : Shape).Idx) : i = ix3 (i 0) (i 1) (i 2) := by
  funext a; fin_cases a <;> rfl

theorem eq_ix4 {A B C D : ℕ} (i : (⟨4, ![A, B, C, D]⟩ : Shape).Idx) : i = ix4 (i 0) (i 1) (i 2) (i 3) := by
  funext a; fin_cases a <;> rfl

theorem preserves : Cert.preserves_KernelPrepare_KernelPrepareIdeal := trivial

/-- The reference leaves its arguments and holds no semaphore. -/
theorem frame_reference : Cert.quiescent_ReferencePrepareIdeal := fun m ρ _ =>
  (θ_run Cert.ReferencePrepareIdeal.defs _ _).mono (fun r h => ⟨fun c => (h c).2.2.2,
      Idealize.ShloMosaic.sem_eq_zero_of_no_sems (by decide) r.2⟩)
    (Cert.ReferencePrepareIdeal.Value.run (F := Ideal) m ρ)

/-- Kernel and reference leave the same modulated stream and the same values of the two branches. -/
theorem algebraic : Cert.algebraic_KernelPrepareIdeal_ReferencePrepareIdeal := by
  intro m ρ m' ρ' _ hagree
  refine ⟨fun c => (Cert.KernelPrepareIdeal.Region.dats m 0 c).arrAt 20 Cert.KernelPrepareIdeal.cfg0.N,
    fun c => (Cert.KernelPrepareIdeal.Region.dats m 0 c).arrAt 21 Cert.KernelPrepareIdeal.cfg0.N,
    fun c => (Cert.KernelPrepareIdeal.Region.dats m 0 c).arrAt 22 Cert.KernelPrepareIdeal.cfg0.N, ?_, ?_⟩
  · exact (θ_run Cert.KernelPrepareIdeal.defs _ _).mono
      (fun r h c => h c)
      (Cert.KernelPrepareIdeal.Region.run_results (F := Ideal) m ρ)
  · refine (θ_run Cert.ReferencePrepareIdeal.defs _ _).mono
      (fun _ h c => ⟨(h c).1.trans ?_, (h c).2.1.trans ?_, (h c).2.2.1.trans ?_, (h c).2.2.2⟩)
      (Cert.ReferencePrepareIdeal.Value.run (F := Ideal) m' ρ')
    · refine Eq.trans ?_ (Cert.KernelPrepareIdeal.Prepared.final20 m c).symm
      refine (Cert.ReferencePrepareIdeal.Read.val_main_v38_eq (F := Ideal) _ _ _ _).trans ?_
      obtain ⟨h0, h1, h2, h3, h4, _⟩ := hagree c
      rw [h0, h1, h2, h3]
      exact funext fun i => (Cert.ReferencePrepareIdeal.Read.val_main_v38_apply _ _ _ _ _).trans
        ((congrArg _ (eq_ix3 i)).trans (Cert.ReferencePrepareIdeal.Prepared.modulated_eq _ _ _ _ _ _ _))
    · refine Eq.trans ?_ (Cert.KernelPrepareIdeal.Prepared.final21 m c).symm
      refine (Cert.ReferencePrepareIdeal.Read.val_main_v45_eq (F := Ideal) _ _ _ _ _).trans ?_
      obtain ⟨h0, h1, h2, h3, h4, _⟩ := hagree c
      rw [h0, h1, h2, h3, h4]
      exact funext fun i => (congrArg _ (eq_ix4 i)).trans (Cert.ReferencePrepareIdeal.Prepared.laid_a _ _ _ _ _ _ _ _ _)
    · refine Eq.trans ?_ (Cert.KernelPrepareIdeal.Prepared.final22 m c).symm
      refine (Cert.ReferencePrepareIdeal.Read.val_main_v52_eq (F := Ideal) _ _ _ _ _).trans ?_
      obtain ⟨h0, h1, h2, h3, h4, _⟩ := hagree c
      rw [h0, h1, h2, h3, h4]
      exact funext fun i => (congrArg _ (eq_ix4 i)).trans (Cert.ReferencePrepareIdeal.Prepared.laid_c _ _ _ _ _ _ _ _ _)

end Cert.Proof.PrepareClaims

end
-- ==== Proof.PrepareHost.lean ====
module

public import proofs.«01_k».proof.Defs
public import proofs.«01_k».proof.Proof.Gen.KernelPrepare
public import proofs.«01_k».proof.Proof.Gen.KernelPrepareIdeal

/-!
The input projection's program and its idealization have the same text: their host code is the same over bits.
-/

@[expose] public section

set_option maxRecDepth 65536
set_option maxHeartbeats 8000000

namespace Cert.Proof.PrepareClaims

open Idealize.ShloMosaic Idealize.SL.Sem

/-- The tables of the rotary embedding's frequencies. -/
theorem lit0_eq : Cert.KernelPrepare.lit0 = Cert.KernelPrepareIdeal.lit0 := funext (by decide +kernel)

theorem lit1_eq : Cert.KernelPrepare.lit1 = Cert.KernelPrepareIdeal.lit1 := funext (by decide +kernel)

theorem part0_eq : Cert.KernelPrepare.main_part0 (F := Bits) = Cert.KernelPrepareIdeal.main_part0 (F := Bits) := by
  unfold Cert.KernelPrepare.main_part0 Cert.KernelPrepareIdeal.main_part0
  rw [lit0_eq, lit1_eq]
  rfl

theorem part1_eq : Cert.KernelPrepare.main_part1 (F := Bits) = Cert.KernelPrepareIdeal.main_part1 (F := Bits) := rfl

theorem part2_eq : Cert.KernelPrepare.main_part2 (F := Bits) = Cert.KernelPrepareIdeal.main_part2 (F := Bits) := rfl

end Cert.Proof.PrepareClaims

end
-- ==== Proof.PrepareTable.lean ====
module

public import proofs.«01_k».proof.Defs
public import proofs.«01_k».proof.Proof.Gen.KernelPrepare
public import proofs.«01_k».proof.Proof.Gen.KernelPrepareIdeal

/-!
The input projection's program and its idealization have the same text: their region is the same over bits.
-/

@[expose] public section

set_option maxRecDepth 65536
set_option maxHeartbeats 8000000

namespace Cert.Proof.PrepareClaims

open Idealize.ShloMosaic Idealize.SL.Sem

theorem windows_eq : Cert.KernelPrepare.pcfgs (F := Bits) = Cert.KernelPrepareIdeal.pcfgs (F := Bits) := rfl

theorem bodies_eq : Cert.KernelPrepare.defs₀ (F := Bits) = Cert.KernelPrepareIdeal.defs₀ (F := Bits) := by
  refine congrArg Defs.onTc (funext fun l => funext fun a => ?_)
  obtain ⟨_ | n, h⟩ := l
  · obtain ⟨t, s⟩ := a
    rfl
  · exact absurd h (by omega)

theorem table_eq : Cert.KernelPrepare.defs (F := Bits) = Cert.KernelPrepareIdeal.defs (F := Bits) :=
  congrArg (Pipeline.defs Cert.KernelPrepare.pcfgs) bodies_eq

end Cert.Proof.PrepareClaims

end
-- ==== Proof.PrepareFrame.lean ====
module

public import proofs.«01_k».proof.Defs
public import proofs.«01_k».proof.Proof.PrepareHost
public import proofs.«01_k».proof.Proof.PrepareTable
public import proofs.«01_k».proof.Proof.PrepareRun

/-!
The frame of the input projection, taken from the run of its idealization.
-/

@[expose] public section

set_option maxRecDepth 65536
set_option maxHeartbeats 8000000

namespace Cert.Proof.PrepareClaims

open Idealize.ShloMosaic Idealize.SL.Sem

theorem main_eq : Cert.KernelPrepare.main (F := Bits) = Cert.KernelPrepareIdeal.main (F := Bits) := by
  unfold Cert.KernelPrepare.main Cert.KernelPrepareIdeal.main
  rw [part0_eq, part1_eq, part2_eq]
  rfl

theorem frame_kernel : Cert.quiescent_KernelPrepare := fun m ρ _ => by
  rw [table_eq, main_eq]
  exact Cert.KernelPrepareIdeal.Region.frame (F := Bits) m ρ

end Cert.Proof.PrepareClaims

end
-- ==== Proof.lean ====
module

public import proofs.«01_k».proof.Defs
public import proofs.«01_k».proof.Proof.Claims
public import proofs.«01_k».proof.Proof.Merge
public import proofs.«01_k».proof.Proof.GqaEq
public import proofs.«01_k».proof.Proof.MlaEq
public import proofs.«01_k».proof.Proof.OutprojEq
public import proofs.«01_k».proof.Proof.CombineEq
public import proofs.«01_k».proof.Proof.PrepareEq
public import proofs.«01_k».proof.Proof.PrepareFrame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelMla
public import proofs.«01_k».proof.Proof.Gen.KernelMla.Skeleton
public import proofs.«01_k».proof.Proof.Gen.KernelMla.Launch
public import proofs.«01_k».proof.Proof.Gen.KernelMla.Points
public import proofs.«01_k».proof.Proof.Gen.KernelMla.Frame
public import proofs.«01_k».proof.Proof.Gen.KernelMlaIdeal
public import proofs.«01_k».proof.Proof.Gen.KernelMlaIdeal.Skeleton
public import proofs.«01_k».proof.Proof.Gen.KernelMlaIdeal.Launch
public import proofs.«01_k».proof.Proof.Gen.KernelMlaIdeal.Points
public import proofs.«01_k».proof.Proof.Gen.KernelMlaIdeal.Frame
public import proofs.«01_k».proof.Proof.Gen.ReferenceMlaIdeal
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.KernelIdeal.Value
public import proofs.«01_k».proof.Proof.Gen.KernelMlaIdeal.Value
public import proofs.«01_k».proof.Proof.Gen.KernelMergeIdeal.Value
public import proofs.«01_k».proof.Proof.Gen.ReferenceIdeal.Run
public import proofs.«01_k».proof.Proof.Gen.ReferenceMlaIdeal.Run
public import proofs.«01_k».proof.Proof.Gen.ReferenceMergeIdeal.Run
public import proofs.«01_k».proof.Proof.Gen.ReferenceIdeal.Read
public import proofs.«01_k».proof.Proof.Gen.ReferenceMlaIdeal.Read
public import proofs.«01_k».proof.Proof.Gen.ReferenceMergeIdeal.Read
public import proofs.«01_k».proof.Proof.Gen.KernelOutproj
public import proofs.«01_k».proof.Proof.Gen.KernelOutproj.Skeleton
public import proofs.«01_k».proof.Proof.Gen.KernelOutproj.Launch
public import proofs.«01_k».proof.Proof.Gen.KernelOutproj.Points
public import proofs.«01_k».proof.Proof.Gen.KernelOutproj.Frame
public import proofs.«01_k».proof.Proof.Gen.KernelOutprojIdeal
public import proofs.«01_k».proof.Proof.Gen.KernelOutprojIdeal.Skeleton
public import proofs.«01_k».proof.Proof.Gen.KernelOutprojIdeal.Launch
public import proofs.«01_k».proof.Proof.Gen.KernelOutprojIdeal.Points
public import proofs.«01_k».proof.Proof.Gen.KernelOutprojIdeal.Frame
public import proofs.«01_k».proof.Proof.Gen.KernelOutprojIdeal.Value
public import proofs.«01_k».proof.Proof.Gen.ReferenceOutprojIdeal
public import proofs.«01_k».proof.Proof.Gen.ReferenceOutprojIdeal.Run
public import proofs.«01_k».proof.Proof.Gen.ReferenceOutprojIdeal.Read
public import proofs.«01_k».proof.Proof.Gen.KernelCombine
public import proofs.«01_k».proof.Proof.Gen.KernelCombine.Skeleton
public import proofs.«01_k».proof.Proof.Gen.KernelCombine.Launch
public import proofs.«01_k».proof.Proof.Gen.KernelCombine.Points
public import proofs.«01_k».proof.Proof.Gen.KernelCombine.Frame
public import proofs.«01_k».proof.Proof.Gen.KernelCombineIdeal
public import proofs.«01_k».proof.Proof.Gen.KernelCombineIdeal.Skeleton
public import proofs.«01_k».proof.Proof.Gen.KernelCombineIdeal.Launch
public import proofs.«01_k».proof.Proof.Gen.KernelCombineIdeal.Points
public import proofs.«01_k».proof.Proof.Gen.KernelCombineIdeal.Frame
public import proofs.«01_k».proof.Proof.Gen.KernelCombineIdeal.Value
public import proofs.«01_k».proof.Proof.Gen.ReferenceCombineIdeal
public import proofs.«01_k».proof.Proof.Gen.ReferenceCombineIdeal.Run
public import proofs.«01_k».proof.Proof.Gen.ReferenceCombineIdeal.Read
public import proofs.«01_k».proof.Proof.Gen.KernelPrepare
public import proofs.«01_k».proof.Proof.Gen.KernelPrepare.Skeleton
public import proofs.«01_k».proof.Proof.Gen.KernelPrepare.Launch
public import proofs.«01_k».proof.Proof.Gen.KernelPrepare.Points
public import proofs.«01_k».proof.Proof.Gen.KernelPrepareIdeal
public import proofs.«01_k».proof.Proof.Gen.KernelPrepareIdeal.Skeleton
public import proofs.«01_k».proof.Proof.Gen.KernelPrepareIdeal.Launch
public import proofs.«01_k».proof.Proof.Gen.KernelPrepareIdeal.Points
public import proofs.«01_k».proof.Proof.Gen.ReferencePrepareIdeal
public import proofs.«01_k».proof.Proof.Gen.ReferencePrepareIdeal.Run
public import proofs.«01_k».proof.Proof.Gen.ReferencePrepareIdeal.Read
public import Idealize.ShloMosaic.Adequacy
public import Idealize.ShloMosaic.Init

/-!
`Cert.Claim`: the frames of the six calls and of their references, what the idealizations preserve, and that each
call computes what its reference does.
-/

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelMla.Gen.facts, Cert.KernelMlaIdeal.Gen.facts, Cert.ReferenceMlaIdeal.Gen.facts,
  Cert.KernelMerge.Gen.facts, Cert.KernelMergeIdeal.Gen.facts, Cert.ReferenceMergeIdeal.Gen.facts,
  Cert.KernelOutproj.Gen.facts, Cert.KernelOutprojIdeal.Gen.facts, Cert.ReferenceOutprojIdeal.Gen.facts,
  Cert.KernelCombine.Gen.facts, Cert.KernelCombineIdeal.Gen.facts, Cert.ReferenceCombineIdeal.Gen.facts,
  Cert.KernelPrepare.Gen.facts, Cert.KernelPrepareIdeal.Gen.facts, Cert.ReferencePrepareIdeal.Gen.facts,
  Cert.Finite.facts_gqa, Cert.Finite.facts_mla,
  fun m ρ _ => Cert.Kernel.Gen.frame m ρ, fun m ρ _ => Cert.KernelIdeal.Gen.frame m ρ, fun m ρ _ => Cert.KernelIdeal.Gen.frame m ρ,
  AttentionClaims.frame_gqa_reference, fun m ρ _ => AttentionClaims.frame_gqa_reference m ρ trivial,
  fun m ρ _ => Cert.KernelMla.Gen.frame m ρ, fun m ρ _ => Cert.KernelMlaIdeal.Gen.frame m ρ, fun m ρ _ => Cert.KernelMlaIdeal.Gen.frame m ρ,
  AttentionClaims.frame_mla_reference, fun m ρ _ => AttentionClaims.frame_mla_reference m ρ trivial,
  fun m ρ _ => Cert.KernelMerge.Gen.frame m ρ, fun m ρ _ => Cert.KernelMergeIdeal.Gen.frame m ρ,
  MergeClaims.frame_reference,
  fun m ρ _ => Cert.KernelOutproj.Gen.frame m ρ, fun m ρ _ => Cert.KernelOutprojIdeal.Gen.frame m ρ,
  OutprojClaims.frame_reference,
  fun m ρ _ => Cert.KernelCombine.Gen.frame m ρ, fun m ρ _ => Cert.KernelCombineIdeal.Gen.frame m ρ,
  CombineClaims.frame_reference,
  PrepareClaims.frame_kernel, fun m ρ _ => Cert.KernelPrepareIdeal.Region.frame m ρ,
  PrepareClaims.frame_reference,
  AttentionClaims.preserves_gqa, AttentionClaims.algebraic_gqa, AttentionClaims.preserves_mla, AttentionClaims.algebraic_mla,
  MergeClaims.preserves, MergeClaims.algebraic, OutprojClaims.preserves, OutprojClaims.algebraic,
  CombineClaims.preserves, CombineClaims.algebraic, PrepareClaims.preserves, PrepareClaims.algebraic⟩

end Cert.Proof

end
